-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S3x1024x8192 : Shape := ⟨3, ![3, 1024, 8192]⟩
abbrev S1024x1024 : Shape := ⟨2, ![1024, 1024]⟩
abbrev S256x4096 : Shape := ⟨2, ![256, 4096]⟩
abbrev S1024x4096 : Shape := ⟨2, ![1024, 4096]⟩
abbrev S8x128 : Shape := ⟨2, ![8, 128]⟩
abbrev S4x8x128 : Shape := ⟨3, ![4, 8, 128]⟩
abbrev S3x2x2 : Shape := ⟨3, ![3, 2, 2]⟩
abbrev S3 : Shape := ⟨1, ![3]⟩
abbrev S8 : Shape := ⟨1, ![8]⟩
abbrev S_ : Shape := ⟨0, ![]⟩
abbrev S1 : Shape := ⟨1, ![1]⟩
abbrev S1x1x1 : Shape := ⟨3, ![1, 1, 1]⟩
abbrev S1x512x4096 : Shape := ⟨3, ![1, 512, 4096]⟩
abbrev S512x4096 : Shape := ⟨2, ![512, 4096]⟩
abbrev S1x256x4096 : Shape := ⟨3, ![1, 256, 4096]⟩
abbrev S1x8x128 : Shape := ⟨3, ![1, 8, 128]⟩
abbrev S3x8x128 : Shape := ⟨3, ![3, 8, 128]⟩
abbrev S1x3x8x128 : Shape := ⟨4, ![1, 3, 8, 128]⟩
abbrev S1x1x1x1 : Shape := ⟨4, ![1, 1, 1, 1]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .hbm, ⟨3, _⟩ => ⟨S4096x8192, .bf16⟩
  | .hbm, ⟨4, _⟩ => ⟨S3x1024x8192, .bf16⟩
  | .hbm, ⟨5, _⟩ => ⟨S3x1024x8192, .i8⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .f32⟩
  | .local _ .vmem, ⟨7, _⟩ => ⟨S256x4096, .i8⟩
  | .local _ .vmem, ⟨8, _⟩ => ⟨S256x4096, .i8⟩
  | .local _ .vmem, ⟨9, _⟩ => ⟨S1024x4096, .i8⟩
  | .local _ .vmem, ⟨10, _⟩ => ⟨S1024x4096, .i8⟩
  | .local _ .vmem, ⟨11, _⟩ => ⟨S8x128, .f32⟩
  | .local _ .vmem, ⟨12, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v31 : BitVec 32 := Scalar.muli v2 c1024_i32
  let c0_i32_20 : BitVec 32 := 0#32
  ![v31.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v31 : BitVec 32 := Scalar.muli v2 c1024_i32
  let c0_i32_36 : BitVec 32 := 0#32
  ![v31.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v31 : BitVec 32 := Scalar.muli v2 c1024_i32
  let c1024_i32_52 : BitVec 32 := 1024#32
  ![v31.toNat, 1024]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v31 : BitVec 32 := Scalar.muli v2 c1024_i32
  let c2048_i32_68 : BitVec 32 := 2048#32
  ![v31.toNat, 2048]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v31 : BitVec 32 := Scalar.muli v2 c1024_i32
  let c3072_i32_82 : BitVec 32 := 3072#32
  ![v31.toNat, 3072]
def k0_off6 (d0 : Dev nD) (c0_i32_87 : BitVec 32) (c0_i32_95 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_86 : BitVec 32 := 4#32
  let v114 : BitVec 32 := Scalar.addi v2 c4_i32_86
  let v115 : BitVec 32 := Scalar.subi v114 c0_i32_87
  let c4_i32_88 : BitVec 32 := 4#32
  let c0_i32_89 : BitVec 32 := 0#32
  let v116 : BitVec 1 := Scalar.cmpi .eq c4_i32_88 c0_i32_89
  let c1_i32_90 : BitVec 32 := 1#32
  let v117 : BitVec 32 := Scalar.select v116 c1_i32_90 c4_i32_88
  let v118 : BitVec 32 := Scalar.remsi v115 v117
  let c0_i32_92 : BitVec 32 := 0#32
  let v120 : BitVec 1 := Scalar.cmpi .slt v118 c0_i32_92
  let c0_i32_93 : BitVec 32 := 0#32
  let v121 : BitVec 1 := Scalar.cmpi .slt v117 c0_i32_93
  let v122 : BitVec 1 := Scalar.xori v120 v121
  let c0_i32_91 : BitVec 32 := 0#32
  let v119 : BitVec 1 := Scalar.cmpi .ne v118 c0_i32_91
  let v123 : BitVec 1 := Scalar.andi v122 v119
  let v124 : BitVec 32 := Scalar.addi v118 v117
  let v125 : BitVec 32 := Scalar.select v123 v124 v118
  let c1024_i32_94 : BitVec 32 := 1024#32
  let v126 : BitVec 32 := Scalar.muli v125 c1024_i32_94
  let v127 : BitVec 32 := Scalar.addi v126 c0_i32_95
  let c0_i32_107 : BitVec 32 := 0#32
  ![v127.toNat, 0]
def k0_dev3 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_103 : BitVec 32 := 1#32
  let v128 : BitVec 32 := Scalar.muli v25 c1_i32_103
  let v129 : BitVec 32 := Scalar.addi c0_i32_104 v128
  v129.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_124 : BitVec 32 := 1#32
  let v151 : BitVec 32 := Scalar.muli v25 c1_i32_124
  let v152 : BitVec 32 := Scalar.addi c0_i32_125 v151
  v152.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_129 : BitVec 32 := 1024#32
  let v160 : BitVec 32 := Scalar.muli v2 c1024_i32_129
  let c4096_i32_145 : BitVec 32 := 4096#32
  ![v160.toNat, 4096]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_129 : BitVec 32 := 1024#32
  let v160 : BitVec 32 := Scalar.muli v2 c1024_i32_129
  let c5120_i32_161 : BitVec 32 := 5120#32
  ![v160.toNat, 5120]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_129 : BitVec 32 := 1024#32
  let v160 : BitVec 32 := Scalar.muli v2 c1024_i32_129
  let c6144_i32_177 : BitVec 32 := 6144#32
  ![v160.toNat, 6144]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_129 : BitVec 32 := 1024#32
  let v160 : BitVec 32 := Scalar.muli v2 c1024_i32_129
  let c7168_i32_191 : BitVec 32 := 7168#32
  ![v160.toNat, 7168]
def k0_off11 (d0 : Dev nD) (c0_i32_194 : BitVec 32) (c0_i32_202 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v237 : BitVec 32 := Scalar.addi v2 c0_i32_194
  let c4_i32_195 : BitVec 32 := 4#32
  let c0_i32_196 : BitVec 32 := 0#32
  let v238 : BitVec 1 := Scalar.cmpi .eq c4_i32_195 c0_i32_196
  let c1_i32_197 : BitVec 32 := 1#32
  let v239 : BitVec 32 := Scalar.select v238 c1_i32_197 c4_i32_195
  let v240 : BitVec 32 := Scalar.remsi v237 v239
  let c0_i32_199 : BitVec 32 := 0#32
  let v242 : BitVec 1 := Scalar.cmpi .slt v240 c0_i32_199
  let c0_i32_200 : BitVec 32 := 0#32
  let v243 : BitVec 1 := Scalar.cmpi .slt v239 c0_i32_200
  let v244 : BitVec 1 := Scalar.xori v242 v243
  let c0_i32_198 : BitVec 32 := 0#32
  let v241 : BitVec 1 := Scalar.cmpi .ne v240 c0_i32_198
  let v245 : BitVec 1 := Scalar.andi v244 v241
  let v246 : BitVec 32 := Scalar.addi v240 v239
  let v247 : BitVec 32 := Scalar.select v245 v246 v240
  let c1024_i32_201 : BitVec 32 := 1024#32
  let v248 : BitVec 32 := Scalar.muli v247 c1024_i32_201
  let v249 : BitVec 32 := Scalar.addi v248 c0_i32_202
  let c4096_i32_214 : BitVec 32 := 4096#32
  ![v249.toNat, 4096]
def k0_dev5 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_210 : BitVec 32 := 1#32
  let v250 : BitVec 32 := Scalar.muli v14 c1_i32_210
  let v251 : BitVec 32 := Scalar.addi c0_i32_211 v250
  v251.toNat
def k0_dev6 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_231 : BitVec 32 := 1#32
  let v272 : BitVec 32 := Scalar.muli v14 c1_i32_231
  let v273 : BitVec 32 := Scalar.addi c0_i32_232 v272
  v273.toNat
def k0_off12 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c0_i32_245 : BitVec 32 := 0#32
  ![v292.toNat, 0]
def k0_off13 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c0_i32_265 : BitVec 32 := 0#32
  ![v292.toNat, 0]
def k0_off14 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c1024_i32_282 : BitVec 32 := 1024#32
  ![v292.toNat, 1024]
def k0_off15 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c2048_i32_299 : BitVec 32 := 2048#32
  ![v292.toNat, 2048]
def k0_off16 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c3072_i32_316 : BitVec 32 := 3072#32
  ![v292.toNat, 3072]
def k0_off17 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c4096_i32_333 : BitVec 32 := 4096#32
  ![v292.toNat, 4096]
def k0_off18 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c5120_i32_350 : BitVec 32 := 5120#32
  ![v292.toNat, 5120]
def k0_off19 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c6144_i32_367 : BitVec 32 := 6144#32
  ![v292.toNat, 6144]
def k0_off20 (d0 : Dev nD) (c3_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.addi v2 c3_i32_236
  let c4_i32_237 : BitVec 32 := 4#32
  let c0_i32_238 : BitVec 32 := 0#32
  let v282 : BitVec 1 := Scalar.cmpi .eq c4_i32_237 c0_i32_238
  let c1_i32_239 : BitVec 32 := 1#32
  let v283 : BitVec 32 := Scalar.select v282 c1_i32_239 c4_i32_237
  let v284 : BitVec 32 := Scalar.remsi v281 v283
  let c0_i32_241 : BitVec 32 := 0#32
  let v286 : BitVec 1 := Scalar.cmpi .slt v284 c0_i32_241
  let c0_i32_242 : BitVec 32 := 0#32
  let v287 : BitVec 1 := Scalar.cmpi .slt v283 c0_i32_242
  let v288 : BitVec 1 := Scalar.xori v286 v287
  let c0_i32_240 : BitVec 32 := 0#32
  let v285 : BitVec 1 := Scalar.cmpi .ne v284 c0_i32_240
  let v289 : BitVec 1 := Scalar.andi v288 v285
  let v290 : BitVec 32 := Scalar.addi v284 v283
  let v291 : BitVec 32 := Scalar.select v289 v290 v284
  let c1024_i32_243 : BitVec 32 := 1024#32
  let v292 : BitVec 32 := Scalar.muli v291 c1024_i32_243
  let c7168_i32_381 : BitVec 32 := 7168#32
  ![v292.toNat, 7168]
def k0_off21 (d0 : Dev nD) (c0_i32_556 : BitVec 32) (c0_i32_564 : BitVec 32) (c0_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_554 : BitVec 32 := 4#32
  let v642 : BitVec 32 := Scalar.addi v2 c4_i32_554
  let c1_i32_555 : BitVec 32 := 1#32
  let v643 : BitVec 32 := Scalar.subi v642 c1_i32_555
  let v644 : BitVec 32 := Scalar.subi v643 c0_i32_556
  let c4_i32_557 : BitVec 32 := 4#32
  let c0_i32_558 : BitVec 32 := 0#32
  let v645 : BitVec 1 := Scalar.cmpi .eq c4_i32_557 c0_i32_558
  let c1_i32_559 : BitVec 32 := 1#32
  let v646 : BitVec 32 := Scalar.select v645 c1_i32_559 c4_i32_557
  let v647 : BitVec 32 := Scalar.remsi v644 v646
  let c0_i32_561 : BitVec 32 := 0#32
  let v649 : BitVec 1 := Scalar.cmpi .slt v647 c0_i32_561
  let c0_i32_562 : BitVec 32 := 0#32
  let v650 : BitVec 1 := Scalar.cmpi .slt v646 c0_i32_562
  let v651 : BitVec 1 := Scalar.xori v649 v650
  let c0_i32_560 : BitVec 32 := 0#32
  let v648 : BitVec 1 := Scalar.cmpi .ne v647 c0_i32_560
  let v652 : BitVec 1 := Scalar.andi v651 v648
  let v653 : BitVec 32 := Scalar.addi v647 v646
  let v654 : BitVec 32 := Scalar.select v652 v653 v647
  let c1024_i32_563 : BitVec 32 := 1024#32
  let v655 : BitVec 32 := Scalar.muli v654 c1024_i32_563
  let v656 : BitVec 32 := Scalar.addi v655 c0_i32_564
  let v657 : BitVec 32 := Scalar.addi v656 c0_i32_565
  let c0_i32_567 : BitVec 32 := 0#32
  ![v657.toNat, 0]
def k0_dev7 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_629 : BitVec 32 := 1#32
  let v733 : BitVec 32 := Scalar.muli v25 c1_i32_629
  let v734 : BitVec 32 := Scalar.addi c0_i32_630 v733
  v734.toNat
def k0_off22 (d0 : Dev nD) (c0_i32_655 : BitVec 32) (c0_i32_664 : BitVec 32) (c0_i32_665 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v762 : BitVec 32 := Scalar.addi v2 c0_i32_655
  let c1_i32_656 : BitVec 32 := 1#32
  let v763 : BitVec 32 := Scalar.addi v762 c1_i32_656
  let c4_i32_657 : BitVec 32 := 4#32
  let c0_i32_658 : BitVec 32 := 0#32
  let v764 : BitVec 1 := Scalar.cmpi .eq c4_i32_657 c0_i32_658
  let c1_i32_659 : BitVec 32 := 1#32
  let v765 : BitVec 32 := Scalar.select v764 c1_i32_659 c4_i32_657
  let v766 : BitVec 32 := Scalar.remsi v763 v765
  let c0_i32_661 : BitVec 32 := 0#32
  let v768 : BitVec 1 := Scalar.cmpi .slt v766 c0_i32_661
  let c0_i32_662 : BitVec 32 := 0#32
  let v769 : BitVec 1 := Scalar.cmpi .slt v765 c0_i32_662
  let v770 : BitVec 1 := Scalar.xori v768 v769
  let c0_i32_660 : BitVec 32 := 0#32
  let v767 : BitVec 1 := Scalar.cmpi .ne v766 c0_i32_660
  let v771 : BitVec 1 := Scalar.andi v770 v767
  let v772 : BitVec 32 := Scalar.addi v766 v765
  let v773 : BitVec 32 := Scalar.select v771 v772 v766
  let c1024_i32_663 : BitVec 32 := 1024#32
  let v774 : BitVec 32 := Scalar.muli v773 c1024_i32_663
  let v775 : BitVec 32 := Scalar.addi v774 c0_i32_664
  let v776 : BitVec 32 := Scalar.addi v775 c0_i32_665
  let c4096_i32_667 : BitVec 32 := 4096#32
  ![v776.toNat, 4096]
def k0_dev8 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_729 : BitVec 32 := 1#32
  let v851 : BitVec 32 := Scalar.muli v14 c1_i32_729
  let v852 : BitVec 32 := Scalar.addi c0_i32_730 v851
  v852.toNat
def k0_dev9 (d0 : Dev nD) : Nat :=
  let c0_i32_980 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_979 : BitVec 32 := 1#32
  let v1142 : BitVec 32 := Scalar.muli v25 c1_i32_979
  let v1143 : BitVec 32 := Scalar.addi c0_i32_980 v1142
  v1143.toNat
def k0_dev10 (d0 : Dev nD) : Nat :=
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1079 : BitVec 32 := 1#32
  let v1260 : BitVec 32 := Scalar.muli v14 c1_i32_1079
  let v1261 : BitVec 32 := Scalar.addi c0_i32_1080 v1260
  v1261.toNat
def k0_dev11 (d0 : Dev nD) : Nat :=
  let c0_i32_1183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1182 : BitVec 32 := 1#32
  let v1381 : BitVec 32 := Scalar.muli v25 c1_i32_1182
  let v1382 : BitVec 32 := Scalar.addi c0_i32_1183 v1381
  v1382.toNat
def k0_dev12 (d0 : Dev nD) : Nat :=
  let c0_i32_1283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1282 : BitVec 32 := 1#32
  let v1499 : BitVec 32 := Scalar.muli v14 c1_i32_1282
  let v1500 : BitVec 32 := Scalar.addi c0_i32_1283 v1499
  v1500.toNat
def k0_dev13 (d0 : Dev nD) : Nat :=
  let c0_i32_1386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1385 : BitVec 32 := 1#32
  let v1620 : BitVec 32 := Scalar.muli v25 c1_i32_1385
  let v1621 : BitVec 32 := Scalar.addi c0_i32_1386 v1620
  v1621.toNat
def k0_dev14 (d0 : Dev nD) : Nat :=
  let c0_i32_1486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1485 : BitVec 32 := 1#32
  let v1738 : BitVec 32 := Scalar.muli v14 c1_i32_1485
  let v1739 : BitVec 32 := Scalar.addi c0_i32_1486 v1738
  v1739.toNat
def k0_dev15 (d0 : Dev nD) : Nat :=
  let c0_i32_1840 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1829 : BitVec 32 := 1#32
  let v2195 : BitVec 32 := Scalar.addi v2 c1_i32_1829
  let c4_i32_1830 : BitVec 32 := 4#32
  let c0_i32_1831 : BitVec 32 := 0#32
  let v2196 : BitVec 1 := Scalar.cmpi .eq c4_i32_1830 c0_i32_1831
  let c1_i32_1832 : BitVec 32 := 1#32
  let v2197 : BitVec 32 := Scalar.select v2196 c1_i32_1832 c4_i32_1830
  let v2198 : BitVec 32 := Scalar.remsi v2195 v2197
  let c0_i32_1834 : BitVec 32 := 0#32
  let v2200 : BitVec 1 := Scalar.cmpi .slt v2198 c0_i32_1834
  let c0_i32_1835 : BitVec 32 := 0#32
  let v2201 : BitVec 1 := Scalar.cmpi .slt v2197 c0_i32_1835
  let v2202 : BitVec 1 := Scalar.xori v2200 v2201
  let c0_i32_1833 : BitVec 32 := 0#32
  let v2199 : BitVec 1 := Scalar.cmpi .ne v2198 c0_i32_1833
  let v2203 : BitVec 1 := Scalar.andi v2202 v2199
  let v2204 : BitVec 32 := Scalar.addi v2198 v2197
  let v2205 : BitVec 32 := Scalar.select v2203 v2204 v2198
  let c1_i32_1839 : BitVec 32 := 1#32
  let v2206 : BitVec 32 := Scalar.muli v2205 c1_i32_1839
  let v2207 : BitVec 32 := Scalar.addi c0_i32_1840 v2206
  v2207.toNat
def k0_dev16 (d0 : Dev nD) : Nat :=
  let c0_i32_1854 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1843 : BitVec 32 := 2#32
  let v2214 : BitVec 32 := Scalar.addi v2 c2_i32_1843
  let c4_i32_1844 : BitVec 32 := 4#32
  let c0_i32_1845 : BitVec 32 := 0#32
  let v2215 : BitVec 1 := Scalar.cmpi .eq c4_i32_1844 c0_i32_1845
  let c1_i32_1846 : BitVec 32 := 1#32
  let v2216 : BitVec 32 := Scalar.select v2215 c1_i32_1846 c4_i32_1844
  let v2217 : BitVec 32 := Scalar.remsi v2214 v2216
  let c0_i32_1848 : BitVec 32 := 0#32
  let v2219 : BitVec 1 := Scalar.cmpi .slt v2217 c0_i32_1848
  let c0_i32_1849 : BitVec 32 := 0#32
  let v2220 : BitVec 1 := Scalar.cmpi .slt v2216 c0_i32_1849
  let v2221 : BitVec 1 := Scalar.xori v2219 v2220
  let c0_i32_1847 : BitVec 32 := 0#32
  let v2218 : BitVec 1 := Scalar.cmpi .ne v2217 c0_i32_1847
  let v2222 : BitVec 1 := Scalar.andi v2221 v2218
  let v2223 : BitVec 32 := Scalar.addi v2217 v2216
  let v2224 : BitVec 32 := Scalar.select v2222 v2223 v2217
  let c1_i32_1853 : BitVec 32 := 1#32
  let v2225 : BitVec 32 := Scalar.muli v2224 c1_i32_1853
  let v2226 : BitVec 32 := Scalar.addi c0_i32_1854 v2225
  v2226.toNat
def k0_dev17 (d0 : Dev nD) : Nat :=
  let c0_i32_1868 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1857 : BitVec 32 := 3#32
  let v2233 : BitVec 32 := Scalar.addi v2 c3_i32_1857
  let c4_i32_1858 : BitVec 32 := 4#32
  let c0_i32_1859 : BitVec 32 := 0#32
  let v2234 : BitVec 1 := Scalar.cmpi .eq c4_i32_1858 c0_i32_1859
  let c1_i32_1860 : BitVec 32 := 1#32
  let v2235 : BitVec 32 := Scalar.select v2234 c1_i32_1860 c4_i32_1858
  let v2236 : BitVec 32 := Scalar.remsi v2233 v2235
  let c0_i32_1862 : BitVec 32 := 0#32
  let v2238 : BitVec 1 := Scalar.cmpi .slt v2236 c0_i32_1862
  let c0_i32_1863 : BitVec 32 := 0#32
  let v2239 : BitVec 1 := Scalar.cmpi .slt v2235 c0_i32_1863
  let v2240 : BitVec 1 := Scalar.xori v2238 v2239
  let c0_i32_1861 : BitVec 32 := 0#32
  let v2237 : BitVec 1 := Scalar.cmpi .ne v2236 c0_i32_1861
  let v2241 : BitVec 1 := Scalar.andi v2240 v2237
  let v2242 : BitVec 32 := Scalar.addi v2236 v2235
  let v2243 : BitVec 32 := Scalar.select v2241 v2242 v2236
  let c1_i32_1867 : BitVec 32 := 1#32
  let v2244 : BitVec 32 := Scalar.muli v2243 c1_i32_1867
  let v2245 : BitVec 32 := Scalar.addi c0_i32_1868 v2244
  v2245.toNat
def k0_off23 (d0 : Dev nD) (c0_i32_1913 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1897 : BitVec 32 := 1#32
  let v2278 : BitVec 32 := Scalar.addi v2 c1_i32_1897
  let c4_i32_1898 : BitVec 32 := 4#32
  let c0_i32_1899 : BitVec 32 := 0#32
  let v2279 : BitVec 1 := Scalar.cmpi .eq c4_i32_1898 c0_i32_1899
  let c1_i32_1900 : BitVec 32 := 1#32
  let v2280 : BitVec 32 := Scalar.select v2279 c1_i32_1900 c4_i32_1898
  let v2281 : BitVec 32 := Scalar.remsi v2278 v2280
  let c0_i32_1902 : BitVec 32 := 0#32
  let v2283 : BitVec 1 := Scalar.cmpi .slt v2281 c0_i32_1902
  let c0_i32_1903 : BitVec 32 := 0#32
  let v2284 : BitVec 1 := Scalar.cmpi .slt v2280 c0_i32_1903
  let v2285 : BitVec 1 := Scalar.xori v2283 v2284
  let c0_i32_1901 : BitVec 32 := 0#32
  let v2282 : BitVec 1 := Scalar.cmpi .ne v2281 c0_i32_1901
  let v2286 : BitVec 1 := Scalar.andi v2285 v2282
  let v2287 : BitVec 32 := Scalar.addi v2281 v2280
  let v2288 : BitVec 32 := Scalar.select v2286 v2287 v2281
  let c1024_i32_1912 : BitVec 32 := 1024#32
  let v2301 : BitVec 32 := Scalar.muli v2288 c1024_i32_1912
  let v2302 : BitVec 32 := Scalar.addi v2301 c0_i32_1913
  let c0_i32_1915 : BitVec 32 := 0#32
  ![v2302.toNat, 0]
def k0_dev18 (d0 : Dev nD) : Nat :=
  let c0_i32_1962 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1961 : BitVec 32 := 1#32
  let v2374 : BitVec 32 := Scalar.muli v25 c1_i32_1961
  let v2375 : BitVec 32 := Scalar.addi c0_i32_1962 v2374
  v2375.toNat
def k0_dev19 (d0 : Dev nD) : Nat :=
  let c0_i32_2009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2008 : BitVec 32 := 1#32
  let v2446 : BitVec 32 := Scalar.muli v25 c1_i32_2008
  let v2447 : BitVec 32 := Scalar.addi c0_i32_2009 v2446
  v2447.toNat
def k0_off24 (d0 : Dev nD) (c0_i32_2015 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1904 : BitVec 32 := 4#32
  let v2289 : BitVec 32 := Scalar.addi v2 c4_i32_1904
  let c1_i32_1905 : BitVec 32 := 1#32
  let v2290 : BitVec 32 := Scalar.subi v2289 c1_i32_1905
  let c4_i32_1906 : BitVec 32 := 4#32
  let c0_i32_1907 : BitVec 32 := 0#32
  let v2291 : BitVec 1 := Scalar.cmpi .eq c4_i32_1906 c0_i32_1907
  let c1_i32_1908 : BitVec 32 := 1#32
  let v2292 : BitVec 32 := Scalar.select v2291 c1_i32_1908 c4_i32_1906
  let v2293 : BitVec 32 := Scalar.remsi v2290 v2292
  let c0_i32_1910 : BitVec 32 := 0#32
  let v2295 : BitVec 1 := Scalar.cmpi .slt v2293 c0_i32_1910
  let c0_i32_1911 : BitVec 32 := 0#32
  let v2296 : BitVec 1 := Scalar.cmpi .slt v2292 c0_i32_1911
  let v2297 : BitVec 1 := Scalar.xori v2295 v2296
  let c0_i32_1909 : BitVec 32 := 0#32
  let v2294 : BitVec 1 := Scalar.cmpi .ne v2293 c0_i32_1909
  let v2298 : BitVec 1 := Scalar.andi v2297 v2294
  let v2299 : BitVec 32 := Scalar.addi v2293 v2292
  let v2300 : BitVec 32 := Scalar.select v2298 v2299 v2293
  let c1024_i32_2014 : BitVec 32 := 1024#32
  let v2455 : BitVec 32 := Scalar.muli v2300 c1024_i32_2014
  let v2456 : BitVec 32 := Scalar.addi v2455 c0_i32_2015
  let c4096_i32_2017 : BitVec 32 := 4096#32
  ![v2456.toNat, 4096]
def k0_dev20 (d0 : Dev nD) : Nat :=
  let c0_i32_2066 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2065 : BitVec 32 := 1#32
  let v2528 : BitVec 32 := Scalar.muli v14 c1_i32_2065
  let v2529 : BitVec 32 := Scalar.addi c0_i32_2066 v2528
  v2529.toNat
def k0_dev21 (d0 : Dev nD) : Nat :=
  let c0_i32_2115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2114 : BitVec 32 := 1#32
  let v2600 : BitVec 32 := Scalar.muli v14 c1_i32_2114
  let v2601 : BitVec 32 := Scalar.addi c0_i32_2115 v2600
  v2601.toNat
def k0_dev22 (d0 : Dev nD) : Nat :=
  let c0_i32_2142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2141 : BitVec 32 := 1#32
  let v2616 : BitVec 32 := Scalar.muli v25 c1_i32_2141
  let v2617 : BitVec 32 := Scalar.addi c0_i32_2142 v2616
  v2617.toNat
def k0_off25 (d0 : Dev nD) (c0_i32_2148 : BitVec 32) (c0_i32_2156 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2147 : BitVec 32 := 4#32
  let v2626 : BitVec 32 := Scalar.addi v2 c4_i32_2147
  let v2627 : BitVec 32 := Scalar.subi v2626 c0_i32_2148
  let c4_i32_2149 : BitVec 32 := 4#32
  let c0_i32_2150 : BitVec 32 := 0#32
  let v2628 : BitVec 1 := Scalar.cmpi .eq c4_i32_2149 c0_i32_2150
  let c1_i32_2151 : BitVec 32 := 1#32
  let v2629 : BitVec 32 := Scalar.select v2628 c1_i32_2151 c4_i32_2149
  let v2630 : BitVec 32 := Scalar.remsi v2627 v2629
  let c0_i32_2153 : BitVec 32 := 0#32
  let v2632 : BitVec 1 := Scalar.cmpi .slt v2630 c0_i32_2153
  let c0_i32_2154 : BitVec 32 := 0#32
  let v2633 : BitVec 1 := Scalar.cmpi .slt v2629 c0_i32_2154
  let v2634 : BitVec 1 := Scalar.xori v2632 v2633
  let c0_i32_2152 : BitVec 32 := 0#32
  let v2631 : BitVec 1 := Scalar.cmpi .ne v2630 c0_i32_2152
  let v2635 : BitVec 1 := Scalar.andi v2634 v2631
  let v2636 : BitVec 32 := Scalar.addi v2630 v2629
  let v2637 : BitVec 32 := Scalar.select v2635 v2636 v2630
  let c1024_i32_2155 : BitVec 32 := 1024#32
  let v2638 : BitVec 32 := Scalar.muli v2637 c1024_i32_2155
  let v2639 : BitVec 32 := Scalar.addi v2638 c0_i32_2156
  let c0_i32_2178 : BitVec 32 := 0#32
  ![v2639.toNat, 0]
def k0_off26 (d0 : Dev nD) (c0_i32_2148 : BitVec 32) (c0_i32_2156 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2147 : BitVec 32 := 4#32
  let v2626 : BitVec 32 := Scalar.addi v2 c4_i32_2147
  let v2627 : BitVec 32 := Scalar.subi v2626 c0_i32_2148
  let c4_i32_2149 : BitVec 32 := 4#32
  let c0_i32_2150 : BitVec 32 := 0#32
  let v2628 : BitVec 1 := Scalar.cmpi .eq c4_i32_2149 c0_i32_2150
  let c1_i32_2151 : BitVec 32 := 1#32
  let v2629 : BitVec 32 := Scalar.select v2628 c1_i32_2151 c4_i32_2149
  let v2630 : BitVec 32 := Scalar.remsi v2627 v2629
  let c0_i32_2153 : BitVec 32 := 0#32
  let v2632 : BitVec 1 := Scalar.cmpi .slt v2630 c0_i32_2153
  let c0_i32_2154 : BitVec 32 := 0#32
  let v2633 : BitVec 1 := Scalar.cmpi .slt v2629 c0_i32_2154
  let v2634 : BitVec 1 := Scalar.xori v2632 v2633
  let c0_i32_2152 : BitVec 32 := 0#32
  let v2631 : BitVec 1 := Scalar.cmpi .ne v2630 c0_i32_2152
  let v2635 : BitVec 1 := Scalar.andi v2634 v2631
  let v2636 : BitVec 32 := Scalar.addi v2630 v2629
  let v2637 : BitVec 32 := Scalar.select v2635 v2636 v2630
  let c1024_i32_2155 : BitVec 32 := 1024#32
  let v2638 : BitVec 32 := Scalar.muli v2637 c1024_i32_2155
  let v2639 : BitVec 32 := Scalar.addi v2638 c0_i32_2156
  let c256_i32_2185 : BitVec 32 := 256#32
  let v2676 : BitVec 32 := Scalar.addi v2639 c256_i32_2185
  let c0_i32_2187 : BitVec 32 := 0#32
  ![v2676.toNat, 0]
def k0_dev23 (d0 : Dev nD) : Nat :=
  let c0_i32_2212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2211 : BitVec 32 := 1#32
  let v2690 : BitVec 32 := Scalar.muli v14 c1_i32_2211
  let v2691 : BitVec 32 := Scalar.addi c0_i32_2212 v2690
  v2691.toNat
def k0_off27 (d0 : Dev nD) (c0_i32_2217 : BitVec 32) (c0_i32_2225 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2700 : BitVec 32 := Scalar.addi v2 c0_i32_2217
  let c4_i32_2218 : BitVec 32 := 4#32
  let c0_i32_2219 : BitVec 32 := 0#32
  let v2701 : BitVec 1 := Scalar.cmpi .eq c4_i32_2218 c0_i32_2219
  let c1_i32_2220 : BitVec 32 := 1#32
  let v2702 : BitVec 32 := Scalar.select v2701 c1_i32_2220 c4_i32_2218
  let v2703 : BitVec 32 := Scalar.remsi v2700 v2702
  let c0_i32_2222 : BitVec 32 := 0#32
  let v2705 : BitVec 1 := Scalar.cmpi .slt v2703 c0_i32_2222
  let c0_i32_2223 : BitVec 32 := 0#32
  let v2706 : BitVec 1 := Scalar.cmpi .slt v2702 c0_i32_2223
  let v2707 : BitVec 1 := Scalar.xori v2705 v2706
  let c0_i32_2221 : BitVec 32 := 0#32
  let v2704 : BitVec 1 := Scalar.cmpi .ne v2703 c0_i32_2221
  let v2708 : BitVec 1 := Scalar.andi v2707 v2704
  let v2709 : BitVec 32 := Scalar.addi v2703 v2702
  let v2710 : BitVec 32 := Scalar.select v2708 v2709 v2703
  let c1024_i32_2224 : BitVec 32 := 1024#32
  let v2711 : BitVec 32 := Scalar.muli v2710 c1024_i32_2224
  let v2712 : BitVec 32 := Scalar.addi v2711 c0_i32_2225
  let c4096_i32_2247 : BitVec 32 := 4096#32
  ![v2712.toNat, 4096]
def k0_off28 (d0 : Dev nD) (c0_i32_2217 : BitVec 32) (c0_i32_2225 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2700 : BitVec 32 := Scalar.addi v2 c0_i32_2217
  let c4_i32_2218 : BitVec 32 := 4#32
  let c0_i32_2219 : BitVec 32 := 0#32
  let v2701 : BitVec 1 := Scalar.cmpi .eq c4_i32_2218 c0_i32_2219
  let c1_i32_2220 : BitVec 32 := 1#32
  let v2702 : BitVec 32 := Scalar.select v2701 c1_i32_2220 c4_i32_2218
  let v2703 : BitVec 32 := Scalar.remsi v2700 v2702
  let c0_i32_2222 : BitVec 32 := 0#32
  let v2705 : BitVec 1 := Scalar.cmpi .slt v2703 c0_i32_2222
  let c0_i32_2223 : BitVec 32 := 0#32
  let v2706 : BitVec 1 := Scalar.cmpi .slt v2702 c0_i32_2223
  let v2707 : BitVec 1 := Scalar.xori v2705 v2706
  let c0_i32_2221 : BitVec 32 := 0#32
  let v2704 : BitVec 1 := Scalar.cmpi .ne v2703 c0_i32_2221
  let v2708 : BitVec 1 := Scalar.andi v2707 v2704
  let v2709 : BitVec 32 := Scalar.addi v2703 v2702
  let v2710 : BitVec 32 := Scalar.select v2708 v2709 v2703
  let c1024_i32_2224 : BitVec 32 := 1024#32
  let v2711 : BitVec 32 := Scalar.muli v2710 c1024_i32_2224
  let v2712 : BitVec 32 := Scalar.addi v2711 c0_i32_2225
  let c256_i32_2254 : BitVec 32 := 256#32
  let v2749 : BitVec 32 := Scalar.addi v2712 c256_i32_2254
  let c4096_i32_2256 : BitVec 32 := 4096#32
  ![v2749.toNat, 4096]
def k0_dev24 (d0 : Dev nD) : Nat :=
  let c0_i32_2281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2280 : BitVec 32 := 1#32
  let v2763 : BitVec 32 := Scalar.muli v25 c1_i32_2280
  let v2764 : BitVec 32 := Scalar.addi c0_i32_2281 v2763
  v2764.toNat
def k0_dev25 (d0 : Dev nD) : Nat :=
  let c0_i32_2351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2350 : BitVec 32 := 1#32
  let v2837 : BitVec 32 := Scalar.muli v14 c1_i32_2350
  let v2838 : BitVec 32 := Scalar.addi c0_i32_2351 v2837
  v2838.toNat
def k0_dev26 (d0 : Dev nD) : Nat :=
  let c0_i32_2421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2420 : BitVec 32 := 1#32
  let v2911 : BitVec 32 := Scalar.muli v25 c1_i32_2420
  let v2912 : BitVec 32 := Scalar.addi c0_i32_2421 v2911
  v2912.toNat
def k0_dev27 (d0 : Dev nD) : Nat :=
  let c0_i32_2492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2491 : BitVec 32 := 1#32
  let v2986 : BitVec 32 := Scalar.muli v14 c1_i32_2491
  let v2987 : BitVec 32 := Scalar.addi c0_i32_2492 v2986
  v2987.toNat
def k0_dev28 (d0 : Dev nD) : Nat :=
  let c0_i32_2562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2561 : BitVec 32 := 1#32
  let v3060 : BitVec 32 := Scalar.muli v25 c1_i32_2561
  let v3061 : BitVec 32 := Scalar.addi c0_i32_2562 v3060
  v3061.toNat
def k0_dev29 (d0 : Dev nD) : Nat :=
  let c0_i32_2633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2632 : BitVec 32 := 1#32
  let v3135 : BitVec 32 := Scalar.muli v14 c1_i32_2632
  let v3136 : BitVec 32 := Scalar.addi c0_i32_2633 v3135
  v3136.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Views.lean ====
/-
  The pieces of the buffers that the kernel's transfers name, and the offsets that name them, in closed form.

  Every transfer moves a rectangular piece of a buffer whose first corner is an expression of the device's
  number.  Here each such piece is one definition, with the offset's closed form as an argument: chunk `j`
  (1024 rows), half `d` of the columns (4096), sub-chunk `k` (512 rows), tile `t` (256 rows).
-/
module

public import proofs.«01_k».proof.Proof.Gen.KernelIdeal
public import Idealize.ShloMosaic.Lib.Tactic

@[expose] public section

set_option synthInstance.maxSize 4096

noncomputable section

namespace Cert.KernelIdeal.Gen

open Idealize.ShloMosaic Idealize.SL.Sem

/-- The chunk `r` places to the right of device `c`'s own. -/
def ch (c : Dev nD) (r : ℕ) : Fin 4 := ⟨(c.val + r) % 4, Nat.mod_lt _ (by decide)⟩

/-! ### Offsets in closed form -/

/-- The offsets of the own chunk's eight blocks, one name per block. -/
def oOwn (c : Dev nD) : ℕ → Fin 2 → ℕ
  | 0 => k0_off2 c | 1 => k0_off3 c | 2 => k0_off4 c | 3 => k0_off5 c
  | 4 => k0_off7 c | 5 => k0_off8 c | 6 => k0_off9 c | _ => k0_off10 c

/-- The offsets of the eight blocks of the chunk `w` places away, one name per block. -/
def oPass (c : Dev nD) (w : BitVec 32) : ℕ → Fin 2 → ℕ
  | 0 => k0_off13 c w | 1 => k0_off14 c w | 2 => k0_off15 c w | 3 => k0_off16 c w
  | 4 => k0_off17 c w | 5 => k0_off18 c w | 6 => k0_off19 c w | _ => k0_off20 c w

/-- The own chunk's blocks lie in the device's own rows. -/
theorem oOwn_eq (c : Dev nD) (b : Fin 8) : oOwn c b.val = ![1024 * (ch c 0).val, 1024 * b.val] := by
  revert c b; decide +kernel

/-- The blocks of the chunk `1 + r` places to the right. -/
theorem oPass_eq (c : Dev nD) (r : Fin 3) (b : Fin 8) :
    oPass c (BitVec.ofNat 32 (1 + r.val)) b.val = ![1024 * (ch c (1 + r.val)).val, 1024 * b.val] := by
  revert c r b; decide +kernel

/-- The rows of `x` that make the own chunk. -/
theorem off1_eq (c : Dev nD) : k0_off1 c = ![1024 * (ch c 0).val, 0] := by revert c; decide +kernel

/-- The rows of `x` that make the chunk `1 + r` places to the right. -/
theorem off12_eq (c : Dev nD) (r : Fin 3) : k0_off12 c (BitVec.ofNat 32 (1 + r.val)) = ![1024 * (ch c (1 + r.val)).val, 0] := by
  revert c r; decide +kernel

/-- The piece of the low half sent at step `s`. -/
theorem off6_eq (c : Dev nD) (s : Fin 3) (k : Fin 2) :
    k0_off6 c (BitVec.ofNat 32 s.val) (BitVec.ofNat 32 (512 * k.val)) = ![1024 * (ch c (4 - s.val)).val + 512 * k.val, 4096 * (0 : Fin 2).val] := by
  revert c s k; decide +kernel

/-- The piece of the high half sent at step `s`. -/
theorem off11_eq (c : Dev nD) (s : Fin 3) (k : Fin 2) :
    k0_off11 c (BitVec.ofNat 32 s.val) (BitVec.ofNat 32 (512 * k.val)) = ![1024 * (ch c s.val).val + 512 * k.val, 4096 * (1 : Fin 2).val] := by
  revert c s k; decide +kernel

/-- The tile of the low half that the piece received at step `s` is added to. -/
theorem off21_eq (c : Dev nD) (s : Fin 3) (k t : Fin 2) :
    k0_off21 c (BitVec.ofNat 32 s.val) (BitVec.ofNat 32 (512 * k.val)) (BitVec.ofNat 32 (256 * t.val))
      = ![1024 * (ch c (3 - s.val)).val + 512 * k.val + 256 * t.val, 4096 * (0 : Fin 2).val] := by
  revert c s k t; decide +kernel

/-- The tile of the high half that the piece received at step `s` is added to. -/
theorem off22_eq (c : Dev nD) (s : Fin 3) (k t : Fin 2) :
    k0_off22 c (BitVec.ofNat 32 s.val) (BitVec.ofNat 32 (512 * k.val)) (BitVec.ofNat 32 (256 * t.val))
      = ![1024 * (ch c (1 + s.val)).val + 512 * k.val + 256 * t.val, 4096 * (1 : Fin 2).val] := by
  revert c s k t; decide +kernel

/-- The tile of the low half that is quantised. -/
theorem off23_eq (c : Dev nD) (k t : Fin 2) :
    k0_off23 c (BitVec.ofNat 32 (256 * (2 * k.val + t.val))) = ![1024 * (ch c 1).val + 512 * k.val + 256 * t.val, 4096 * (0 : Fin 2).val] := by
  revert c k t; decide +kernel

/-- The tile of the high half that is quantised. -/
theorem off24_eq (c : Dev nD) (k t : Fin 2) :
    k0_off24 c (BitVec.ofNat 32 (256 * (2 * k.val + t.val))) = ![1024 * (ch c 3).val + 512 * k.val + 256 * t.val, 4096 * (1 : Fin 2).val] := by
  revert c k t; decide +kernel

/-- The first tile of the low half written from the piece gathered at step `h`. -/
theorem off25_eq (c : Dev nD) (h : Fin 3) (k : Fin 2) :
    k0_off25 c (BitVec.ofNat 32 h.val) (BitVec.ofNat 32 (512 * k.val))
      = ![1024 * (ch c (4 - h.val)).val + 512 * k.val + 256 * (0 : Fin 2).val, 4096 * (0 : Fin 2).val] := by
  revert c h k; decide +kernel

/-- The second tile of the low half written from the piece gathered at step `h`. -/
theorem off26_eq (c : Dev nD) (h : Fin 3) (k : Fin 2) :
    k0_off26 c (BitVec.ofNat 32 h.val) (BitVec.ofNat 32 (512 * k.val))
      = ![1024 * (ch c (4 - h.val)).val + 512 * k.val + 256 * (1 : Fin 2).val, 4096 * (0 : Fin 2).val] := by
  revert c h k; decide +kernel

/-- The first tile of the high half written from the piece gathered at step `h`. -/
theorem off27_eq (c : Dev nD) (h : Fin 3) (k : Fin 2) :
    k0_off27 c (BitVec.ofNat 32 h.val) (BitVec.ofNat 32 (512 * k.val))
      = ![1024 * (ch c h.val).val + 512 * k.val + 256 * (0 : Fin 2).val, 4096 * (1 : Fin 2).val] := by
  revert c h k; decide +kernel

/-- The second tile of the high half written from the piece gathered at step `h`. -/
theorem off28_eq (c : Dev nD) (h : Fin 3) (k : Fin 2) :
    k0_off28 c (BitVec.ofNat 32 h.val) (BitVec.ofNat 32 (512 * k.val))
      = ![1024 * (ch c h.val).val + 512 * k.val + 256 * (1 : Fin 2).val, 4096 * (1 : Fin 2).val] := by
  revert c h k; decide +kernel

/-! ### Pieces of the buffers -/

/-- A chunk of `x`: 1024 rows. -/
theorem xInb (o : Fin 2 → ℕ) (j : Fin 4) (ho : o = ![1024 * j.val, 0]) : ∀ a, o a + S1024x1024.size a ≤ S4096x1024.size a := by
  subst ho; revert j; decide +kernel

/-- A chunk of `x`. -/
abbrev xV (o : Fin 2 → ℕ) (j : Fin 4) (ho : o = ![1024 * j.val, 0]) : Memref sig .tc .hbm S1024x1024 .f32 :=
  (Memref.whole main_arg0).slice (Rect.unit (s := S4096x1024) o S1024x1024.size (xInb o j ho)) (fun _ => rfl)

/-- Block `b` of `w` lies in it. -/
theorem wInb (b : Fin 8) : ∀ a, (![0, 1024 * b.val] : Fin 2 → ℕ) a + S1024x1024.size a ≤ S1024x8192.size a := by
  revert b; decide +kernel

/-- Block `b` of `w`: 1024 columns. -/
abbrev wV (b : Fin 8) : Memref sig .tc .hbm S1024x1024 .f32 :=
  (Memref.whole main_arg1).slice (Rect.unit (s := S1024x8192) ![0, 1024 * b.val] S1024x1024.size (wInb b)) (fun _ => rfl)

/-- A block of the accumulator lies in it. -/
theorem gInb (o : Fin 2 → ℕ) (j : Fin 4) (b : Fin 8) (ho : o = ![1024 * j.val, 1024 * b.val]) :
    ∀ a, o a + S1024x1024.size a ≤ S4096x8192.size a := by
  subst ho; revert j b; decide +kernel

/-- A block of the accumulator: 1024 rows and 1024 columns. -/
abbrev gV (o : Fin 2 → ℕ) (j : Fin 4) (b : Fin 8) (ho : o = ![1024 * j.val, 1024 * b.val]) : Memref sig .tc .hbm S1024x1024 .bf16 :=
  (Memref.whole main_v1_1).slice (Rect.unit (s := S4096x8192) o S1024x1024.size (gInb o j b ho)) (fun _ => rfl)

/-- A block of the accumulator is whole words. -/
theorem gWords (o : Fin 2 → ℕ) (j : Fin 4) (b : Fin 8) (ho : o = ![1024 * j.val, 1024 * b.val]) : (gV o j b ho).view.WordExact :=
  (Memref.isWhole_whole main_v1_1).wordExact_slice rfl _ (by subst ho; revert j b; decide +kernel)

/-- A sub-chunk of the accumulator lies in it. -/
theorem cInb (o : Fin 2 → ℕ) (j : Fin 4) (k d : Fin 2) (ho : o = ![1024 * j.val + 512 * k.val, 4096 * d.val]) :
    ∀ a, o a + S512x4096.size a ≤ S4096x8192.size a := by
  subst ho; revert j k d; decide +kernel

/-- A sub-chunk of the accumulator: 512 rows of one half of the columns. -/
abbrev cV (o : Fin 2 → ℕ) (j : Fin 4) (k d : Fin 2) (ho : o = ![1024 * j.val + 512 * k.val, 4096 * d.val]) : Memref sig .tc .hbm S512x4096 .bf16 :=
  (Memref.whole main_v1_1).slice (Rect.unit (s := S4096x8192) o S512x4096.size (cInb o j k d ho)) (fun _ => rfl)

/-- A sub-chunk of the accumulator is whole words. -/
theorem cWords (o : Fin 2 → ℕ) (j : Fin 4) (k d : Fin 2) (ho : o = ![1024 * j.val + 512 * k.val, 4096 * d.val]) : (cV o j k d ho).view.WordExact :=
  (Memref.isWhole_whole main_v1_1).wordExact_slice rfl _ (by subst ho; revert j k d; decide +kernel)

/-- A tile of the accumulator lies in it. -/
theorem tInb (o : Fin 2 → ℕ) (j : Fin 4) (k t d : Fin 2) (ho : o = ![1024 * j.val + 512 * k.val + 256 * t.val, 4096 * d.val]) :
    ∀ a, o a + S256x4096.size a ≤ S4096x8192.size a := by
  subst ho; revert j k t d; decide +kernel

/-- A tile of the accumulator: 256 rows of one half of the columns. -/
abbrev tV (o : Fin 2 → ℕ) (j : Fin 4) (k t d : Fin 2) (ho : o = ![1024 * j.val + 512 * k.val + 256 * t.val, 4096 * d.val]) :
    Memref sig .tc .hbm S256x4096 .bf16 :=
  (Memref.whole main_v1_1).slice (Rect.unit (s := S4096x8192) o S256x4096.size (tInb o j k t d ho)) (fun _ => rfl)

/-- A tile of the accumulator is whole words. -/
theorem tWords (o : Fin 2 → ℕ) (j : Fin 4) (k t d : Fin 2) (ho : o = ![1024 * j.val + 512 * k.val + 256 * t.val, 4096 * d.val]) :
    (tV o j k t d ho).view.WordExact :=
  (Memref.isWhole_whole main_v1_1).wordExact_slice rfl _ (by subst ho; revert j k t d; decide +kernel)

/-- A tile of the result. -/
abbrev oV (o : Fin 2 → ℕ) (j : Fin 4) (k t d : Fin 2) (ho : o = ![1024 * j.val + 512 * k.val + 256 * t.val, 4096 * d.val]) :
    Memref sig .tc .hbm S256x4096 .f32 :=
  (Memref.whole main_v1_0).slice (Rect.unit (s := S4096x8192) o S256x4096.size (tInb o j k t d ho)) (fun _ => rfl)

/-- A sub-chunk of one of the three slots of a receive buffer lies in it. -/
theorem rInb (s : Fin 3) (k d : Fin 2) : ∀ a, (![s.val, 512 * k.val, 4096 * d.val] : Fin 3 → ℕ) a + S1x512x4096.size a ≤ S3x1024x8192.size a := by
  revert s k d; decide +kernel

/-- A tile of one of the three slots of a receive buffer lies in it. -/
theorem rtInb (s : Fin 3) (k t d : Fin 2) :
    ∀ a, (![s.val, 512 * k.val + 256 * t.val, 4096 * d.val] : Fin 3 → ℕ) a + S1x256x4096.size a ≤ S3x1024x8192.size a := by
  revert s k t d; decide +kernel

/-- A sub-chunk of slot `s` of the reduce-scatter's receive buffer. -/
abbrev rV (s : Fin 3) (k d : Fin 2) : Memref sig .tc .hbm S512x4096 .bf16 :=
  ((Memref.whole main_v1_2).slice (Rect.unit (s := S3x1024x8192) ![s.val, 512 * k.val, 4096 * d.val] S1x512x4096.size (rInb s k d)) (fun _ => rfl)).squeeze
    S512x4096 squeezes_S1x512x4096_S512x4096

/-- A sub-chunk of the receive buffer is whole words. -/
theorem rWords (s : Fin 3) (k d : Fin 2) : (rV s k d).view.WordExact :=
  ((Memref.isWhole_whole main_v1_2).wordExact_slice rfl (Rect.unit (s := S3x1024x8192) ![s.val, 512 * k.val, 4096 * d.val] S1x512x4096.size (rInb s k d)) (by revert s k d; decide +kernel)).reshape _ _

/-- A tile of slot `s` of the reduce-scatter's receive buffer. -/
abbrev rtV (s : Fin 3) (k t d : Fin 2) : Memref sig .tc .hbm S256x4096 .bf16 :=
  ((Memref.whole main_v1_2).slice (Rect.unit (s := S3x1024x8192) ![s.val, 512 * k.val + 256 * t.val, 4096 * d.val] S1x256x4096.size (rtInb s k t d)) (fun _ => rfl)).squeeze
    S256x4096 squeezes_S1x256x4096_S256x4096

/-- A tile of the receive buffer is whole words. -/
theorem rtWords (s : Fin 3) (k t d : Fin 2) : (rtV s k t d).view.WordExact :=
  ((Memref.isWhole_whole main_v1_2).wordExact_slice rfl (Rect.unit (s := S3x1024x8192) ![s.val, 512 * k.val + 256 * t.val, 4096 * d.val] S1x256x4096.size (rtInb s k t d)) (by revert s k t d; decide +kernel)).reshape _ _

/-- A sub-chunk of slot `s` of the all-gather's receive buffer. -/
abbrev aV (s : Fin 3) (k d : Fin 2) : Memref sig .tc .hbm S512x4096 .i8 :=
  ((Memref.whole main_v1_3).slice (Rect.unit (s := S3x1024x8192) ![s.val, 512 * k.val, 4096 * d.val] S1x512x4096.size (rInb s k d)) (fun _ => rfl)).squeeze
    S512x4096 squeezes_S1x512x4096_S512x4096

/-- A sub-chunk of the all-gather's receive buffer is whole words. -/
theorem aWords (s : Fin 3) (k d : Fin 2) : (aV s k d).view.WordExact :=
  ((Memref.isWhole_whole main_v1_3).wordExact_slice rfl (Rect.unit (s := S3x1024x8192) ![s.val, 512 * k.val, 4096 * d.val] S1x512x4096.size (rInb s k d)) (by revert s k d; decide +kernel)).reshape _ _

/-- A tile of slot `s` of the all-gather's receive buffer. -/
abbrev atV (s : Fin 3) (k t d : Fin 2) : Memref sig .tc .hbm S256x4096 .i8 :=
  ((Memref.whole main_v1_3).slice (Rect.unit (s := S3x1024x8192) ![s.val, 512 * k.val + 256 * t.val, 4096 * d.val] S1x256x4096.size (rtInb s k t d)) (fun _ => rfl)).squeeze
    S256x4096 squeezes_S1x256x4096_S256x4096

/-- A tile of the all-gather's receive buffer is whole words. -/
theorem atWords (s : Fin 3) (k t d : Fin 2) : (atV s k t d).view.WordExact :=
  ((Memref.isWhole_whole main_v1_3).wordExact_slice rfl (Rect.unit (s := S3x1024x8192) ![s.val, 512 * k.val + 256 * t.val, 4096 * d.val] S1x256x4096.size (rtInb s k t d)) (by revert s k t d; decide +kernel)).reshape _ _

/-- Half `k` of a quantised chunk lies in it. -/
theorem qInb (k : Fin 2) : ∀ a, (![512 * k.val, 0] : Fin 2 → ℕ) a + S512x4096.size a ≤ S1024x4096.size a := by revert k; decide +kernel

/-- Tile `(k, t)` of a quantised chunk lies in it. -/
theorem qtInb (k t : Fin 2) : ∀ a, (![512 * k.val + 256 * t.val, 0] : Fin 2 → ℕ) a + S256x4096.size a ≤ S1024x4096.size a := by
  revert k t; decide +kernel

/-- Half `k` of the quantised low chunk. -/
abbrev qLV (k : Fin 2) : Memref sig .tc .vmem S512x4096 .i8 :=
  (Memref.whole cc0_scratch9).slice (Rect.unit (s := S1024x4096) ![512 * k.val, 0] S512x4096.size (qInb k)) (fun _ => rfl)

/-- Half `k` of the quantised low chunk is whole words. -/
theorem qLWords (k : Fin 2) : (qLV k).view.WordExact :=
  (Memref.isWhole_whole cc0_scratch9).wordExact_slice rfl (Rect.unit (s := S1024x4096) ![512 * k.val, 0] S512x4096.size (qInb k)) (by revert k; decide +kernel)

/-- Half `k` of the quantised high chunk. -/
abbrev qHV (k : Fin 2) : Memref sig .tc .vmem S512x4096 .i8 :=
  (Memref.whole cc0_scratch10).slice (Rect.unit (s := S1024x4096) ![512 * k.val, 0] S512x4096.size (qInb k)) (fun _ => rfl)

/-- Half `k` of the quantised high chunk is whole words. -/
theorem qHWords (k : Fin 2) : (qHV k).view.WordExact :=
  (Memref.isWhole_whole cc0_scratch10).wordExact_slice rfl (Rect.unit (s := S1024x4096) ![512 * k.val, 0] S512x4096.size (qInb k)) (by revert k; decide +kernel)

/-- Tiles of a quantised chunk pack into whole words. -/
theorem qtPacked (k t : Fin 2) : (Rect.unit (s := S1024x4096) ![512 * k.val + 256 * t.val, 0] S256x4096.size (qtInb k t)).PackedRows (EltTy.packing .i8) := by
  revert k t; decide +kernel

/-- Slot `i` of the maxima received lies in the buffer. -/
theorem mInb (i : Fin 3) : ∀ a, (![i.val + 1, 0, 0] : Fin 3 → ℕ) a + S1x8x128.size a ≤ S4x8x128.size a := by revert i; decide +kernel

/-- Slot `i + 1` of the maxima received. -/
abbrev mV (i : Fin 3) : Memref sig .tc .vmem S8x128 .f32 :=
  ((Memref.whole cc0_scratch12).slice (Rect.unit (s := S4x8x128) ![i.val + 1, 0, 0] S1x8x128.size (mInb i)) (fun _ => rfl)).squeeze
    S8x128 squeezes_S1x8x128_S8x128

/-! ### Semaphores -/

/-- One of eight lies in eight. -/
theorem lInb (i : Fin 8) : ∀ a, (![i.val] : Fin 1 → ℕ) a + S1.size a ≤ S8.size a := by revert i; decide +kernel

/-- The local semaphore `i`. -/
abbrev lsem (i : Fin 8) : DmaSem sig := ((cc0_scratch19.slice (Rect.unit (s := S8) ![i.val] S1.size (lInb i))).squeeze S_ squeezes_S1_S_).sem

/-- One of three lies in three. -/
theorem s3Inb (i : Fin 3) : ∀ a, (![i.val] : Fin 1 → ℕ) a + S1.size a ≤ S3.size a := by revert i; decide +kernel

/-- One of twelve lies in twelve. -/
theorem s12Inb (s : Fin 3) (k d : Fin 2) : ∀ a, (![s.val, k.val, d.val] : Fin 3 → ℕ) a + S1x1x1.size a ≤ S3x2x2.size a := by
  revert s k d; decide +kernel

/-- A semaphore of a three by two by two array. -/
abbrev sem12 (A : DmaSems sig S3x2x2) (s : Fin 3) (k d : Fin 2) : DmaSem sig :=
  ((A.slice (Rect.unit (s := S3x2x2) ![s.val, k.val, d.val] S1x1x1.size (s12Inb s k d))).squeeze S_ squeezes_S1x1x1_S_).sem

/-- A semaphore of an array of three. -/
abbrev sem3 (A : DmaSems sig S3) (i : Fin 3) : DmaSem sig :=
  ((A.slice (Rect.unit (s := S3) ![i.val] S1.size (s3Inb i))).squeeze S_ squeezes_S1_S_).sem

/-- The reduce-scatter's send semaphores. -/
abbrev rsS (s : Fin 3) (k d : Fin 2) : DmaSem sig := sem12 cc0_scratch13 s k d
/-- The reduce-scatter's receive semaphores. -/
abbrev rsR (s : Fin 3) (k d : Fin 2) : DmaSem sig := sem12 cc0_scratch14 s k d
/-- The all-gather's send semaphores. -/
abbrev agS (s : Fin 3) (k d : Fin 2) : DmaSem sig := sem12 cc0_scratch15 s k d
/-- The all-gather's receive semaphores. -/
abbrev agR (s : Fin 3) (k d : Fin 2) : DmaSem sig := sem12 cc0_scratch16 s k d
/-- The maxima's send semaphores. -/
abbrev amS (i : Fin 3) : DmaSem sig := sem3 cc0_scratch17 i
/-- The maxima's receive semaphores. -/
abbrev amR (i : Fin 3) : DmaSem sig := sem3 cc0_scratch18 i

/-- The numbers of the local semaphores. -/
theorem lsem_val (i : Fin 8) : lsem i = (⟨54 + i.val, by have := i.isLt; show _ < 62; omega⟩ : Fin 62) := by revert i; decide +kernel
/-- The numbers of the reduce-scatter's send semaphores. -/
theorem rsS_val (s : Fin 3) (k d : Fin 2) : (rsS s k d).val = 4 * s.val + 2 * k.val + d.val := by revert s k d; decide +kernel
/-- The numbers of the reduce-scatter's receive semaphores. -/
theorem rsR_val (s : Fin 3) (k d : Fin 2) : (rsR s k d).val = 12 + (4 * s.val + 2 * k.val + d.val) := by revert s k d; decide +kernel
/-- The numbers of the all-gather's send semaphores. -/
theorem agS_val (s : Fin 3) (k d : Fin 2) : (agS s k d).val = 24 + (4 * s.val + 2 * k.val + d.val) := by revert s k d; decide +kernel
/-- The numbers of the all-gather's receive semaphores. -/
theorem agR_val (s : Fin 3) (k d : Fin 2) : (agR s k d).val = 36 + (4 * s.val + 2 * k.val + d.val) := by revert s k d; decide +kernel
/-- The numbers of the maxima's send semaphores. -/
theorem amS_val (i : Fin 3) : (amS i).val = 48 + i.val := by revert i; decide +kernel
/-- The numbers of the maxima's receive semaphores. -/
theorem amR_val (i : Fin 3) : (amR i).val = 51 + i.val := by revert i; decide +kernel

end Cert.KernelIdeal.Gen

end
-- ==== Proof.Prog.lean ====
/-
  The kernel's body, written in repeated pieces.

  The printed body is one run of about a thousand operations; here it is the same run written with the pieces
  it repeats (a block of the matrix product, a tile of the reduce-scatter, a tile of the quantiser, a unit of the
  all-gather), each once.  `body_eq` says the two are the same program, by unfolding.
-/
module

public import proofs.«01_k».proof.Proof.Views
public import proofs.«01_k».proof.Proof.Gen.KernelIdeal.Skeleton
public import proofs.«01_k».proof.Proof.Gen.KernelIdeal.Points
public import Idealize.ShloMosaic.Lib.Pipeline.Regions

@[expose] public section

set_option synthInstance.maxSize 4096

noncomputable section

namespace Cert.KernelIdeal.Gen

open Idealize.ShloMosaic Idealize.ShloMosaic.TcCoe Idealize.SL Idealize.SL.Sem

variable {F : FTy → Type} [FloatOps F]

/-- A program of a tensor core of this kernel. -/
abbrev TP (F : FTy → Type) [FloatOps F] (α : Type) := Prog (TpuEff nD τ sig (Elt F) Λ₀ .tc) α

/-- The block of `x` in fast memory. -/
abbrev bX : Memref sig .tc .vmem S1024x1024 .f32 := Memref.whole cc0_scratch0
/-- The first block of `w` in fast memory. -/
abbrev bWA : Memref sig .tc .vmem S1024x1024 .f32 := Memref.whole cc0_scratch1
/-- The second block of `w` in fast memory. -/
abbrev bWB : Memref sig .tc .vmem S1024x1024 .f32 := Memref.whole cc0_scratch2
/-- The block of the product in fast memory. -/
abbrev bO : Memref sig .tc .vmem S1024x1024 .bf16 := Memref.whole cc0_scratch3
/-- The first tile in fast memory. -/
abbrev bA : Memref sig .tc .vmem S256x4096 .bf16 := Memref.whole cc0_scratch4
/-- The second tile in fast memory. -/
abbrev bB : Memref sig .tc .vmem S256x4096 .bf16 := Memref.whole cc0_scratch5
/-- The tile of the result in fast memory. -/
abbrev bF : Memref sig .tc .vmem S256x4096 .f32 := Memref.whole cc0_scratch6
/-- The first quantised tile in fast memory. -/
abbrev bQ : Memref sig .tc .vmem S256x4096 .i8 := Memref.whole cc0_scratch7
/-- The second quantised tile in fast memory. -/
abbrev bQ' : Memref sig .tc .vmem S256x4096 .i8 := Memref.whole cc0_scratch8
/-- The quantised low chunk. -/
abbrev bQL : Memref sig .tc .vmem S1024x4096 .i8 := Memref.whole cc0_scratch9
/-- The quantised high chunk. -/
abbrev bQH : Memref sig .tc .vmem S1024x4096 .i8 := Memref.whole cc0_scratch10
/-- The maximum sent. -/
abbrev bM : Memref sig .tc .vmem S8x128 .f32 := Memref.whole cc0_scratch11
/-- The maxima received. -/
abbrev bMR : Memref sig .tc .vmem S4x8x128 .f32 := Memref.whole cc0_scratch12

/-- Start a transfer within the device. -/
abbrev cp {sp sp' : Space} {s : Shape} {e : EltTy} (src : Memref sig .tc sp s e) (dst : Memref sig .tc sp' s e) (i : Fin 8)
    (hs : src.view.WordExact) (hd : dst.view.WordExact) (ht : DmaTarget.Typed (nD := nD) (τ := τ) (p := .tc) sp (.dma (lsem i)) (.here dst)) : TP F PUnit :=
  Prog.lift (.enqueueDma src (.here dst) (.dma (lsem i)) hs hd ht)

/-- Wait for a transfer within the device. -/
abbrev cw {sp sp' : Space} {s : Shape} {e : EltTy} (src : Memref sig .tc sp s e) (dst : Memref sig .tc sp' s e) (i : Fin 8)
    (hs : src.view.WordExact) (hd : dst.view.WordExact) : TP F PUnit :=
  Prog.lift (.waitDma2 (lsem i) src dst hs hd)

/-- Load a whole block of 1024 by 1024. -/
abbrev ldG {e : EltTy} (b : Memref sig .tc .vmem S1024x1024 e) : TP F (Vec F S1024x1024 e) :=
  Prog.lift (.load b (Rect.unit (s := S1024x1024) ![0, 0] S1024x1024.size inb_S1024x1024_S1024x1024_0_0).toLoadRect (View.loadsAt_vmem h_S1024x1024))

/-- Load a whole tile of 256 by 4096. -/
abbrev ldT {e : EltTy} (b : Memref sig .tc .vmem S256x4096 e) : TP F (Vec F S256x4096 e) :=
  Prog.lift (.load b (Rect.unit (s := S256x4096) ![0, 0] S256x4096.size inb_S256x4096_S256x4096_0_0).toLoadRect (View.loadsAt_vmem h_S256x4096))

/-- Store a whole tile of the result. -/
abbrev stF (v : FVec F S256x4096 .f32) : TP F PUnit :=
  Prog.lift (.store bF (Rect.unit (s := S256x4096) ![0, 0] S256x4096.size inb_S256x4096_S256x4096_0_0) v Finset.univ (View.stores_vmem_bits_univ h_S256x4096 rfl) (.inl rfl))

/-- Store a whole tile of the partial sums. -/
abbrev stA (v : FVec F S256x4096 .bf16) : TP F PUnit :=
  Prog.lift (.store bA (Rect.unit (s := S256x4096) ![0, 0] S256x4096.size inb_S256x4096_S256x4096_0_0) v Finset.univ
    (View.stores_vmem h_S256x4096 ((Memref.isWhole_whole _).storeExact_slice rfl _ packedbf16_S256x4096_S256x4096_0_0) (fun _ => rfl)) (.inl rfl))

/-- Store a whole block of the product. -/
abbrev stO (v : FVec F S1024x1024 .bf16) : TP F PUnit :=
  Prog.lift (.store bO (Rect.unit (s := S1024x1024) ![0, 0] S1024x1024.size inb_S1024x1024_S1024x1024_0_0) v Finset.univ
    (View.stores_vmem h_S1024x1024 ((Memref.isWhole_whole _).storeExact_slice rfl _ packedbf16_S1024x1024_S1024x1024_0_0) (fun _ => rfl)) (.inl rfl))

/-! ### The matrix product -/

/-- Bring a chunk of `x` in. -/
def gX (o : Fin 2 → ℕ) (j : Fin 4) (ho : o = ![1024 * j.val, 0]) : TP F PUnit := do
  cp (xV o j ho) bX 3 (View.wordExact_bits rfl) (Memref.isWhole_whole _).wordExact ⟨Or.inl rfl, trivial⟩
  cw (xV o j ho) bX 3 (View.wordExact_bits rfl) (Memref.isWhole_whole _).wordExact

/-- Start bringing block `b` of `w` in, to the first buffer. -/
def wA (b : Fin 8) : TP F PUnit := cp (wV b) bWA 4 (View.wordExact_bits rfl) (Memref.isWhole_whole _).wordExact ⟨Or.inl rfl, trivial⟩

/-- Start bringing block `b` of `w` in, to the second buffer. -/
def wB (b : Fin 8) : TP F PUnit := cp (wV b) bWB 5 (View.wordExact_bits rfl) (Memref.isWhole_whole _).wordExact ⟨Or.inl rfl, trivial⟩

/-- Multiply by block `b` of `w`, waited for in the buffer `W`, and write the product to the accumulator. -/
def gBlk (W : Memref sig .tc .vmem S1024x1024 .f32) (hW : W.IsWhole) (i : Fin 8) (o : Fin 2 → ℕ) (j : Fin 4) (b : Fin 8)
    (ho : o = ![1024 * j.val, 1024 * b.val]) : TP F PUnit := do
  cw (wV b) W i (View.wordExact_bits rfl) hW.wordExact
  let x ← ldG bX
  let w ← ldG W
  let _ ← ldG bO
  stO (k0_pay1 x w)
  cp bO (gV o j b ho) 2 (Memref.isWhole_whole _).wordExact (gWords o j b ho) ⟨Or.inl rfl, trivial⟩
  cw bO (gV o j b ho) 2 (Memref.isWhole_whole _).wordExact (gWords o j b ho)

/-- A family of offsets, one per block, all in the rows of chunk `j`. -/
abbrev Offs (o : ℕ → Fin 2 → ℕ) (j : Fin 4) : Prop := ∀ b : Fin 8, o b.val = ![1024 * j.val, 1024 * b.val]

/-- Blocks `b₀` and `b₁`, and the start of block `b₂`. -/
def gPair (o : ℕ → Fin 2 → ℕ) (j : Fin 4) (ho : Offs o j) (b₀ b₁ b₂ : Fin 8) : TP F PUnit := do
  wB b₁
  gBlk bWA (Memref.isWhole_whole _) 4 (o b₀.val) j b₀ (ho b₀)
  wA b₂
  gBlk bWB (Memref.isWhole_whole _) 5 (o b₁.val) j b₁ (ho b₁)

/-- The last two blocks. -/
def gLast (o : ℕ → Fin 2 → ℕ) (j : Fin 4) (ho : Offs o j) (b₀ b₁ : Fin 8) : TP F PUnit := do
  wB b₁
  gBlk bWA (Memref.isWhole_whole _) 4 (o b₀.val) j b₀ (ho b₀)
  gBlk bWB (Memref.isWhole_whole _) 5 (o b₁.val) j b₁ (ho b₁)

/-- Four blocks from `b₀` on. -/
def gHalf (o : ℕ → Fin 2 → ℕ) (j : Fin 4) (ho : Offs o j) (b₀ b₁ b₂ b₃ : Fin 8) : TP F PUnit := do
  wA b₀
  gPair o j ho b₀ b₁ b₂
  gLast o j ho b₂ b₃

/-- All eight blocks of a chunk. -/
def gPass (o : ℕ → Fin 2 → ℕ) (j : Fin 4) (ho : Offs o j) : TP F PUnit := do
  wA 0
  gPair o j ho 0 1 2
  gPair o j ho 2 3 4
  gPair o j ho 4 5 6
  gLast o j ho 6 7

/-! ### The reduce-scatter -/

/-- Send a sub-chunk of the accumulator. -/
def rsSend (n : Dev nD) (s : Fin 3) (o : Fin 2 → ℕ) (j : Fin 4) (k d : Fin 2) (ho : o = ![1024 * j.val + 512 * k.val, 4096 * d.val]) : TP F PUnit :=
  Prog.lift (.enqueueDma (cV o j k d ho) (.remote (Dev.tc n) (rV s k d) (.dma (rsS s k d))) (.dma (rsR s k d))
    (cWords o j k d ho) (rWords s k d) ⟨⟨rfl, Or.inl rfl⟩, trivial⟩)

/-- Wait for a sub-chunk from a neighbour. -/
def rsWait (s : Fin 3) (o : Fin 2 → ℕ) (j : Fin 4) (k d : Fin 2) (ho : o = ![1024 * j.val + 512 * k.val, 4096 * d.val]) : TP F PUnit :=
  Prog.lift (.waitDma2 (rsR s k d) (cV o j k d ho) (rV s k d) (cWords o j k d ho) (rWords s k d))

/-- Bring a tile of the accumulator and the tile received in. -/
def rsIn (s : Fin 3) (o : Fin 2 → ℕ) (j : Fin 4) (k t d : Fin 2) (ho : o = ![1024 * j.val + 512 * k.val + 256 * t.val, 4096 * d.val]) : TP F PUnit := do
  cp (tV o j k t d ho) bA 0 (tWords o j k t d ho) (Memref.isWhole_whole _).wordExact ⟨Or.inl rfl, trivial⟩
  cp (rtV s k t d) bB 1 (rtWords s k t d) (Memref.isWhole_whole _).wordExact ⟨Or.inl rfl, trivial⟩
  cw (tV o j k t d ho) bA 0 (tWords o j k t d ho) (Memref.isWhole_whole _).wordExact
  cw (rtV s k t d) bB 1 (rtWords s k t d) (Memref.isWhole_whole _).wordExact

/-- Write a tile back to the accumulator. -/
def rsOut (o : Fin 2 → ℕ) (j : Fin 4) (k t d : Fin 2) (ho : o = ![1024 * j.val + 512 * k.val + 256 * t.val, 4096 * d.val]) (v : FVec F S256x4096 .bf16) :
    TP F PUnit := do
  let _ ← ldT bA
  stA v
  cp bA (tV o j k t d ho) 2 (Memref.isWhole_whole _).wordExact (tWords o j k t d ho) ⟨Or.inl rfl, trivial⟩
  cw bA (tV o j k t d ho) 2 (Memref.isWhole_whole _).wordExact (tWords o j k t d ho)

/-- Add a tile received to the accumulator's. -/
def rsTile (s : Fin 3) (o : Fin 2 → ℕ) (j : Fin 4) (k t d : Fin 2) (ho : o = ![1024 * j.val + 512 * k.val + 256 * t.val, 4096 * d.val]) : TP F PUnit := do
  rsIn s o j k t d ho
  let a ← ldT bA
  let b ← ldT bB
  rsOut o j k t d ho (k0_pay26 a b)

/-- Add a tile received at the last step to the accumulator's, clip at zero, and give the clipped sum. -/
def rsTileLast (o : Fin 2 → ℕ) (j : Fin 4) (k t d : Fin 2) (ho : o = ![1024 * j.val + 512 * k.val + 256 * t.val, 4096 * d.val]) : TP F (FVec F S256x4096 .f32) := do
  rsIn 2 o j k t d ho
  let a ← ldT bA
  let b ← ldT bB
  rsOut o j k t d ho (k0_pay62 (k0_pay59 a b))
  pure (k0_pay59 a b)

/-- The largest element of a tile. -/
def tileMax (v : FVec F S256x4096 .f32) : F .f32 :=
  extractAt ![0, 0, 0] (shapeCast S1x1x1 (multiReduction .maximumf [1, 2] S1 (shapeCast S1x256x4096 v shapeCasts_S256x4096_S1x256x4096) 0xFF800000#32 reduces_S1x256x4096_S1 (.inl rfl) rfl) shapeCasts_S1_S1x1x1) inpos_S1x1x1_p0_0_0

/-- A low unit of the reduce-scatter before the last step: wait, add both tiles, send on. -/
def rsUnitL (c : Dev nD) (n : Dev nD) (s s' : Fin 3) (k : Fin 2) (hs : s'.val = s.val + 1) : TP F PUnit := do
  rsWait s _ _ k 0 (off6_eq c s k)
  rsTile s _ _ k 0 0 (off21_eq c s k 0)
  rsTile s _ _ k 1 0 (off21_eq c s k 1)
  rsSend n s' _ _ k 0 (off6_eq c s' k)

/-- A high unit of the reduce-scatter before the last step: wait, add both tiles, send on. -/
def rsUnitH (c : Dev nD) (n : Dev nD) (s s' : Fin 3) (k : Fin 2) (hs : s'.val = s.val + 1) : TP F PUnit := do
  rsWait s _ _ k 1 (off11_eq c s k)
  rsTile s _ _ k 0 1 (off22_eq c s k 0)
  rsTile s _ _ k 1 1 (off22_eq c s k 1)
  rsSend n s' _ _ k 1 (off11_eq c s' k)

/-- A low unit of the last step: wait, add and clip both tiles, fold their maxima. -/
def rsLastL (c : Dev nD) (k : Fin 2) (m : F .f32) : TP F (F .f32) := do
  rsWait 2 _ _ k 0 (off6_eq c 2 k)
  let v ← rsTileLast _ _ k 0 0 (off21_eq c 2 k 0)
  let v' ← rsTileLast _ _ k 1 0 (off21_eq c 2 k 1)
  pure (Scalar.maximumf (Scalar.maximumf m (tileMax v)) (tileMax v'))

/-- A high unit of the last step: wait, add and clip both tiles, fold their maxima. -/
def rsLastH (c : Dev nD) (k : Fin 2) (m : F .f32) : TP F (F .f32) := do
  rsWait 2 _ _ k 1 (off11_eq c 2 k)
  let v ← rsTileLast _ _ k 0 1 (off22_eq c 2 k 0)
  let v' ← rsTileLast _ _ k 1 1 (off22_eq c 2 k 1)
  pure (Scalar.maximumf (Scalar.maximumf m (tileMax v)) (tileMax v'))

/-! ### The exchange of the maxima -/

/-- Send the maximum to another device. -/
def amSend (n : Dev nD) (i : Fin 3) : TP F PUnit :=
  Prog.lift (.enqueueDma bM (.remote (Dev.tc n) (mV i) (.dma (amS i))) (.dma (amR i)) (Memref.isWhole_whole _).wordExact (View.wordExact_bits rfl) ⟨⟨rfl, Or.inl rfl⟩, trivial⟩)

/-- Wait for a maximum. -/
def amWait (i : Fin 3) : TP F PUnit :=
  Prog.lift (.waitDma2 (amR i) bM (mV i) (Memref.isWhole_whole _).wordExact (View.wordExact_bits rfl))

/-- Exchange the maxima: the largest of all four. -/
def amAll (c : Dev nD) (m : F .f32) : TP F (FVec F S1x1x1x1 .f32) := do
  let _ ← Prog.lift (.load bM (Rect.unit (s := S8x128) ![0, 0] S8x128.size inb_S8x128_S8x128_0_0).toLoadRect (View.loadsAt_vmem h_S8x128))
  Prog.lift (.store bM (Rect.unit (s := S8x128) ![0, 0] S8x128.size inb_S8x128_S8x128_0_0) (shapeCast S8x128 (broadcast S8x128 m) shapeCasts_S8x128_S8x128) Finset.univ
    (View.stores_vmem_bits_univ h_S8x128 rfl) (.inl rfl))
  amSend ⟨k0_dev15 c, k0_dev15_lt c⟩ 0
  amSend ⟨k0_dev16 c, k0_dev16_lt c⟩ 1
  amSend ⟨k0_dev17 c, k0_dev17_lt c⟩ 2
  amWait 0
  amWait 1
  amWait 2
  let r ← Prog.lift (.load bMR (Rect.unit (s := S4x8x128) ![1, 0, 0] S3x8x128.size inb_S4x8x128_S3x8x128_1_0_0).toLoadRect (View.loadsAt_vmem h_S3x8x128))
  pure (k0_pay77 r)

/-! ### The quantiser -/

/-- Start bringing a tile of the accumulator in. -/
def qIn (B : Memref sig .tc .vmem S256x4096 .bf16) (hB : B.IsWhole) (i : Fin 8) (o : Fin 2 → ℕ) (j : Fin 4) (k t d : Fin 2)
    (ho : o = ![1024 * j.val + 512 * k.val + 256 * t.val, 4096 * d.val]) : TP F PUnit :=
  cp (tV o j k t d ho) B i (tWords o j k t d ho) hB.wordExact ⟨Or.inl rfl, trivial⟩

/-- Load a tile of a quantised chunk. -/
abbrev ldQ (Q : Memref sig .tc .vmem S1024x4096 .i8) (k t : Fin 2) : TP F (Vec F S256x4096 .i8) :=
  Prog.lift (.load Q (Rect.unit (s := S1024x4096) ![512 * k.val + 256 * t.val, 0] S256x4096.size (qtInb k t)).toLoadRect (View.loadsAt_vmem h_S256x4096))

/-- Store a tile of a quantised chunk. -/
abbrev stQ (Q : Memref sig .tc .vmem S1024x4096 .i8) (hQ : Q.IsWhole) (k t : Fin 2) (v : Vec F S256x4096 .i8) : TP F PUnit :=
  Prog.lift (.store Q (Rect.unit (s := S1024x4096) ![512 * k.val + 256 * t.val, 0] S256x4096.size (qtInb k t)) v Finset.univ
    (View.stores_vmem h_S256x4096 (hQ.storeExact_slice rfl _ (qtPacked k t)) (fun _ => rfl)) (.inl rfl))

/-- Quantise a tile waited for: keep the integers, and write what they stand for to the result. -/
def qTile (Q : Memref sig .tc .vmem S1024x4096 .i8) (hQ : Q.IsWhole) (inv scale : F .f32)
    (B : Memref sig .tc .vmem S256x4096 .bf16) (hB : B.IsWhole) (i : Fin 8) (o : Fin 2 → ℕ) (j : Fin 4) (k t d : Fin 2)
    (ho : o = ![1024 * j.val + 512 * k.val + 256 * t.val, 4096 * d.val]) : TP F PUnit := do
  cw (tV o j k t d ho) B i (tWords o j k t d ho) hB.wordExact
  let y ← ldT B
  let _ ← ldQ Q k t
  stQ Q hQ k t (k0_pay82 inv y)
  let _ ← ldT bF
  stF (k0_pay83 inv scale y)
  cp bF (oV o j k t d ho) 6 (Memref.isWhole_whole _).wordExact (View.wordExact_bits rfl) ⟨Or.inl rfl, trivial⟩
  cw bF (oV o j k t d ho) 6 (Memref.isWhole_whole _).wordExact (View.wordExact_bits rfl)

/-- Send half of a quantised chunk. -/
def agSend0 (n : Dev nD) (src : Memref sig .tc .vmem S512x4096 .i8) (hsrc : src.view.WordExact) (k d : Fin 2) : TP F PUnit :=
  Prog.lift (.enqueueDma src (.remote (Dev.tc n) (aV 0 k d) (.dma (agS 0 k d))) (.dma (agR 0 k d)) hsrc (aWords 0 k d) ⟨⟨rfl, Or.inl rfl⟩, trivial⟩)

/-- Quantise the low chunk, sending each half on when it is whole. -/
def quantL (c : Dev nD) (inv scale : F .f32) : TP F PUnit := do
  qIn bA (Memref.isWhole_whole _) 0 _ _ 0 0 0 (off23_eq c 0 0)
  qIn bB (Memref.isWhole_whole _) 1 _ _ 0 1 0 (off23_eq c 0 1)
  qTile bQL (Memref.isWhole_whole _) inv scale bA (Memref.isWhole_whole _) 0 _ _ 0 0 0 (off23_eq c 0 0)
  qIn bA (Memref.isWhole_whole _) 0 _ _ 1 0 0 (off23_eq c 1 0)
  qTile bQL (Memref.isWhole_whole _) inv scale bB (Memref.isWhole_whole _) 1 _ _ 0 1 0 (off23_eq c 0 1)
  agSend0 ⟨k0_dev18 c, k0_dev18_lt c⟩ (qLV 0) (qLWords 0) 0 0
  qIn bB (Memref.isWhole_whole _) 1 _ _ 1 1 0 (off23_eq c 1 1)
  qTile bQL (Memref.isWhole_whole _) inv scale bA (Memref.isWhole_whole _) 0 _ _ 1 0 0 (off23_eq c 1 0)
  qTile bQL (Memref.isWhole_whole _) inv scale bB (Memref.isWhole_whole _) 1 _ _ 1 1 0 (off23_eq c 1 1)
  agSend0 ⟨k0_dev19 c, k0_dev19_lt c⟩ (qLV 1) (qLWords 1) 1 0

/-- Quantise the high chunk, sending each half on when it is whole. -/
def quantH (c : Dev nD) (inv scale : F .f32) : TP F PUnit := do
  qIn bA (Memref.isWhole_whole _) 0 _ _ 0 0 1 (off24_eq c 0 0)
  qIn bB (Memref.isWhole_whole _) 1 _ _ 0 1 1 (off24_eq c 0 1)
  qTile bQH (Memref.isWhole_whole _) inv scale bA (Memref.isWhole_whole _) 0 _ _ 0 0 1 (off24_eq c 0 0)
  qIn bA (Memref.isWhole_whole _) 0 _ _ 1 0 1 (off24_eq c 1 0)
  qTile bQH (Memref.isWhole_whole _) inv scale bB (Memref.isWhole_whole _) 1 _ _ 0 1 1 (off24_eq c 0 1)
  agSend0 ⟨k0_dev20 c, k0_dev20_lt c⟩ (qHV 0) (qHWords 0) 0 1
  qIn bB (Memref.isWhole_whole _) 1 _ _ 1 1 1 (off24_eq c 1 1)
  qTile bQH (Memref.isWhole_whole _) inv scale bA (Memref.isWhole_whole _) 0 _ _ 1 0 1 (off24_eq c 1 0)
  qTile bQH (Memref.isWhole_whole _) inv scale bB (Memref.isWhole_whole _) 1 _ _ 1 1 1 (off24_eq c 1 1)
  agSend0 ⟨k0_dev21 c, k0_dev21_lt c⟩ (qHV 1) (qHWords 1) 1 1

/-! ### The all-gather -/

/-- Wait for half of a quantised chunk from a neighbour. -/
def agWait {sp : Space} (src : Memref sig .tc sp S512x4096 .i8) (hsrc : src.view.WordExact) (h : Fin 3) (k d : Fin 2) : TP F PUnit :=
  Prog.lift (.waitDma2 (agR h k d) src (aV h k d) hsrc (aWords h k d))

/-- Send half of a quantised chunk on. -/
def agSend (n : Dev nD) (h h' : Fin 3) (k d : Fin 2) : TP F PUnit :=
  Prog.lift (.enqueueDma (aV h k d) (.remote (Dev.tc n) (aV h' k d) (.dma (agS h' k d))) (.dma (agR h' k d)) (aWords h k d) (aWords h' k d) ⟨⟨rfl, Or.inl rfl⟩, trivial⟩)

/-- Write what a quantised tile stands for to the result. -/
def agOut (scale : F .f32) (B : Memref sig .tc .vmem S256x4096 .i8) (o : Fin 2 → ℕ) (j : Fin 4) (k t d : Fin 2)
    (ho : o = ![1024 * j.val + 512 * k.val + 256 * t.val, 4096 * d.val]) : TP F PUnit := do
  let q ← ldT B
  let _ ← ldT bF
  stF (k0_pay111 scale q)
  cp bF (oV o j k t d ho) 2 (Memref.isWhole_whole _).wordExact (View.wordExact_bits rfl) ⟨Or.inl rfl, trivial⟩
  cw bF (oV o j k t d ho) 2 (Memref.isWhole_whole _).wordExact (View.wordExact_bits rfl)

/-- Bring both tiles of a piece gathered in, and write what they stand for to the result. -/
def agTiles (scale : F .f32) (h : Fin 3) (o o' : Fin 2 → ℕ) (j : Fin 4) (k d : Fin 2)
    (ho : o = ![1024 * j.val + 512 * k.val + 256 * (0 : Fin 2).val, 4096 * d.val])
    (ho' : o' = ![1024 * j.val + 512 * k.val + 256 * (1 : Fin 2).val, 4096 * d.val]) : TP F PUnit := do
  cp (atV h k 0 d) bQ 0 (atWords h k 0 d) (Memref.isWhole_whole _).wordExact ⟨Or.inl rfl, trivial⟩
  cp (atV h k 1 d) bQ' 1 (atWords h k 1 d) (Memref.isWhole_whole _).wordExact ⟨Or.inl rfl, trivial⟩
  cw (atV h k 0 d) bQ 0 (atWords h k 0 d) (Memref.isWhole_whole _).wordExact
  cw (atV h k 1 d) bQ' 1 (atWords h k 1 d) (Memref.isWhole_whole _).wordExact
  agOut scale bQ o j k 0 d ho
  agOut scale bQ' o' j k 1 d ho'

/-- Both tiles of a low piece. -/
def agTilesL (c : Dev nD) (scale : F .f32) (h : Fin 3) (k : Fin 2) : TP F PUnit := agTiles scale h _ _ _ k 0 (off25_eq c h k) (off26_eq c h k)

/-- Both tiles of a high piece. -/
def agTilesH (c : Dev nD) (scale : F .f32) (h : Fin 3) (k : Fin 2) : TP F PUnit := agTiles scale h _ _ _ k 1 (off27_eq c h k) (off28_eq c h k)

/-- A gather unit before the last step: wait, send on. -/
def agFwd {sp : Space} (n : Dev nD) (src : Memref sig .tc sp S512x4096 .i8) (hsrc : src.view.WordExact) (h h' : Fin 3) (k d : Fin 2) : TP F PUnit := do
  agWait src hsrc h k d
  agSend n h h' k d

/-! ### The end -/

/-- Wait for a reduce-scatter's send to have been read. -/
def rsDone (s : Fin 3) (o : Fin 2 → ℕ) (j : Fin 4) (k d : Fin 2) (ho : o = ![1024 * j.val + 512 * k.val, 4096 * d.val]) : TP F PUnit :=
  Prog.lift (.waitDma2 (rsS s k d) (rV s k d) (cV o j k d ho) (rWords s k d) (cWords o j k d ho))

/-- Wait for a maximum's send to have been read. -/
def amDone (i : Fin 3) : TP F PUnit :=
  Prog.lift (.waitDma2 (amS i) (mV i) bM (View.wordExact_bits rfl) (Memref.isWhole_whole _).wordExact)

/-- Wait for an all-gather's send to have been read. -/
def agDone {sp : Space} (src : Memref sig .tc sp S512x4096 .i8) (hsrc : src.view.WordExact) (h : Fin 3) (k d : Fin 2) : TP F PUnit :=
  Prog.lift (.waitDma2 (agS h k d) (aV h k d) src (aWords h k d) hsrc)

/-- Both halves' sends of step `s`. -/
def rsDones (c : Dev nD) (s : Fin 3) : TP F PUnit := do
  rsDone s _ _ 0 0 (off6_eq c s 0)
  rsDone s _ _ 0 1 (off11_eq c s 0)
  rsDone s _ _ 1 0 (off6_eq c s 1)
  rsDone s _ _ 1 1 (off11_eq c s 1)

/-- The four sends of the first step, in the order they were started. -/
def rsDones0 (c : Dev nD) : TP F PUnit := do
  rsDone 0 _ _ 0 0 (off6_eq c 0 0)
  rsDone 0 _ _ 1 0 (off6_eq c 0 1)
  rsDone 0 _ _ 0 1 (off11_eq c 0 0)
  rsDone 0 _ _ 1 1 (off11_eq c 0 1)

/-- The sends of gather step `h' = h + 1`. -/
def agDones (h h' : Fin 3) : TP F PUnit := do
  agDone (aV h 0 0) (aWords h 0 0) h' 0 0
  agDone (aV h 0 1) (aWords h 0 1) h' 0 1
  agDone (aV h 1 0) (aWords h 1 0) h' 1 0
  agDone (aV h 1 1) (aWords h 1 1) h' 1 1

/-- Wait for every send. -/
def ending (c : Dev nD) : TP F PUnit := do
  rsDones0 c
  rsDones c 1
  rsDones c 2
  amDone 0
  amDone 1
  amDone 2
  agDone (qLV 0) (qLWords 0) 0 0 0
  agDone (qLV 1) (qLWords 1) 0 1 0
  agDone (qHV 0) (qHWords 0) 0 0 1
  agDone (qHV 1) (qHWords 1) 0 1 1
  agDones 0 1
  agDones 1 2

/-! ### The whole body -/

/-- The barrier with the neighbours. -/
abbrev barS : Sem sig := (SemArray.scalar (sig.barrier 0 rfl) : Sems sig S_).sem

/-- Greet both neighbours. -/
def hello (c : Dev nD) : TP F PUnit := do
  semSignalWord (⟨k0_dev1 c, k0_dev1_lt c⟩ : Dev nD) barS 1#32
  semSignalWord (⟨k0_dev2 c, k0_dev2_lt c⟩ : Dev nD) barS 1#32

/-- The first two sends of the low half. -/
def firstL (c : Dev nD) : TP F PUnit := do
  rsSend ⟨k0_dev3 c, k0_dev3_lt c⟩ 0 _ _ 0 0 (off6_eq c 0 0)
  rsSend ⟨k0_dev4 c, k0_dev4_lt c⟩ 0 _ _ 1 0 (off6_eq c 0 1)

/-- The first two sends of the high half. -/
def firstH (c : Dev nD) : TP F PUnit := do
  rsSend ⟨k0_dev5 c, k0_dev5_lt c⟩ 0 _ _ 0 1 (off11_eq c 0 0)
  rsSend ⟨k0_dev6 c, k0_dev6_lt c⟩ 0 _ _ 1 1 (off11_eq c 0 1)

/-- The product with the chunk `1 + r` places to the right. -/
def chunk (c : Dev nD) (r : Fin 3) : TP F PUnit := do
  gX _ _ (off12_eq c r)
  gPass _ _ (oPass_eq c r)

/-- The product and the reduce-scatter up to the last step. -/
def front (c : Dev nD) : TP F PUnit := do
  gX _ _ (off1_eq c)
  gHalf _ _ (oOwn_eq c) 0 1 2 3
  semWaitWord barS 2#32
  firstL c
  gHalf _ _ (oOwn_eq c) 4 5 6 7
  firstH c
  chunk c 2
  chunk c 0
  rsUnitL c ⟨k0_dev7 c, k0_dev7_lt c⟩ 0 1 0 rfl
  rsUnitH c ⟨k0_dev8 c, k0_dev8_lt c⟩ 0 1 0 rfl
  chunk c 1
  rsUnitL c ⟨k0_dev9 c, k0_dev9_lt c⟩ 0 1 1 rfl
  rsUnitH c ⟨k0_dev10 c, k0_dev10_lt c⟩ 0 1 1 rfl
  rsUnitL c ⟨k0_dev11 c, k0_dev11_lt c⟩ 1 2 0 rfl
  rsUnitH c ⟨k0_dev12 c, k0_dev12_lt c⟩ 1 2 0 rfl
  rsUnitL c ⟨k0_dev13 c, k0_dev13_lt c⟩ 1 2 1 rfl
  rsUnitH c ⟨k0_dev14 c, k0_dev14_lt c⟩ 1 2 1 rfl

/-- The last step of the reduce-scatter: the largest element of the device's own sums. -/
def lastStep (c : Dev nD) : TP F (F .f32) := do
  let m ← rsLastL c 0 (Scalar.ofBits .f32 0x00000000#32)
  let m ← rsLastH c 0 m
  let m ← rsLastL c 1 m
  rsLastH c 1 m

/-- The first step of the all-gather. -/
def gather0 (c : Dev nD) (scale : F .f32) : TP F PUnit := do
  agFwd ⟨k0_dev22 c, k0_dev22_lt c⟩ (qLV 0) (qLWords 0) 0 1 0 0
  agTilesL c scale 0 0
  agFwd ⟨k0_dev23 c, k0_dev23_lt c⟩ (qHV 0) (qHWords 0) 0 1 0 1
  agTilesH c scale 0 0
  agFwd ⟨k0_dev24 c, k0_dev24_lt c⟩ (qLV 1) (qLWords 1) 0 1 1 0
  agTilesL c scale 0 1
  agFwd ⟨k0_dev25 c, k0_dev25_lt c⟩ (qHV 1) (qHWords 1) 0 1 1 1
  agTilesH c scale 0 1

/-- The second step of the all-gather. -/
def gather1 (c : Dev nD) (scale : F .f32) : TP F PUnit := do
  agFwd ⟨k0_dev26 c, k0_dev26_lt c⟩ (aV 0 0 0) (aWords 0 0 0) 1 2 0 0
  agTilesL c scale 1 0
  agFwd ⟨k0_dev27 c, k0_dev27_lt c⟩ (aV 0 0 1) (aWords 0 0 1) 1 2 0 1
  agTilesH c scale 1 0
  agFwd ⟨k0_dev28 c, k0_dev28_lt c⟩ (aV 0 1 0) (aWords 0 1 0) 1 2 1 0
  agTilesL c scale 1 1
  agFwd ⟨k0_dev29 c, k0_dev29_lt c⟩ (aV 0 1 1) (aWords 0 1 1) 1 2 1 1
  agTilesH c scale 1 1

/-- The last step of the all-gather. -/
def gather2 (c : Dev nD) (scale : F .f32) : TP F PUnit := do
  agWait (aV 1 0 0) (aWords 1 0 0) 2 0 0
  agTilesL c scale 2 0
  agWait (aV 1 0 1) (aWords 1 0 1) 2 0 1
  agTilesH c scale 2 0
  agWait (aV 1 1 0) (aWords 1 1 0) 2 1 0
  agTilesL c scale 2 1
  agWait (aV 1 1 1) (aWords 1 1 1) 2 1 1
  agTilesH c scale 2 1

/-- The body on device `c`. -/
def main' (c : Dev nD) : TP F PUnit := do
  hello c
  front c
  let m ← lastStep c
  let g ← amAll c m
  quantL c (k0_pay79 m g) (k0_pay80 m g)
  quantH c (k0_pay79 m g) (k0_pay80 m g)
  gather0 c (k0_pay80 m g)
  gather1 c (k0_pay80 m g)
  gather2 c (k0_pay80 m g)
  ending c

set_option maxRecDepth 65536 in
set_option maxHeartbeats 4000000 in
/-- The printed body is the body in pieces. -/
theorem body_eq (t : Fin cfg0.N) : bodyAt0 (F := F) t = ((Prog.lift .deviceId : TP F (Dev nD)) >>= fun c => main' c) := by
  chain_rfl

end Cert.KernelIdeal.Gen

end
-- ==== Proof.Contents.lean ====
/-
  What every buffer holds after the run, as functions of row and column.

  The partial products, the sums the ring carries round, the clipped sums, the largest element, the
  quantised integers and the result: each a plain function of the inputs, over any float values, built from the
  scalar operations in the order the kernel performs them.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

set_option synthInstance.maxSize 4096

noncomputable section

namespace Cert.KernelIdeal.Gen

open Idealize.ShloMosaic Idealize.ShloMosaic.TcCoe Idealize.SL Idealize.SL.Sem

variable {F : FTy → Type} [FloatOps F]

/-! ### Scalar steps -/

/-- Add two partial sums and round. -/
def comb (a b : F .bf16) : F .bf16 :=
  FloatOps.truncf .bf16 bitsLt_bf16_f32 (FloatOps.addf (FloatOps.extf .f32 bitsLt_bf16_f32 a) (FloatOps.extf .f32 bitsLt_bf16_f32 b))

/-- Add two partial sums and clip at zero. -/
def last32 (a b : F .bf16) : F .f32 :=
  FloatOps.maximumf (FloatOps.addf (FloatOps.extf .f32 bitsLt_bf16_f32 a) (FloatOps.extf .f32 bitsLt_bf16_f32 b)) (Scalar.ofBits .f32 0x00000000#32)

/-- Round a clipped sum. -/
def trunc16 (v : F .f32) : F .bf16 := FloatOps.truncf .bf16 bitsLt_bf16_f32 v

/-- The rounded and clipped quotient. -/
def q81 (inv : F .f32) (y : F .bf16) : F .f32 :=
  FloatOps.minimumf (Scalar.ofBits .f32 0x42FE0000#32) (FloatOps.maximumf (Scalar.ofBits .f32 0xC2FE0000#32) (FloatOps.roundeven (FloatOps.mulf (FloatOps.extf .f32 bitsLt_bf16_f32 y) inv)))

/-- The quantised integer. -/
def qi (inv : F .f32) (y : F .bf16) : BitVec 8 := FloatOps.fptosi 8 (q81 inv y)

/-- The result at an element the device quantised itself. -/
def o83 (inv scale : F .f32) (y : F .bf16) : F .f32 := FloatOps.mulf (q81 inv y) scale

/-- The result at an element whose integer was gathered. -/
def o111 (scale : F .f32) (q : BitVec 8) : F .f32 := FloatOps.mulf (FloatOps.sitofp .f32 q) scale

omit [FloatOps F] in
/-- A reshape to the same shape changes nothing. -/
theorem shapeCast_same {s : Shape} {α : Type} (v : s.Idx → α) (h : s.ShapeCasts s) : shapeCast s v h = v :=
  funext fun i => congrArg v (Shape.reshapeEquiv_self _ i)

/-- The sum of two tiles that a ring step stores, element by element. -/
theorem pay26_apply (a b : Vec F S256x4096 .bf16) (p : S256x4096.Idx) : k0_pay26 a b p = comb (a p) (b p) := by
  unfold k0_pay26; simp only [shapeCast_same]; rfl
/-- The last ring step's clipped sum of two tiles, element by element. -/
theorem pay59_apply (a b : Vec F S256x4096 .bf16) (p : S256x4096.Idx) : k0_pay59 a b p = last32 (a p) (b p) := by
  unfold k0_pay59; rfl
/-- The rounding of a tile of clipped sums, element by element. -/
theorem pay62_apply (v : FVec F S256x4096 .f32) (p : S256x4096.Idx) : k0_pay62 v p = trunc16 (v p) := by
  unfold k0_pay62; simp only [shapeCast_same]; rfl
/-- The integers made of a tile, element by element. -/
theorem pay82_apply (inv : F .f32) (y : Vec F S256x4096 .bf16) (p : S256x4096.Idx) : k0_pay82 inv y p = qi inv (y p) := by
  unfold k0_pay82 k0_pay81; simp only [shapeCast_same]; rfl
/-- The result made of a tile that the device quantised itself, element by element. -/
theorem pay83_apply (inv scale : F .f32) (y : Vec F S256x4096 .bf16) (p : S256x4096.Idx) : k0_pay83 inv scale y p = o83 inv scale (y p) := by
  unfold k0_pay83 k0_pay81; simp only [shapeCast_same]; rfl
/-- The result made of a tile of gathered integers, element by element. -/
theorem pay111_apply (scale : F .f32) (q : Vec F S256x4096 .i8) (p : S256x4096.Idx) : k0_pay111 scale q p = o111 scale (q p) := by
  unfold k0_pay111; simp only [shapeCast_same]; rfl

/-! ### Contents -/

/-- A function of row and column as contents of a table. -/
abbrev bf2 {A B : ℕ} {α : Type} (g : ℕ → ℕ → α) : (⟨2, ![A, B]⟩ : Shape).Idx → α := fun i => g (i 0).val (i 1).val
/-- A function of slot, row and column as contents of a stack of tables. -/
abbrev bf3 {A B C : ℕ} {α : Type} (g : ℕ → ℕ → ℕ → α) : (⟨3, ![A, B, C]⟩ : Shape).Idx → α := fun i => g (i 0).val (i 1).val (i 2).val

/-- An index of a block, coordinates taken around the block. -/
def ixG (r c : ℕ) : S1024x1024.Idx :=
  fun a => ⟨(![r % 1024, c % 1024] : Fin 2 → ℕ) a, by
    revert a; rw [Fin.forall_fin_two]; exact ⟨Nat.mod_lt _ (by decide), Nat.mod_lt _ (by decide)⟩⟩

variable (m : (ℓ : Loc nD τ sig) → Buf (Elt F) ℓ)

/-- `x` on device `c`. -/
abbrev xC (c : Dev nD) : Buf (Elt F) ((c : Thread nD τ).loc main_arg0) := m ((c : Thread nD τ).loc main_arg0)
/-- `w` on device `c`. -/
abbrev wC (c : Dev nD) : Buf (Elt F) ((c : Thread nD τ).loc main_arg1) := m ((c : Thread nD τ).loc main_arg1)

/-- Block `b` of the product of device `c`'s `x` and `w`, in the rows of chunk `j`. -/
def Pblk (c : Dev nD) (j : Fin 4) (b : Fin 8) : FVec F S1024x1024 .bf16 :=
  k0_pay1 ((xV ![1024 * j.val, 0] j rfl).view.read (Elt F) (xC m c)) ((wV b).view.read (Elt F) (wC m c))

/-- Device `c`'s partial product. -/
def Pn (c : Dev nD) (r col : ℕ) : F .bf16 :=
  Pblk m c ⟨(r / 1024) % 4, Nat.mod_lt _ (by decide)⟩ ⟨(col / 1024) % 8, Nat.mod_lt _ (by decide)⟩ (ixG r col)

/-- How far the neighbour is that device receives from, in each half. -/
abbrev src (d : Fin 2) : ℕ := if d = 0 then 3 else 1
/-- How far the neighbour is that the device sends to, in each half. -/
abbrev hop (d : Fin 2) : ℕ := if d = 0 then 1 else 3

/-- The sum that device `c` sends at step `s` in half `d`. -/
def ring (d : Fin 2) : ℕ → Dev nD → ℕ → ℕ → F .bf16
  | 0, c, r, col => Pn m c r col
  | s + 1, c, r, col => comb (Pn m c r col) (ring d s (ch c (src d)) r col)

/-- The clipped sum before rounding. -/
def clip (d : Fin 2) (c : Dev nD) (r col : ℕ) : F .f32 := last32 (Pn m c r col) (ring m d 2 (ch c (src d)) r col)

/-- The clipped sum. -/
def fin16 (d : Fin 2) (c : Dev nD) (r col : ℕ) : F .bf16 := trunc16 (clip m d c r col)

/-- Which chunk the device receives into at step `s`, counted from its own. -/
abbrev rcv (d : Fin 2) (s : ℕ) : ℕ := if d = 0 then 3 - s else 1 + s
/-- Which chunk the device sends at step `s`. -/
abbrev snd (d : Fin 2) (s : ℕ) : ℕ := if d = 0 then 4 - s else s

/-- What the reduce-scatter's receive buffer holds on device `c`. -/
def RR (c : Dev nD) (s r col : ℕ) : F .bf16 :=
  if col < 4096 then ring m 0 s (ch c 3) (1024 * (ch c (rcv 0 s)).val + r) col
  else ring m 1 s (ch c 1) (1024 * (ch c (rcv 1 s)).val + r) col

/-- A tile of the clipped sums of device `c`. -/
def Vt (c : Dev nD) (k t d : Fin 2) : FVec F S256x4096 .f32 :=
  bf2 fun r col => clip m d c (1024 * (ch c (rcv d 2)).val + 512 * k.val + 256 * t.val + r) (4096 * d.val + col)

/-- Fold the maxima of two tiles into `x`. -/
def fold2 (c : Dev nD) (k d : Fin 2) (x : F .f32) : F .f32 :=
  Scalar.maximumf (Scalar.maximumf x (tileMax (Vt m c k 0 d))) (tileMax (Vt m c k 1 d))

/-- The largest element of device `c`'s clipped sums. -/
def amax (c : Dev nD) : F .f32 :=
  fold2 m c 1 1 (fold2 m c 1 0 (fold2 m c 0 1 (fold2 m c 0 0 (Scalar.ofBits .f32 0x00000000#32))))

/-- The maxima that device `c` receives: slot `i` from the device `i` places to the left. -/
def MR (c : Dev nD) (i r col : ℕ) : F .f32 := amax m (ch c (4 - i))

/-- The largest of the maxima received. -/
def gmx (c : Dev nD) : FVec F S1x1x1x1 .f32 := k0_pay77 (bf3 fun i r col => MR m c (1 + i) r col)

/-- The factor that quantises. -/
def invC (c : Dev nD) : F .f32 := k0_pay79 (amax m c) (gmx m c)
/-- The scale. -/
def sclC (c : Dev nD) : F .f32 := k0_pay80 (amax m c) (gmx m c)

/-- The integers that device `c` makes. -/
def qn (d : Fin 2) (c : Dev nD) (r col : ℕ) : BitVec 8 := qi (invC m c) (fin16 m d c r col)

/-- What the quantised chunk of half `d` holds on device `c`. -/
def QQ (d : Fin 2) (c : Dev nD) (r col : ℕ) : BitVec 8 := qn m d c (1024 * (ch c (rcv d 2)).val + r) (4096 * d.val + col)

/-- What the all-gather's receive buffer holds on device `c`. -/
def AG (c : Dev nD) (h r col : ℕ) : BitVec 8 :=
  if col < 4096 then QQ m 0 (ch c (3 - h)) r col else QQ m 1 (ch c (1 + h)) r (col - 4096)

/-- The device that owns a row, in each half. -/
def owner (d : Fin 2) (r : ℕ) : Dev nD := ch ⟨(r / 1024) % 4, Nat.mod_lt _ (by decide)⟩ (if d = 0 then 3 else 1)

/-- The result in half `d` on device `c`. -/
def OUTd (d : Fin 2) (c : Dev nD) (r col : ℕ) : F .f32 :=
  if owner d r = c then o83 (invC m c) (sclC m c) (fin16 m d c r col) else o111 (sclC m c) (qn m d (owner d r) r col)

/-- The result on device `c`. -/
def OUT (c : Dev nD) (r col : ℕ) : F .f32 := if col < 4096 then OUTd m 0 c r col else OUTd m 1 c r col

/-! ### Reading the pieces -/

/-- Contents at a place of a rectangle. -/
theorem bf2_emb {A B h w o₀ o₁ : ℕ} {α : Type} (g : ℕ → ℕ → α) (inb) (p : (⟨2, ![h, w]⟩ : Shape).Idx) :
    bf2 g ((Rect.unit (s := ⟨2, ![A, B]⟩) ![o₀, o₁] ![h, w] inb).emb p) = g (o₀ + (p 0).val) (o₁ + (p 1).val) := by
  show g (o₀ + 1 * (p 0).val) (o₁ + 1 * (p 1).val) = _
  rw [one_mul, one_mul]

/-- Contents at a place of a rectangle of one slot of a stack. -/
theorem bf3_emb {A B C h w i o₀ o₁ : ℕ} {α : Type} (g : ℕ → ℕ → ℕ → α) (inb) (p : (⟨2, ![h, w]⟩ : Shape).Idx)
    (hn : (⟨2, ![h, w]⟩ : Shape).numel = (⟨3, ![1, h, w]⟩ : Shape).numel) :
    bf3 g ((Rect.unit (s := ⟨3, ![A, B, C]⟩) ![i, o₀, o₁] ![1, h, w] inb).emb (Shape.reshapeEquiv hn p)) = g i (o₀ + (p 0).val) (o₁ + (p 1).val) := by
  rw [Shape.reshapeEquiv_cons_one (d := ![h, w]) hn p]
  show g (i + 1 * 0) (o₀ + 1 * (p 0).val) (o₁ + 1 * (p 1).val) = _
  rw [one_mul, one_mul, one_mul, add_zero]

omit [FloatOps F] in
/-- A block of the accumulator reads. -/
theorem read_gV (o : Fin 2 → ℕ) (j : Fin 4) (b : Fin 8) (ho) (g : ℕ → ℕ → F .bf16) :
    (gV o j b ho).view.read (Elt F) (bf2 g) = bf2 fun r c => g (1024 * j.val + r) (1024 * b.val + c) := by
  subst ho; exact funext fun p => bf2_emb g _ p

omit [FloatOps F] in
/-- A sub-chunk of the accumulator reads. -/
theorem read_cV (o : Fin 2 → ℕ) (j : Fin 4) (k d : Fin 2) (ho) (g : ℕ → ℕ → F .bf16) :
    (cV o j k d ho).view.read (Elt F) (bf2 g) = bf2 fun r c => g (1024 * j.val + 512 * k.val + r) (4096 * d.val + c) := by
  subst ho; exact funext fun p => bf2_emb g _ p

omit [FloatOps F] in
/-- A tile of the accumulator reads. -/
theorem read_tV (o : Fin 2 → ℕ) (j : Fin 4) (k t d : Fin 2) (ho) (g : ℕ → ℕ → F .bf16) :
    (tV o j k t d ho).view.read (Elt F) (bf2 g) = bf2 fun r c => g (1024 * j.val + 512 * k.val + 256 * t.val + r) (4096 * d.val + c) := by
  subst ho; exact funext fun p => bf2_emb g _ p

omit [FloatOps F] in
/-- A tile of the result reads. -/
theorem read_oV (o : Fin 2 → ℕ) (j : Fin 4) (k t d : Fin 2) (ho) (g : ℕ → ℕ → F .f32) :
    (oV o j k t d ho).view.read (Elt F) (bf2 g) = bf2 fun r c => g (1024 * j.val + 512 * k.val + 256 * t.val + r) (4096 * d.val + c) := by
  subst ho; exact funext fun p => bf2_emb g _ p

omit [FloatOps F] in
/-- Half of a quantised low chunk reads. -/
theorem read_qLV (k : Fin 2) (g : ℕ → ℕ → BitVec 8) :
    (qLV k).view.read (Elt F) (bf2 g) = bf2 fun r c => g (512 * k.val + r) (0 + c) :=
  funext fun p => bf2_emb g _ p

omit [FloatOps F] in
/-- Half of a quantised high chunk reads. -/
theorem read_qHV (k : Fin 2) (g : ℕ → ℕ → BitVec 8) :
    (qHV k).view.read (Elt F) (bf2 g) = bf2 fun r c => g (512 * k.val + r) (0 + c) :=
  funext fun p => bf2_emb g _ p

omit [FloatOps F] in
/-- A sub-chunk of the reduce-scatter's receive buffer reads. -/
theorem read_rV (s : Fin 3) (k d : Fin 2) (g : ℕ → ℕ → ℕ → F .bf16) :
    (rV s k d).view.read (Elt F) (bf3 g) = bf2 fun r c => g s.val (512 * k.val + r) (4096 * d.val + c) :=
  funext fun p => bf3_emb g _ p _

omit [FloatOps F] in
/-- A tile of the reduce-scatter's receive buffer reads. -/
theorem read_rtV (s : Fin 3) (k t d : Fin 2) (g : ℕ → ℕ → ℕ → F .bf16) :
    (rtV s k t d).view.read (Elt F) (bf3 g) = bf2 fun r c => g s.val (512 * k.val + 256 * t.val + r) (4096 * d.val + c) :=
  funext fun p => bf3_emb g _ p _

omit [FloatOps F] in
/-- A sub-chunk of the all-gather's receive buffer reads. -/
theorem read_aV (s : Fin 3) (k d : Fin 2) (g : ℕ → ℕ → ℕ → BitVec 8) :
    (aV s k d).view.read (Elt F) (bf3 g) = bf2 fun r c => g s.val (512 * k.val + r) (4096 * d.val + c) :=
  funext fun p => bf3_emb g _ p _

omit [FloatOps F] in
/-- A tile of the all-gather's receive buffer reads. -/
theorem read_atV (s : Fin 3) (k t d : Fin 2) (g : ℕ → ℕ → ℕ → BitVec 8) :
    (atV s k t d).view.read (Elt F) (bf3 g) = bf2 fun r c => g s.val (512 * k.val + 256 * t.val + r) (4096 * d.val + c) :=
  funext fun p => bf3_emb g _ p _

omit [FloatOps F] in
/-- A slot of the maxima received reads. -/
theorem read_mV (i : Fin 3) (g : ℕ → ℕ → ℕ → F .f32) :
    (mV i).view.read (Elt F) (bf3 g) = bf2 fun r c => g (i.val + 1) (0 + r) (0 + c) :=
  funext fun p => bf3_emb g _ p _

/-- Writing what a piece of `g` reads makes the piece `g`. -/
theorem write_eq_of_read {Val : EltTy → Type} {sg : RefSig} {κ : Kind} {sp : Space} {s : Shape} {e : EltTy} {v : View sg κ sp s e} {g fd : v.ty.Contents Val}
    {X : s.Idx → Val e} (h : v.read Val g = X) : ∀ i ∈ v.set, v.write Val fd X Finset.univ i = g i := by
  intro i hi
  obtain ⟨x, -, rfl⟩ := Finset.mem_map.mp hi
  rw [View.write_emb_of_mem _ _ (Finset.mem_univ x), ← h, View.read_apply, cast_cast, cast_eq]

end Cert.KernelIdeal.Gen

end
-- ==== Proof.Protocol.lean ====
/-
  The protocol between the devices.

  Each transfer has a cell for its send and one for its arrival; each device has a barrier cell.
  An arrival hands the receiver the piece that came, the barrier hands it the places that it will send to.
-/
module

public import proofs.«01_k».proof.Proof.Contents

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ### The resource algebra -/

/-- The rounds' ghost state: every cell's duties are named by a truth value. -/
abbrev UB : Type := URounds (GSem nD τ sig) Bool
/-- All the ghost state. -/
abbrev UU : Type := UR sig nD τ × (UB × Counters)

local notation "𝕄" => MT nD τ sig Unit (Elt F) ℕ UU ℕ

/-- Where the pipeline's ghost state lies in it. -/
abbrev EP : Emb (UR sig nD τ) (MT nD τ sig Unit (Elt F) ℕ UU ℕ) := embL
/-- Where the rounds' ghost state lies in it. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- Where the counters lie in it. -/
abbrev EC : UEmb Counters (MT nD τ sig Unit (Elt F) ℕ UU ℕ) := countersEmb

/-- No loop needs a variant. -/
abbrev 𝒱₀ : Variants := Variants.none

variable (m : (ℓ : Loc nD τ sig) → Buf (Elt F) ℓ) (ρ : Dev nD → PrngReg)

/-! ### Transfers and cells -/

/-- A transfer between devices: a sub-chunk of the sums at a step, of the integers at a step, a maximum. -/
inductive Xf : Type
  | rs (s : Fin 3) (k d : Fin 2)
  | ag (h : Fin 3) (k d : Fin 2)
  | am (i : Fin 3)
  deriving DecidableEq

/-- Transfers are counted by their parts. -/
def xfEquiv : (Fin 3 × Fin 2 × Fin 2) ⊕ (Fin 3 × Fin 2 × Fin 2) ⊕ Fin 3 ≃ Xf where
  toFun | .inl (s, k, d) => .rs s k d | .inr (.inl (h, k, d)) => .ag h k d | .inr (.inr i) => .am i
  invFun | .rs s k d => .inl (s, k, d) | .ag h k d => .inr (.inl (h, k, d)) | .am i => .inr (.inr i)
  left_inv x := by rcases x with ⟨_, _, _⟩ | ⟨_, _, _⟩ | _ <;> rfl
  right_inv x := by cases x <;> rfl
instance : Fintype Xf := Fintype.ofEquiv _ xfEquiv

/-- The semaphore raised when a transfer's source has been read. -/
def sS : Xf → DmaSem sig
  | .rs s k d => rsS s k d
  | .ag h k d => agS h k d
  | .am i => amS i
/-- The semaphore raised when a transfer has arrived. -/
def sR : Xf → DmaSem sig
  | .rs s k d => rsR s k d
  | .ag h k d => agR h k d
  | .am i => amR i
/-- How far to the right a transfer goes. -/
def hp : Xf → ℕ
  | .rs _ _ d => hop d
  | .ag _ _ d => hop d
  | .am i => i.val + 1

/-- The number of a send semaphore. -/
def nS : Xf → ℕ
  | .rs s k d => 4 * s.val + 2 * k.val + d.val
  | .ag h k d => 24 + (4 * h.val + 2 * k.val + d.val)
  | .am i => 48 + i.val
/-- The number of an arrival semaphore. -/
def nR : Xf → ℕ
  | .rs s k d => 12 + (4 * s.val + 2 * k.val + d.val)
  | .ag h k d => 36 + (4 * h.val + 2 * k.val + d.val)
  | .am i => 51 + i.val

/-- The number of a transfer's send semaphore. -/
theorem sS_val (x : Xf) : (sS x).val = nS x := by cases x with
  | rs s k d => exact rsS_val s k d
  | ag h k d => exact agS_val h k d
  | am i => exact amS_val i
/-- The number of a transfer's receive semaphore. -/
theorem sR_val (x : Xf) : (sR x).val = nR x := by cases x with
  | rs s k d => exact rsR_val s k d
  | ag h k d => exact agR_val h k d
  | am i => exact amR_val i

/-- Different transfers have different send semaphores, by number. -/
theorem nS_inj : ∀ x y : Xf, nS x = nS y → x = y := by decide +kernel
/-- Different transfers have different receive semaphores, by number. -/
theorem nR_inj : ∀ x y : Xf, nR x = nR y → x = y := by decide +kernel
/-- No send semaphore is a receive semaphore, by number. -/
theorem nS_ne_nR : ∀ x y : Xf, nS x ≠ nR y := by decide +kernel
/-- Different transfers have different send semaphores. -/
theorem sS_inj {x y : Xf} (h : sS x = sS y) : x = y := nS_inj x y (by rw [← sS_val, ← sS_val, h])
/-- Different transfers have different receive semaphores. -/
theorem sR_inj {x y : Xf} (h : sR x = sR y) : x = y := nR_inj x y (by rw [← sR_val, ← sR_val, h])
/-- No send semaphore is a receive semaphore. -/
theorem sS_ne_sR {x y : Xf} : sS x ≠ sR y := fun h => nS_ne_nR x y (by rw [← sS_val, ← sR_val, h])
/-- The send semaphores come before the local copies'. -/
theorem nS_lt : ∀ x, nS x < 54 := by decide +kernel
/-- The receive semaphores come before the local copies'. -/
theorem nR_lt : ∀ x, nR x < 54 := by decide +kernel

/-- The cell of a transfer's send on `c`. -/
abbrev gS (c : Dev nD) (x : Xf) : GSem nD τ sig := ((c : Thread nD τ), .dma (sS x))
/-- The cell of a transfer's arrival on `c`. -/
abbrev gR (c : Dev nD) (x : Xf) : GSem nD τ sig := ((c : Thread nD τ), .dma (sR x))
/-- The barrier cell of `c`. -/
abbrev gB (c : Dev nD) : GSem nD τ sig := ((c : Thread nD τ), .reg barS)

/-- The semaphores of one device that the protocol uses. -/
def csem : Option (Xf × Bool) → SemLoc sig
  | none => .reg barS
  | some (x, false) => .dma (sS x)
  | some (x, true) => .dma (sR x)
/-- The cells. -/
abbrev kcell (ck : Dev nD × Option (Xf × Bool)) : GSem nD τ sig := ((ck.1 : Thread nD τ), csem ck.2)

/-- The credit of a sub-chunk of sums. -/
def NR : ℕ := (rV 0 0 0).view.dmaCredit
/-- The credit of a sub-chunk of integers. -/
def NA : ℕ := (aV 0 0 0).view.dmaCredit
/-- The credit of a maximum. -/
def NM : ℕ := (mV 0).view.dmaCredit
/-- A sub-chunk of sums moves something. -/
theorem NR_pos : 0 < NR := View.dmaCredit_pos _ (by decide)
/-- A sub-chunk of integers moves something. -/
theorem NA_pos : 0 < NA := View.dmaCredit_pos _ (by decide)
/-- A maximum moves something. -/
theorem NM_pos : 0 < NM := View.dmaCredit_pos _ (by decide)

/-- What one duty of a cell adds to it. -/
def amt : SemLoc sig → ℕ
  | .reg _ => 1
  | .dma q => if q.val < 24 then NR else if q.val < 48 then NA else NM
/-- Every duty adds something. -/
theorem amt_pos (sm : SemLoc sig) : 0 < amt sm := by
  cases sm with
  | reg => exact Nat.one_pos
  | dma q => unfold amt; dsimp only; (repeat' split) <;> first | exact NR_pos | exact NA_pos | exact NM_pos

/-- What a transfer's cells count. -/
def amtX : Xf → ℕ
  | .rs _ _ _ => NR
  | .ag _ _ _ => NA
  | .am _ => NM
/-- What a send adds to its semaphore. -/
theorem amt_sS (x : Xf) : amt (.dma (sS x)) = amtX x := by
  unfold amt; dsimp only; rw [sS_val]
  cases x with
  | rs s k d => exact if_pos (by simp only [nS]; omega)
  | ag h k d => rw [if_neg (by simp only [nS]; omega)]; exact if_pos (by simp only [nS]; omega)
  | am i => rw [if_neg (by simp only [nS]; omega), if_neg (by simp only [nS]; omega)]; rfl
/-- What an arrival adds to its semaphore. -/
theorem amt_sR (x : Xf) : amt (.dma (sR x)) = amtX x := by
  unfold amt; dsimp only; rw [sR_val]
  cases x with
  | rs s k d => exact if_pos (by simp only [nR]; omega)
  | ag h k d => rw [if_neg (by simp only [nR]; omega)]; exact if_pos (by simp only [nR]; omega)
  | am i => rw [if_neg (by simp only [nR]; omega), if_neg (by simp only [nR]; omega)]; rfl

/-! ### Payloads -/

/-- The piece that a memref names on device `c`, at a share. -/
abbrev pt {sp : Space} {s : Shape} {e : EltTy} (c : Dev nD) (M : Memref sig .tc sp s e) (q : PosShare TreeShare) (f : Buf (Elt F) (M.view.loc (c : Thread nD τ))) : sProp 𝕄 :=
  M.view.loc (c : Thread nD τ) ↦[M.view.set]{q} f
/-- The piece that a memref names on device `c`, whatever it holds. -/
abbrev pa {sp : Space} {s : Shape} {e : EltTy} (c : Dev nD) (M : Memref sig .tc sp s e) : sProp 𝕄 := iprop(∃ f, pt (F := F) c M fullShare f)

/-- Where a transfer lands on device `c`. -/
def slot (c : Dev nD) : Xf → sProp 𝕄
  | .rs s k d => pa c (rV s k d)
  | .ag h k d => pa c (aV h k d)
  | .am i => pa c (mV i)

/-- What an arrival also brings: the place on the device opposite that the receiver's maximum will go to. -/
def extra (c : Dev nD) (s : Fin 3) (k d : Fin 2) : sProp 𝕄 := if s = 0 ∧ k = 0 ∧ d = 1 then slot (ch c 2) (.am 1) else iprop(emp)

/-- The three shares of the maximum sent. -/
def third : Fin 3 → PosShare TreeShare
  | 0 => fullShare.left
  | 1 => fullShare.right.left
  | 2 => fullShare.right.right

/-- What an arrival hands device `c`. -/
def PR (c : Dev nD) : Xf → sProp 𝕄
  | .rs s k d => iprop(pt c (rV s k d) fullShare (bf3 (RR m c)) ∗ extra c s k d)
  | .ag h k d => pt c (aV h k d) fullShare (bf3 (AG m c))
  | .am i => pt c (mV i) fullShare (bf3 (MR m c))

/-- What a send hands back to device `c`. -/
def PS (c : Dev nD) : Xf → sProp 𝕄
  | .rs _ _ _ => iprop(emp)
  | .ag h k d => if h = 0 then (if d = 0 then pa c (qLV k) else pa c (qHV k)) else iprop(emp)
  | .am i => pt c bM (third i) (bf2 fun _ _ => amax m c)

/-- The places on device `n` of the transfers in half `d`. -/
def slotsD (n : Dev nD) (d : Fin 2) : sProp 𝕄 :=
  iprop(slot n (.rs 0 0 d) ∗ slot n (.rs 0 1 d) ∗ slot n (.rs 1 0 d) ∗ slot n (.rs 1 1 d) ∗ slot n (.rs 2 0 d) ∗ slot n (.rs 2 1 d)
    ∗ slot n (.ag 0 0 d) ∗ slot n (.ag 0 1 d) ∗ slot n (.ag 1 0 d) ∗ slot n (.ag 1 1 d) ∗ slot n (.ag 2 0 d) ∗ slot n (.ag 2 1 d))

/-- What the barrier hands device `c`: from the right neighbour the places in the low half, from the left
    those in the high half. -/
def PB (c : Dev nD) (b : Bool) : sProp 𝕄 :=
  if b then iprop(slotsD (ch c 3) 1 ∗ slot (ch c 3) (.am 2)) else iprop(slotsD (ch c 1) 0 ∗ slot (ch c 1) (.am 0) ∗ slot (ch c 1) (.am 1))

instance pt_storable {sp : Space} {s : Shape} {e : EltTy} (c : Dev nD) (M : Memref sig .tc sp s e) (q : PosShare TreeShare) (f) :
    BI.Storable (upEmb : UEmb _ 𝕄) (pt (F := F) c M q f) := inferInstance
instance pa_storable {sp : Space} {s : Shape} {e : EltTy} (c : Dev nD) (M : Memref sig .tc sp s e) : BI.Storable (upEmb : UEmb _ 𝕄) (pa (F := F) c M) := inferInstance
instance slot_storable (c : Dev nD) (x : Xf) : BI.Storable (upEmb : UEmb _ 𝕄) (slot (F := F) c x) := by
  cases x with
  | rs s k d => exact pa_storable c (rV s k d)
  | ag h k d => exact pa_storable c (aV h k d)
  | am i => exact pa_storable c (mV i)
instance extra_storable (c : Dev nD) (s : Fin 3) (k d : Fin 2) : BI.Storable (upEmb : UEmb _ 𝕄) (extra (F := F) c s k d) := by
  unfold extra; split <;> infer_instance
instance slotsD_storable (c : Dev nD) (d : Fin 2) : BI.Storable (upEmb : UEmb _ 𝕄) (slotsD (F := F) c d) := by unfold slotsD; infer_instance
instance PR_storable (c : Dev nD) (x : Xf) : BI.Storable (upEmb : UEmb _ 𝕄) (PR m c x) := by
  cases x with
  | rs s k d =>
    have := pt_storable c (rV s k d) fullShare (bf3 (RR m c))
    have := extra_storable (F := F) c s k d
    show BI.Storable upEmb iprop(_ ∗ _)
    infer_instance
  | ag h k d => exact pt_storable c (aV h k d) fullShare (bf3 (AG m c))
  | am i => exact pt_storable c (mV i) fullShare (bf3 (MR m c))
instance PS_storable (c : Dev nD) (x : Xf) : BI.Storable (upEmb : UEmb _ 𝕄) (PS m c x) := by
  cases x with
  | rs s k d => show BI.Storable upEmb iprop(emp); infer_instance
  | ag h k d =>
    show BI.Storable upEmb (if h = 0 then (if d = 0 then pa c (qLV k) else pa c (qHV k)) else iprop(emp))
    (repeat' split)
    · exact pa_storable c (qLV k)
    · exact pa_storable c (qHV k)
    · infer_instance
  | am i => exact pt_storable c bM (third i) _
instance PB_storable (c : Dev nD) (b : Bool) : BI.Storable (upEmb : UEmb _ 𝕄) (PB (F := F) c b) := by
  unfold PB; split <;> infer_instance

open Classical in
/-- What a duty of a cell hands over. -/
def pay (c : Dev nD) (sm : SemLoc sig) (b : Bool) : sProp 𝕄 :=
  match sm with
  | .reg _ => PB c b
  | .dma q => if h : ∃ x, sR x = q then PR m c h.choose else if h : ∃ x, sS x = q then PS m c h.choose else iprop(emp)

instance pay_storable (c : Dev nD) (sm : SemLoc sig) (b : Bool) : BI.Storable (upEmb : UEmb _ 𝕄) (pay m c sm b) := by
  unfold pay; (repeat' split) <;> infer_instance

/-- What an arrival hands over. -/
theorem pay_R (c : Dev nD) (x : Xf) (b : Bool) : pay m c (.dma (sR x)) b = PR m c x := by
  have h : ∃ y, sR y = sR x := ⟨x, rfl⟩
  unfold pay; dsimp only; rw [dif_pos h, sR_inj h.choose_spec]
/-- What a finished send hands back. -/
theorem pay_S (c : Dev nD) (x : Xf) (b : Bool) : pay m c (.dma (sS x)) b = PS m c x := by
  have h : ∃ y, sS y = sS x := ⟨x, rfl⟩
  unfold pay; dsimp only; rw [dif_neg (fun ⟨y, hy⟩ => sS_ne_sR hy.symm), dif_pos h, sS_inj h.choose_spec]

/-! ### The schedule -/

/-- The duties of a device's semaphore in its one round. -/
def dutiesOf : SemLoc sig → Finset Bool
  | .reg _ => Finset.univ
  | .dma q => if q.val < 54 then {false} else ∅

/-- One round: two signals at a barrier cell, one transfer's credit at the others. -/
def Rd : Rounds.Schedule (GSem nD τ sig) Bool 𝕄 where
  duties g r := if r = 0 ∧ g.1.2 = .tc then dutiesOf g.2 else ∅
  unitless _ := False
  amount g _ _ := amt g.2
  payload g _ b := pay m g.1.1 g.2 b
  amount_pos g _ _ _ := amt_pos g.2

instance Rd_payload_storable (g : GSem nD τ sig) (r : ℕ) (d : Bool) : BI.Storable (upEmb : UEmb _ 𝕄) ((Rd m).payload g r d) :=
  pay_storable m g.1.1 g.2 d

/-- There is one round only. -/
theorem duties_later (g : GSem nD τ sig) : ∀ r, 1 ≤ r → (Rd m).duties g r = ∅ :=
  fun r hr => by dsimp only [Rd]; rw [if_neg fun h => by omega]
/-- The duties of that round. -/
theorem duties_0 (c : Dev nD) (sm : SemLoc sig) : (Rd m).duties ((c : Thread nD τ), sm) 0 = dutiesOf sm := by
  dsimp only [Rd]; exact if_pos ⟨rfl, rfl⟩
/-- The barrier's duties: one from each neighbour. -/
theorem duties_B (c : Dev nD) : (Rd m).duties (gB c) 0 = Finset.univ := duties_0 m c _
/-- A send semaphore's one duty. -/
theorem duties_S (c : Dev nD) (x : Xf) : (Rd m).duties (gS c x) 0 = {false} := by
  rw [duties_0]; exact if_pos (by rw [sS_val]; exact nS_lt x)
/-- A receive semaphore's one duty. -/
theorem duties_R (c : Dev nD) (x : Xf) : (Rd m).duties (gR c x) 0 = {false} := by
  rw [duties_0]; exact if_pos (by rw [sR_val]; exact nR_lt x)

/-- The barrier waits for two. -/
theorem expect_B (c : Dev nD) : (Rd m).expect (gB c) 0 = 2 := by
  unfold Schedule.expect Schedule.amountOf; rw [duties_B]; rfl
/-- A send's wait is for the whole copy. -/
theorem expect_S (c : Dev nD) (x : Xf) : (Rd m).expect (gS c x) 0 = amtX x := by
  unfold Schedule.expect Schedule.amountOf; rw [duties_S, Finset.sum_singleton]; exact amt_sS x
/-- An arrival's wait is for the whole copy. -/
theorem expect_R (c : Dev nD) (x : Xf) : (Rd m).expect (gR c x) 0 = amtX x := by
  unfold Schedule.expect Schedule.amountOf; rw [duties_R, Finset.sum_singleton]; exact amt_sR x

/-- What waiting on the barrier yields. -/
theorem rest_B (c : Dev nD) : bigSep ((Rd m).duties (gB c) 0 \ ∅) (fun d => (Rd m).payload (gB c) 0 d) = iprop(PB (F := F) c false ∗ PB c true) := by
  rw [Finset.sdiff_empty, duties_B, bigSep_univ_eq_bigSepL [false, true] (by decide) (by decide), bigSepL_cons_cons, bigSepL_singleton]; rfl
/-- What waiting for a send yields. -/
theorem rest_S (c : Dev nD) (x : Xf) : bigSep ((Rd m).duties (gS c x) 0 \ ∅) (fun d => (Rd m).payload (gS c x) 0 d) = PS m c x := by
  rw [Finset.sdiff_empty, duties_S, bigSep_singleton]; exact pay_S m c x false
/-- What waiting for an arrival yields. -/
theorem rest_R (c : Dev nD) (x : Xf) : bigSep ((Rd m).duties (gR c x) 0 \ ∅) (fun d => (Rd m).payload (gR c x) 0 d) = PR m c x := by
  rw [Finset.sdiff_empty, duties_R, bigSep_singleton]; exact pay_R m c x false

/-! ### Levels and what is owed -/

/-- The level of a semaphore: every wait is for one below all that is still owed. -/
def lvl : SemLoc sig → ℕ
  | .reg _ => 1
  | .dma q =>
    if q.val < 12 then 0 else if q.val < 24 then 2 + (q.val - 12) / 4 else if q.val < 36 then 0
    else if q.val < 48 then 6 + (q.val - 36) / 4 else if q.val < 51 then 0 else if q.val < 54 then 5 else 0

/-- Every cell of a core has one level to its name. -/
def L (g : GSem nD τ sig) : Finset Unit := if g.1.2 = .tc then {()} else ∅
/-- The level of a cell. -/
def lv (g : GSem nD τ sig) (_ : Unit) : ℕ := lvl g.2
/-- Other threads have no level. -/
theorem L_of_ne (g : GSem nD τ sig) (h : g.1.2 ≠ .tc) : L g = ∅ := if_neg h
/-- A core's cell has its level. -/
theorem L_tc (c : Dev nD) (sm : SemLoc sig) : L ((c : Thread nD τ), sm) = {()} := if_pos rfl

/-- What device `c` still owes: a list of distances and semaphores. -/
def Ot (c : Dev nD) (l : List (ℕ × SemLoc sig)) : CellTallies nD τ sig Unit :=
  (l.map fun p => tallyAt ((ch c p.1 : Thread nD τ), p.2) () (amt p.2)).sum

/-- Owing one thing more. -/
theorem Ot_cons (c : Dev nD) (p : ℕ × SemLoc sig) (l) : Ot c (p :: l) = Ot c l + tallyAt ((ch c p.1 : Thread nD τ), p.2) () (amt p.2) := by
  unfold Ot; rw [List.map_cons, List.sum_cons, add_comm]

/-- What is owed is on the list. -/
theorem Ot_pos {c : Dev nD} {l : List (ℕ × SemLoc sig)} {g : GSem nD τ sig} {u : Unit} (h : 0 < Ot c l g u) :
    ∃ p ∈ l, g = ((ch c p.1 : Thread nD τ), p.2) := by
  induction l with
  | nil => exact absurd h (Nat.lt_irrefl 0)
  | cons p l ih =>
    rw [Ot_cons, Pi.add_apply, Finsupp.add_apply, tallyAt_apply] at h
    by_cases hg : g = ((ch c p.1 : Thread nD τ), p.2) ∧ u = ()
    · exact ⟨p, List.mem_cons_self, hg.1⟩
    · rw [if_neg hg, add_zero] at h
      obtain ⟨q, hq, e⟩ := ih h
      exact ⟨q, List.mem_cons_of_mem _ hq, e⟩

/-- Everything in the list lies above level `n`. -/
abbrev Above (n : ℕ) (l : List (ℕ × SemLoc sig)) : Prop := ∀ p ∈ l, n < lvl p.2

omit [FloatOps F] in
/-- A device may wait on a semaphore that lies below everything it still owes. -/
theorem mayWait (c : Dev nD) (sm : SemLoc sig) (l : List (ℕ × SemLoc sig)) (h : Above (lvl sm) l) :
    (levAts L lv : sProp 𝕄) ⊢ MayWait (c : Thread nD τ) sm () (Ot c l) :=
  MayOwe.of_cut (L := L) (lev := lv) (lvl sm) (fun p hp => by rw [Finset.mem_singleton.mp hp, L_tc]; exact Finset.mem_singleton_self _)
    (fun g u hg => by obtain ⟨p, -, rfl⟩ := Ot_pos hg; rw [L_tc]; exact Finset.mem_singleton_self _)
    (fun p hp => by rw [Finset.mem_singleton.mp hp]; exact le_refl _)
    (fun g u hg => by obtain ⟨p, hp, rfl⟩ := Ot_pos hg; exact h p hp)

/-! ### What holds throughout -/

/-- The cells' invariants and that each has reached its round. -/
def Recs (K : Dev nD × Option (Xf × Bool) → ℕ) : sProp 𝕄 :=
  bigSep Finset.univ fun ck => iprop(cellInv ER (Rd m) (K ck) (kcell ck) ∗ reached ER (kcell ck) 0)
instance Recs_persistent (K) : BI.Persistent (Recs m K) := by unfold Recs; infer_instance

/-- The records, at some names, and the levels. -/
def Amb : sProp 𝕄 := iprop((∃ K, Recs m K) ∗ levAts L lv)
instance Amb_persistent : BI.Persistent (Amb m) := by unfold Amb; infer_instance

/-- The invariant of one cell, out of all of them. -/
theorem amb_at (c : Dev nD) (j : Option (Xf × Bool)) :
    Amb m ⊢ iprop(∃ κ, cellInv ER (Rd m) κ (kcell (c, j)) ∗ reached ER (kcell (c, j)) 0) := by
  have h : ∀ K, Recs m K ⊢ iprop(cellInv ER (Rd m) (K (c, j)) (kcell (c, j)) ∗ reached ER (kcell (c, j)) 0) :=
    fun K => by unfold Recs; exact bigSep_elim (Finset.mem_univ (c, j))
  unfold Amb
  iintro ⟨⟨%K, HK⟩, -⟩
  ihave H := (h K) $$ HK
  iexists (K (c, j))
  iexact H

/-- What device `c` still owes, with the records. -/
def Ow (c : Dev nD) (l : List (ℕ × SemLoc sig)) : sProp 𝕄 := iprop(Amb m ∗ ∃ W, owes (c : Thread nD τ) (Ot c l) W)

/-- What device `c` sends a transfer with. -/
def Tk (c : Dev nD) (x : Xf) : sProp 𝕄 := iprop(dutyTok ER (gS c x) 0 false ∗ dutyTok ER (gR (ch c (hp x)) x) 0 false)
/-- What device `c` waits for an arrival with. -/
def Wt (c : Dev nD) (x : Xf) : sProp 𝕄 := iprop(atPos ER (gR c x) 0 ∅ 0 ∗ cred (tallyAt (gR c x) () (amtX x)))
/-- What device `c` waits for a send with. -/
def Sd (c : Dev nD) (x : Xf) : sProp 𝕄 := cred (tallyAt (gS c x) () (amtX x))
/-- The sender's place in the round of a send semaphore. -/
def Sp (c : Dev nD) (x : Xf) : sProp 𝕄 := atPos ER (gS c x) 0 ∅ 0

/-! ### Steps -/

/-- Running a part of the body on device `c`. -/
abbrev W (c : Dev nD) {α : Type} (p : TP F α) (Q : α → sProp 𝕄) : sProp 𝕄 :=
  wp frame (wpE (defs₀ (F := F)) 𝒱₀ (c : Thread nD τ) none) Set.univ p Q

/-- Run a piece whose effect is known, then the rest. -/
theorem use {c : Dev nD} {α β : Type} {P : sProp 𝕄} {p : TP F α} {R : α → sProp 𝕄} (h : P ⊢ W c p R) (k : α → TP F β) (Q : β → sProp 𝕄) :
    P ⊢ iprop((∀ x, R x -∗ W c (k x) Q) -∗ W c (p >>= k) Q) := by
  show P ⊢ iprop((∀ x, R x -∗ W c (k x) Q) -∗ wp _ _ _ (p >>= k) Q)
  rw [wp_bind]
  iintro HP Hk
  ihave H := h $$ HP
  iapply (wp_wand_r (Fr := frame) (wpE := wpE (defs₀ (F := F)) 𝒱₀ (c : Thread nD τ) none) (E := Set.univ))
  isplitl [H]; · iexact H
  iexact Hk

/-- Run a last piece whose effect is known. -/
theorem useE {c : Dev nD} {α : Type} {P : sProp 𝕄} {p : TP F α} {R : α → sProp 𝕄} (h : P ⊢ W c p R) (Q : α → sProp 𝕄) :
    P ⊢ iprop((∀ x, R x -∗ Q x) -∗ W c p Q) := by
  iintro HP Hk
  ihave H := h $$ HP
  iapply (wp_wand_r (Fr := frame) (wpE := wpE (defs₀ (F := F)) 𝒱₀ (c : Thread nD τ) none) (E := Set.univ))
  isplitl [H]; · iexact H
  iexact Hk

/-- Send a transfer. -/
theorem send_tr {c n : Dev nD} {sp sp' : Space} {s : Shape} {e : EltTy} (x : Xf) {src : Memref sig .tc sp s e} {dst : Memref sig .tc sp' s e}
    {hsrc : src.view.WordExact} {hdst : dst.view.WordExact} {hsc} {hsem : DmaTarget.Typed sp (.dma (sR x)) (.remote (Dev.tc n : Thread nD τ) dst (.dma (sS x)) hsc)}
    (hn : n = ch c (hp x)) (hN : dst.view.dmaCredit = amtX x) {l : List (ℕ × SemLoc sig)} {q : PosShare TreeShare}
    (fs : Buf (Elt F) (src.view.loc (c : Thread nD τ))) (fr : Buf (Elt F) (dst.view.loc (n : Thread nD τ))) (X : sProp 𝕄)
    (hps : pt c src q fs ⊢ PS m c x) (hpr : iprop(pt n dst fullShare fr ∗ X) ⊢ PR m n x)
    (hrd : dst.view.read (Elt F) fr = src.view.read (Elt F) fs) :
    iprop(Ow m c ((hp x, .dma (sR x)) :: l) ∗ Tk c x ∗ pa n dst ∗ pt c src q fs ∗ X)
      ⊢ W c (Prog.lift (.enqueueDma src (.remote (Dev.tc n : Thread nD τ) dst (.dma (sS x)) hsc) (.dma (sR x)) hsrc hdst hsem)) (fun _ => iprop(Ow m c l ∗ Sd c x)) := by
  subst hn
  unfold Ow Tk
  iintro ⟨⟨#HA, ⟨%W, HO⟩⟩, ⟨HtS, HtR⟩, ⟨%fd, Hd⟩, Hs, HX⟩
  ihave #HS := (amb_at m c (some (x, false))) $$ HA
  ihave #HR := (amb_at m (ch c (hp x)) (some (x, true))) $$ HA
  icases HS with ⟨%κ₁, #HI₁, #Hr₁⟩
  icases HR with ⟨%κ₂, #HI₂, #Hr₂⟩
  simp only [Prog.lift]
  iapply (Rounds.wp_send_pointsTo_with 𝒱₀ ER (Rd m) (c : Thread nD τ) none (sS := .dma (sS x)) (sem := .dma (sR x)) (κ₁ := κ₁) (κ₂ := κ₂) (r₁ := 0) (r₂ := 0) (d₁ := false) (d₂ := false) (fd := fd) (F := X) (q := q) (fs := fs)
    (by rw [duties_S]; exact Finset.mem_singleton_self _) (by rw [duties_R]; exact Finset.mem_singleton_self _)
    () () (amtX x) hN (amt_sS x) (amt_sR x) (O₀ := Ot c ((hp x, .dma (sR x)) :: l)) (Ot c l) (by rw [Ot_cons, amt_sR]) (W := W)
    (hps.trans (Entails.of_eq (pay_S m c x false).symm))
    ((sep_mono_left (Entails.of_eq (pointsTo_congr (write_eq_of_read hrd)))).trans (hpr.trans (Entails.of_eq (pay_R m (ch c (hp x)) x false).symm)))) $$ [Hs Hd HX HO HtS HtR]
  · isplitr; · iexact HI₁
    isplitr; · iexact HI₂
    isplitl [Hs]; · iexact Hs
    isplitl [Hd HX]; · isplitl [Hd]; · iexact Hd
                       iexact HX
    isplitl [HO]; · iexact HO
    isplitl [HtS]; · iexact HtS
    isplitr; · iexact Hr₁
    isplitl [HtR]; · iexact HtR
    iexact Hr₂
  iintro ⟨HcS, HO⟩
  rw [wp_ret]; imodintro
  isplitl [HO]
  · isplitr; · iexact HA
    iexists W; iexact HO
  unfold Sd
  iexact HcS

/-- Wait for an arrival. -/
theorem recv_tr {c : Dev nD} {sp sp' : Space} {s s' : Shape} {e e' : EltTy} (x : Xf) {src : Memref sig .tc sp s e} {dst : Memref sig .tc sp' s' e'}
    {hsrc : src.view.WordExact} {hdst : dst.view.WordExact} (hN : dst.view.dmaCredit = amtX x) {l : List (ℕ × SemLoc sig)} (hl : Above (lvl (.dma (sR x))) l) :
    iprop(Ow m c l ∗ Wt c x) ⊢ W c (Prog.lift (.waitDma2 (sR x) src dst hsrc hdst)) (fun _ => iprop(Ow m c l ∗ PR m c x ∗ semVal (gR c x) 0)) := by
  unfold Ow Wt
  iintro ⟨⟨#HA, ⟨%W, HO⟩⟩, Hat, Hc⟩
  ihave #HR := (amb_at m c (some (x, true))) $$ HA
  icases HR with ⟨%κ, #HI, -⟩
  simp only [Prog.lift]
  rw [← hN]
  iapply (Rounds.wp_wait_rest_token 𝒱₀ ER (Rd m) (c : Thread nD τ) none (κ := κ)
      (wpE_waitDma2_eq 𝒱₀ (c : Thread nD τ) none Set.univ) (Set.mem_univ _) () (O := Ot c l) (W := W) (R := 0) (m := 0) (T := ∅)
      (by rw [Nat.zero_add]; exact hN.trans (expect_R m c x).symm)) $$ [Hc HO Hat]
  · isplitr; · iexact HI
    isplitl [Hc]; · iexact Hc
    isplitl [HO]; · iexact HO
    isplitr
    · unfold Amb; icases HA with ⟨-, Hl⟩; iapply (mayWait c _ l hl); iexact Hl
    iexact Hat
  iintro ⟨HO, Hat, -, Hpay⟩
  ihave Hp := (Entails.of_eq (rest_R m c x)) $$ Hpay
  rw [wp_ret]
  imod (Rounds.cell_close ER (Rd m) (Set.mem_univ κ) (fun h => h) (R := 0 + 1) (duties_later m (gR c x))) $$ [Hat] with Hz
  · isplitr; · iexact HI
    iexact Hat
  imodintro
  isplitl [HO]
  · isplitr; · iexact HA
    iexists _; iexact HO
  isplitl [Hp]; · iexact Hp
  iexact Hz

/-- Wait for a send to have been read. -/
theorem done_tr {c : Dev nD} {sp sp' : Space} {s s' : Shape} {e e' : EltTy} (x : Xf) {src : Memref sig .tc sp s e} {dst : Memref sig .tc sp' s' e'}
    {hsrc : src.view.WordExact} {hdst : dst.view.WordExact} (hN : dst.view.dmaCredit = amtX x) {l : List (ℕ × SemLoc sig)} (hl : Above (lvl (.dma (sS x))) l) :
    iprop(Ow m c l ∗ Sd c x ∗ Sp c x) ⊢ W c (Prog.lift (.waitDma2 (sS x) src dst hsrc hdst)) (fun _ => iprop(Ow m c l ∗ PS m c x ∗ semVal (gS c x) 0)) := by
  unfold Ow Sd Sp
  iintro ⟨⟨#HA, ⟨%W, HO⟩⟩, Hc, Hat⟩
  ihave #HR := (amb_at m c (some (x, false))) $$ HA
  icases HR with ⟨%κ, #HI, -⟩
  simp only [Prog.lift]
  rw [← hN]
  iapply (Rounds.wp_wait_rest_token 𝒱₀ ER (Rd m) (c : Thread nD τ) none (κ := κ)
      (wpE_waitDma2_eq 𝒱₀ (c : Thread nD τ) none Set.univ) (Set.mem_univ _) () (O := Ot c l) (W := W) (R := 0) (m := 0) (T := ∅)
      (by rw [Nat.zero_add]; exact hN.trans (expect_S m c x).symm)) $$ [Hc HO Hat]
  · isplitr; · iexact HI
    isplitl [Hc]; · iexact Hc
    isplitl [HO]; · iexact HO
    isplitr
    · unfold Amb; icases HA with ⟨-, Hl⟩; iapply (mayWait c _ l hl); iexact Hl
    iexact Hat
  iintro ⟨HO, Hat, -, Hpay⟩
  ihave Hp := (Entails.of_eq (rest_S m c x)) $$ Hpay
  rw [wp_ret]
  imod (Rounds.cell_close ER (Rd m) (Set.mem_univ κ) (fun h => h) (R := 0 + 1) (duties_later m (gS c x))) $$ [Hat] with Hz
  · isplitr; · iexact HI
    iexact Hat
  imodintro
  isplitl [HO]
  · isplitr; · iexact HA
    iexists _; iexact HO
  isplitl [Hp]; · iexact Hp
  iexact Hz

end Cert.KernelIdeal.Gen

end
-- ==== Proof.Local.lean ====
/-
  Steps within a device: transfers, loads and stores, and the blocks of the matrix product.
-/
module

public import proofs.«01_k».proof.Proof.Protocol

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### Holding a buffer -/

/-- Device `c` holds the memref, which reads `X`. -/
def hd {sp : Space} {s : Shape} {e : EltTy} (c : Dev nD) (M : Memref sig .tc sp s e) (X : s.Idx → Elt F e) : sProp 𝕄 :=
  iprop(∃ f, ⌜M.view.read (Elt F) f = X⌝ ∗ pt c M fullShare f)

/-- A buffer whose contents are known is a buffer. -/
theorem hd_pa {sp : Space} {s : Shape} {e : EltTy} (c : Dev nD) (M : Memref sig .tc sp s e) (X : s.Idx → Elt F e) : hd c M X ⊢ pa c M := by
  unfold hd
  iintro ⟨%f, -, H⟩
  iexists f; iexact H

/-- An owned piece is a piece with some contents. -/
theorem pt_pa {sp : Space} {s : Shape} {e : EltTy} (c : Dev nD) (M : Memref sig .tc sp s e) (f) : pt c M fullShare f ⊢ pa (F := F) c M := by
  iintro H
  iexists f; iexact H

/-- The counter of local semaphore `i` is zero. -/
abbrev sv (c : Dev nD) (i : Fin 8) : sProp 𝕄 := semVal ((c : Thread nD τ), .dma (lsem i)) 0

/-- A transfer within the device under way, delivering `D`. -/
abbrev Fl {sp : Space} {s : Shape} {e : EltTy} (c : Dev nD) (dst : Memref sig .tc sp s e) (i : Fin 8) (D : sProp 𝕄) : sProp 𝕄 :=
  Flight EC (c : Thread nD τ) (.dma (lsem i)) () dst.view.dmaCredit D

section Steps
variable {sp sp' : Space} {s : Shape} {e : EltTy} {src : Memref sig .tc sp s e} {dst : Memref sig .tc sp' s e} {i : Fin 8}
  {hs : src.view.WordExact} {hd' : dst.view.WordExact} {ht : DmaTarget.Typed (nD := nD) (τ := τ) (p := .tc) sp (.dma (lsem i)) (.here dst)}

/-- Start a transfer within the device. -/
theorem cp_tr (c : Dev nD) (hpos : 0 < dst.view.dmaCredit) (q : PosShare TreeShare) (fs : Buf (Elt F) (src.view.loc (c : Thread nD τ))) (fd : Buf (Elt F) (dst.view.loc (c : Thread nD τ))) :
    iprop(pt c src q fs ∗ pt c dst fullShare fd ∗ sv c i)
      ⊢ W c (cp src dst i hs hd' ht) (fun _ => Fl c dst i iprop(pt c dst fullShare (dst.view.write (Elt F) fd (src.view.read (Elt F) fs) Finset.univ) ∗ pt c src q fs)) := by
  iintro H
  simp only [cp, Prog.lift]
  iapply (wp_dmaLocal EC 𝒱₀ (c : Thread nD τ) none () dst.view.dmaCredit rfl hpos (subset_refl _)) $$ H
  iintro H
  rw [wp_ret]; imodintro
  iexact H

/-- Start bringing a piece in. -/
theorem cpIn_tr (c : Dev nD) (hpos : 0 < dst.view.dmaCredit) (q : PosShare TreeShare) (fs : Buf (Elt F) (src.view.loc (c : Thread nD τ))) :
    iprop(pt c src q fs ∗ pa c dst ∗ sv c i)
      ⊢ W c (cp src dst i hs hd' ht) (fun _ => Fl c dst i iprop(hd c dst (src.view.read (Elt F) fs) ∗ pt c src q fs)) := by
  iintro ⟨Hs, ⟨%fd, Hd⟩, Hv⟩
  iapply (wp_mono frame _ _ (fun _ => Flight_mono (EC := EC) (c := (c : Thread nD τ)) (D := iprop(pt c dst fullShare (dst.view.write (Elt F) fd (src.view.read (Elt F) fs) Finset.univ) ∗ pt c src q fs)) ?_))
  · iintro ⟨H, Hs⟩
    isplitl [H]
    · unfold hd; iexists _
      isplitr
      rotate_left
      · iexact H
      · ipureintro; exact View.read_write_univ _ _
    iexact Hs
  iapply (cp_tr c hpos q fs fd)
  isplitl [Hs]; · iexact Hs
  isplitl [Hd]; · iexact Hd
  iexact Hv

/-- Start writing a buffer out, the destination to hold `g`. -/
theorem cpOut_tr (c : Dev nD) (hpos : 0 < dst.view.dmaCredit) (X : s.Idx → Elt F e) (g : Buf (Elt F) (dst.view.loc (c : Thread nD τ))) (hg : dst.view.read (Elt F) g = X) :
    iprop(hd c src X ∗ pa c dst ∗ sv c i)
      ⊢ W c (cp src dst i hs hd' ht) (fun _ => Fl c dst i iprop(pt c dst fullShare g ∗ pa c src)) := by
  unfold hd
  iintro ⟨⟨%fs, %hX, Hs⟩, ⟨%fd, Hd⟩, Hv⟩
  iapply (wp_mono frame _ _ (fun _ => Flight_mono (EC := EC) (c := (c : Thread nD τ)) (D := iprop(pt c dst fullShare (dst.view.write (Elt F) fd (src.view.read (Elt F) fs) Finset.univ) ∗ pt c src fullShare fs)) ?_))
  · iintro ⟨H, Hs⟩
    isplitl [H]
    · ihave H' := (Entails.of_eq (pointsTo_congr (write_eq_of_read (hg.trans hX.symm)))) $$ H
      iexact H'
    iexists fs; iexact Hs
  iapply (cp_tr c hpos fullShare fs fd)
  isplitl [Hs]; · iexact Hs
  isplitl [Hd]; · iexact Hd
  iexact Hv

/-- Wait for a transfer within the device. -/
theorem cw_tr (c : Dev nD) {l : List (ℕ × SemLoc sig)} (hl : Above 0 l) (hlv : lvl (.dma (lsem i)) = 0) (D : sProp 𝕄) :
    iprop(Ow m c l ∗ Fl c dst i D) ⊢ W c (cw src dst i hs hd') (fun _ => iprop(Ow m c l ∗ D ∗ sv c i)) := by
  unfold Ow
  iintro ⟨⟨#HA, ⟨%W, HO⟩⟩, HF⟩
  simp only [cw, Prog.lift]
  iapply (wp_waitLocalO EC 𝒱₀ (c : Thread nD τ) none () rfl (O := Ot c l) (W := W)) $$ [HF HO]
  · isplitl [HF]; · iexact HF
    isplitl [HO]; · iexact HO
    unfold Amb; icases HA with ⟨-, Hl⟩; iapply (mayWait c _ l (by rw [hlv]; exact hl)); iexact Hl
  iintro ⟨HD, Hv, HO⟩
  rw [wp_ret]; imodintro
  isplitl [HO]
  · isplitr; · iexact HA
    iexists _; iexact HO
  isplitl [HD]; · iexact HD
  iexact Hv

end Steps

/-- The local copies' semaphores are at the lowest level. -/
theorem lvl_lsem (i : Fin 8) : lvl (.dma (lsem i)) = 0 := by
  have h : (lsem i).val = 54 + i.val := by rw [lsem_val]
  unfold lvl; dsimp only
  rw [if_neg (by omega), if_neg (by omega), if_neg (by omega), if_neg (by omega), if_neg (by omega), if_neg (by omega)]

/-! ### Loads and stores of whole buffers -/

section Access
variable {A B : ℕ} {cs : CoreSpace} {e : EltTy} (M : Memref sig .tc cs ⟨2, ![A, B]⟩ e)
  (inb : ∀ a, (![0, 0] : Fin 2 → ℕ) a + (![A, B] : Fin 2 → ℕ) a ≤ (![A, B] : Fin 2 → ℕ) a)

/-- The rectangle that is the whole table. -/
abbrev full : Rect (⟨2, ![A, B]⟩ : Shape) := Rect.unit (s := ⟨2, ![A, B]⟩) ![0, 0] ![A, B] inb

/-- The whole rectangle's indices are the buffer's. -/
theorem full_idx (x : (⟨2, ![A, B]⟩ : Shape).Idx) : (full inb).toLoadRect.idx x = x := by
  refine funext fun a => Fin.ext ?_
  revert a; rw [Fin.forall_fin_two]
  exact ⟨by show 0 + 1 * (x 0).val = _; omega, by show 0 + 1 * (x 1).val = _; omega⟩

/-- Loading the whole rectangle reads the buffer. -/
theorem readAt_full (f : M.view.ty.Contents (Elt F)) : M.view.readAt (Elt F) (full inb).toLoadRect f = M.view.read (Elt F) f :=
  funext fun x => by rw [View.readAt_apply, full_idx]

/-- The whole rectangle covers the buffer. -/
theorem access_full_set : (M.access (full inb)).set = M.view.set := by
  show (M.view.slice (full inb)).set = _
  rw [View.set_slice]
  have : (full inb).set = Finset.univ := Finset.eq_univ_iff_forall.mpr fun i => by
    rw [Rect.mem_set_unit]; intro a
    refine ⟨?_, ?_⟩
    · revert a; rw [Fin.forall_fin_two]; exact ⟨Nat.zero_le _, Nat.zero_le _⟩
    · have := (i a).isLt
      revert a; rw [Fin.forall_fin_two]; exact ⟨fun h => by show _ < 0 + A; rw [Nat.zero_add]; exact h, fun h => by show _ < 0 + B; rw [Nat.zero_add]; exact h⟩
  rw [this]; rfl

/-- Load a buffer. -/
theorem ld_tr (c : Dev nD) {hl} (X : (⟨2, ![A, B]⟩ : Shape).Idx → Elt F e) :
    hd c M X ⊢ W c (Prog.lift (.load M (full inb).toLoadRect hl)) (fun x => iprop(⌜x = X⌝ ∗ hd c M X)) := by
  unfold hd
  iintro ⟨%f, %hf, H⟩
  simp only [Prog.lift]
  iapply (wp_load 𝒱₀ (c : Thread nD τ) none Set.univ (View.setOn_subset_set _ _)) $$ H
  iintro H
  rw [wp_ret]; imodintro
  isplitr
  · ipureintro; exact (readAt_full M inb f).trans hf
  iexists f
  isplitr; · ipureintro; exact hf
  iexact H

/-- Load a buffer whose contents do not matter. -/
theorem ld_any (c : Dev nD) {hl} : pa (F := F) c M ⊢ W c (Prog.lift (.load M (full inb).toLoadRect hl)) (fun _ => pa c M) := by
  iintro ⟨%f, H⟩
  simp only [Prog.lift]
  iapply (wp_load 𝒱₀ (c : Thread nD τ) none Set.univ (View.setOn_subset_set _ _)) $$ H
  iintro H
  rw [wp_ret]; imodintro
  iexists f; iexact H

/-- Store a buffer. -/
theorem st_tr (c : Dev nD) (X : (⟨2, ![A, B]⟩ : Shape).Idx → Elt F e) {hx hm} :
    pa (F := F) c M ⊢ W c (Prog.lift (.store M (full inb) X Finset.univ hx hm)) (fun _ => hd c M X) := by
  iintro ⟨%f, H⟩
  simp only [Prog.lift]
  iapply (wp_store 𝒱₀ (c : Thread nD τ) none Set.univ (m := M) (r := full inb) (Mk := Finset.univ) (by rw [View.setOn_univ]; exact View.set_slice_subset _ _)) $$ H
  iintro H
  rw [wp_ret]; imodintro
  unfold hd
  iexists _
  isplitr
  rotate_left
  · iexact H
  ipureintro
  rw [← readAt_full M inb, View.readAt_rect]
  exact View.read_write_univ _ _

end Access

end Cert.KernelIdeal.Gen

end
-- ==== Proof.Gemm.lean ====
/-
  The matrix product: each chunk's blocks written to the accumulator.
-/
module

public import proofs.«01_k».proof.Proof.Local

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### Boxes of a table -/

/-- The rows from `r₀` to `r₁` and columns from `c₀` to `c₁` of a table. -/
def bx {A B : ℕ} (r₀ r₁ c₀ c₁ : ℕ) : Finset (⟨2, ![A, B]⟩ : Shape).Idx :=
  Finset.univ.filter fun i => (r₀ ≤ (i 0).val ∧ (i 0).val < r₁) ∧ (c₀ ≤ (i 1).val ∧ (i 1).val < c₁)

/-- What it is to lie in a box of a table. -/
theorem mem_bx {A B r₀ r₁ c₀ c₁ : ℕ} {i : (⟨2, ![A, B]⟩ : Shape).Idx} :
    i ∈ bx r₀ r₁ c₀ c₁ ↔ (r₀ ≤ (i 0).val ∧ (i 0).val < r₁) ∧ (c₀ ≤ (i 1).val ∧ (i 1).val < c₁) := by
  unfold bx; rw [Finset.mem_filter]; exact ⟨fun h => h.2, fun h => ⟨Finset.mem_univ _, h⟩⟩

/-- The elements of a rectangle. -/
theorem unit_bx {A B r c h w : ℕ} {o : Fin 2 → ℕ} (ho : o = ![r, c]) (inb : ∀ a, o a + (![h, w] : Fin 2 → ℕ) a ≤ (⟨2, ![A, B]⟩ : Shape).size a) :
    (Rect.unit (s := ⟨2, ![A, B]⟩) o ![h, w] inb).set = bx r (r + h) c (c + w) := by
  subst ho
  refine Finset.ext fun i => ?_
  rw [Rect.mem_set_unit, mem_bx, Fin.forall_fin_two]
  rfl

section Split
variable {A B : ℕ} {ℓ : Loc nD τ sig} {q : PosShare TreeShare}

/-- A box split between two columns. -/
theorem bx_cols {r₀ r₁ c₀ c₁ c₂ : ℕ} (h₀ : c₀ ≤ c₁) (h₁ : c₁ ≤ c₂) :
    (bx r₀ r₁ c₀ c₂ : Finset (⟨2, ![A, B]⟩ : Shape).Idx) = bx r₀ r₁ c₀ c₁ ∪ bx r₀ r₁ c₁ c₂
      ∧ Disjoint (bx r₀ r₁ c₀ c₁ : Finset (⟨2, ![A, B]⟩ : Shape).Idx) (bx r₀ r₁ c₁ c₂) := by
  constructor
  · refine Finset.ext fun i => ?_
    rw [Finset.mem_union, mem_bx, mem_bx, mem_bx]; omega
  · rw [Finset.disjoint_left]; intro i; rw [mem_bx, mem_bx]; omega

/-- A box split between two rows. -/
theorem bx_rows {r₀ r₁ r₂ c₀ c₁ : ℕ} (h₀ : r₀ ≤ r₁) (h₁ : r₁ ≤ r₂) :
    (bx r₀ r₂ c₀ c₁ : Finset (⟨2, ![A, B]⟩ : Shape).Idx) = bx r₀ r₁ c₀ c₁ ∪ bx r₁ r₂ c₀ c₁
      ∧ Disjoint (bx r₀ r₁ c₀ c₁ : Finset (⟨2, ![A, B]⟩ : Shape).Idx) (bx r₁ r₂ c₀ c₁) := by
  constructor
  · refine Finset.ext fun i => ?_
    rw [Finset.mem_union, mem_bx, mem_bx, mem_bx]; omega
  · rw [Finset.disjoint_left]; intro i; rw [mem_bx, mem_bx]; omega

end Split

/-- A box of the accumulator on device `c`. -/
def ab (c : Dev nD) (r₀ r₁ c₀ c₁ : ℕ) (f : Buf (Elt F) ((c : Thread nD τ).loc main_v1_1)) : sProp 𝕄 :=
  ((c : Thread nD τ).loc main_v1_1) ↦[(bx r₀ r₁ c₀ c₁ : Finset (⟨2, ![4096, 8192]⟩ : Shape).Idx)]{fullShare} f

omit [FloatOps F] in
/-- A box of the accumulator is cut between two columns. -/
theorem ab_cols (c : Dev nD) {r₀ r₁ c₀ c₁ c₂ : ℕ} (h₀ : c₀ ≤ c₁) (h₁ : c₁ ≤ c₂) (f) :
    (ab (F := F) c r₀ r₁ c₀ c₂ f) ⊣⊢ iprop(ab c r₀ r₁ c₀ c₁ f ∗ ab c r₀ r₁ c₁ c₂ f) := by
  unfold ab; rw [(bx_cols h₀ h₁).1]; exact pointsTo_union (bx_cols h₀ h₁).2
omit [FloatOps F] in
/-- A box of the accumulator is cut between two rows. -/
theorem ab_rows (c : Dev nD) {r₀ r₁ r₂ c₀ c₁ : ℕ} (h₀ : r₀ ≤ r₁) (h₁ : r₁ ≤ r₂) (f) :
    (ab (F := F) c r₀ r₂ c₀ c₁ f) ⊣⊢ iprop(ab c r₀ r₁ c₀ c₁ f ∗ ab c r₁ r₂ c₀ c₁ f) := by
  unfold ab; rw [(bx_rows h₀ h₁).1]; exact pointsTo_union (bx_rows h₀ h₁).2

omit [FloatOps F] in
/-- The places of a block of the accumulator. -/
theorem gV_set (o : Fin 2 → ℕ) (j : Fin 4) (b : Fin 8) (ho) :
    (gV o j b ho).view.set = bx (1024 * j.val) (1024 * j.val + 1024) (1024 * b.val) (1024 * b.val + 1024) := by
  show ((View.whole main_v1_1).slice _).set = _
  rw [View.set_slice_whole]; exact unit_bx ho _
omit [FloatOps F] in
/-- The places of a sub-chunk of the accumulator. -/
theorem cV_set (o : Fin 2 → ℕ) (j : Fin 4) (k d : Fin 2) (ho) :
    (cV o j k d ho).view.set = bx (1024 * j.val + 512 * k.val) (1024 * j.val + 512 * k.val + 512) (4096 * d.val) (4096 * d.val + 4096) := by
  show ((View.whole main_v1_1).slice _).set = _
  rw [View.set_slice_whole]; exact unit_bx ho _
omit [FloatOps F] in
/-- The places of a tile of the accumulator. -/
theorem tV_set (o : Fin 2 → ℕ) (j : Fin 4) (k t d : Fin 2) (ho) :
    (tV o j k t d ho).view.set = bx (1024 * j.val + 512 * k.val + 256 * t.val) (1024 * j.val + 512 * k.val + 256 * t.val + 256) (4096 * d.val) (4096 * d.val + 4096) := by
  show ((View.whole main_v1_1).slice _).set = _
  rw [View.set_slice_whole]; exact unit_bx ho _

/-- Owning a block of the accumulator is owning its box. -/
theorem pt_gV (c : Dev nD) (o : Fin 2 → ℕ) (j : Fin 4) (b : Fin 8) (ho) (f) :
    pt (F := F) c (gV o j b ho) fullShare f = ab c (1024 * j.val) (1024 * j.val + 1024) (1024 * b.val) (1024 * b.val + 1024) f := by
  unfold ab; rw [← gV_set o j b ho]
/-- Owning a sub-chunk of the accumulator is owning its box. -/
theorem pt_cV (c : Dev nD) (o : Fin 2 → ℕ) (j : Fin 4) (k d : Fin 2) (ho) (f) :
    pt (F := F) c (cV o j k d ho) fullShare f = ab c (1024 * j.val + 512 * k.val) (1024 * j.val + 512 * k.val + 512) (4096 * d.val) (4096 * d.val + 4096) f := by
  unfold ab; rw [← cV_set o j k d ho]
/-- Owning a tile of the accumulator is owning its box. -/
theorem pt_tV (c : Dev nD) (o : Fin 2 → ℕ) (j : Fin 4) (k t d : Fin 2) (ho) (f) :
    pt (F := F) c (tV o j k t d ho) fullShare f = ab c (1024 * j.val + 512 * k.val + 256 * t.val) (1024 * j.val + 512 * k.val + 256 * t.val + 256) (4096 * d.val) (4096 * d.val + 4096) f := by
  unfold ab; rw [← tV_set o j k t d ho]

/-! ### Operands -/

/-- A share of the whole of an input. -/
abbrev whl (c : Dev nD) (b : Ref sig .tc) (q : PosShare TreeShare) (f : Buf (Elt F) ((c : Thread nD τ).loc b)) : sProp 𝕄 := ((c : Thread nD τ).loc b) ↦[Finset.univ]{q} f

/-- The chunk of `x` a product uses. -/
abbrev xr (c : Dev nD) (j : Fin 4) : FVec F S1024x1024 .f32 := (xV ![1024 * j.val, 0] j rfl).view.read (Elt F) (xC m c)
/-- The block of `w` a product uses. -/
abbrev wr (c : Dev nD) (b : Fin 8) : FVec F S1024x1024 .f32 := (wV b).view.read (Elt F) (wC m c)

/-- The partial product inside a block. -/
theorem Pn_at (c : Dev nD) (j : Fin 4) (b : Fin 8) (r col : ℕ) (hr : r < 1024) (hc : col < 1024) :
    Pn m c (1024 * j.val + r) (1024 * b.val + col) = k0_pay1 (xr m c j) (wr m c b) (ixG r col) := by
  unfold Pn Pblk
  have hj : (1024 * j.val + r) / 1024 % 4 = j.val := by omega
  have hb : (1024 * b.val + col) / 1024 % 8 = b.val := by omega
  have e₁ : (⟨(1024 * j.val + r) / 1024 % 4, Nat.mod_lt _ (by decide)⟩ : Fin 4) = j := Fin.ext hj
  have e₂ : (⟨(1024 * b.val + col) / 1024 % 8, Nat.mod_lt _ (by decide)⟩ : Fin 8) = b := Fin.ext hb
  rw [e₁, e₂]
  congr 1
  refine funext fun a => Fin.ext ?_
  revert a; rw [Fin.forall_fin_two]
  exact ⟨by show (1024 * j.val + r) % 1024 = r % 1024; omega, by show (1024 * b.val + col) % 1024 = col % 1024; omega⟩

/-- An index of a block is the one of its coordinates. -/
theorem ixG_self (p : S1024x1024.Idx) : ixG (p 0).val (p 1).val = p := by
  refine funext fun a => Fin.ext ?_
  have h₀ : (p 0).val < 1024 := (p 0).isLt
  have h₁ : (p 1).val < 1024 := (p 1).isLt
  revert a; rw [Fin.forall_fin_two]
  exact ⟨Nat.mod_eq_of_lt h₀, Nat.mod_eq_of_lt h₁⟩

/-- The product written to a block is the partial product there. -/
theorem read_Pn (c : Dev nD) (o : Fin 2 → ℕ) (j : Fin 4) (b : Fin 8) (ho) :
    (gV o j b ho).view.read (Elt F) (bf2 (Pn m c)) = k0_pay1 (xr m c j) (wr m c b) := by
  rw [read_gV]
  funext p
  have h₀ : (p 0).val < 1024 := (p 0).isLt
  have h₁ : (p 1).val < 1024 := (p 1).isLt
  show Pn m c _ _ = _
  rw [Pn_at m c j b _ _ h₀ h₁, ixG_self]

/-! ### The pieces -/

/-- Bring a chunk of `x` in. -/
theorem gX_tr (c : Dev nD) (o : Fin 2 → ℕ) (j : Fin 4) (ho) {l} (hl : Above 0 l) :
    iprop(Ow m c l ∗ pa c bX ∗ sv c 3 ∗ whl c main_arg0 fullShare (xC m c))
      ⊢ W c (gX o j ho) (fun _ => iprop(Ow m c l ∗ hd c bX (xr m c j) ∗ sv c 3 ∗ whl c main_arg0 fullShare (xC m c))) := by
  subst ho
  unfold gX
  iintro ⟨HO, HX, Hv, Hx⟩
  ihave Hx' := (pointsTo_split_subset (Finset.subset_univ (xV ![1024 * j.val, 0] j rfl).view.set)).1 $$ Hx
  icases Hx' with ⟨Hx, Hxr⟩
  iapply (use (cpIn_tr c (View.dmaCredit_pos _ (by decide)) fullShare (xC m c))) $$ [Hx HX Hv]
  · isplitl [Hx]; · iexact Hx
    isplitl [HX]; · iexact HX
    iexact Hv
  iintro %_ HF
  iapply (useE (cw_tr m c hl (lvl_lsem 3) _)) $$ [HO HF]
  · isplitl [HO]; · iexact HO
    iexact HF
  iintro %_ ⟨HO, ⟨HX, Hx⟩, Hv⟩
  isplitl [HO]; · iexact HO
  isplitl [HX]; · iexact HX
  isplitl [Hv]; · iexact Hv
  iapply (pointsTo_split_subset (Finset.subset_univ (xV ![1024 * j.val, 0] j rfl).view.set)).2
  isplitl [Hx]; · iexact Hx
  iexact Hxr

/-- A buffer for blocks of `w` at rest, with the share of `w` that its transfers read. -/
def idle (c : Dev nD) (M : Memref sig .tc .vmem S1024x1024 .f32) (i : Fin 8) (q : PosShare TreeShare) : sProp 𝕄 :=
  iprop(pa c M ∗ sv c i ∗ whl c main_arg1 q (wC m c))

/-- A buffer that block `b` of `w` is being brought to. -/
def busy (c : Dev nD) (M : Memref sig .tc .vmem S1024x1024 .f32) (i : Fin 8) (q : PosShare TreeShare) (b : Fin 8) : sProp 𝕄 :=
  iprop(Fl c M i iprop(hd c M (wr m c b) ∗ pt c (wV b) q (wC m c)) ∗ ((c : Thread nD τ).loc main_arg1 ↦[Finset.univ \ (wV b).view.set]{q} wC m c))

/-- What the blocks of chunk `j` need besides. -/
def gst (c : Dev nD) (j : Fin 4) : sProp 𝕄 := iprop(hd c bX (xr m c j) ∗ pa c bO ∗ sv c 2)

/-- Start bringing a block of `w` in. -/
theorem w_tr (c : Dev nD) (M : Memref sig .tc .vmem S1024x1024 .f32) (i : Fin 8) (q : PosShare TreeShare) (b : Fin 8) (hpos : 0 < M.view.dmaCredit) {hs hd' ht} :
    idle m c M i q ⊢ W c (cp (wV b) M i hs hd' ht) (fun _ => busy m c M i q b) := by
  unfold idle busy
  iintro ⟨HM, Hv, Hw⟩
  ihave Hw' := (pointsTo_split_subset (Finset.subset_univ (wV b).view.set)).1 $$ Hw
  icases Hw' with ⟨Hw, Hwr⟩
  iapply (useE (cpIn_tr c hpos q (wC m c))) $$ [Hw HM Hv]
  · isplitl [Hw]; · iexact Hw
    isplitl [HM]; · iexact HM
    iexact Hv
  iintro %_ HF
  isplitl [HF]; · iexact HF
  iexact Hwr

/-- Multiply by a block of `w` that is on its way, and write the product out. -/
theorem gBlk_tr (c : Dev nD) (M : Memref sig .tc .vmem S1024x1024 .f32) (hM : M.IsWhole) (i : Fin 8) (q : PosShare TreeShare) (o : Fin 2 → ℕ) (j : Fin 4) (b : Fin 8) (ho)
    {l} (hl : Above 0 l) :
    iprop(Ow m c l ∗ busy m c M i q b ∗ gst m c j ∗ pa c (gV o j b ho))
      ⊢ W c (gBlk M hM i o j b ho) (fun _ => iprop(Ow m c l ∗ idle m c M i q ∗ gst m c j ∗ pt c (gV o j b ho) fullShare (bf2 (Pn m c)))) := by
  unfold gBlk busy gst
  iintro ⟨HO, ⟨HF, Hwr⟩, ⟨HX, Ho, Hv⟩, Hg⟩
  iapply (use (cw_tr m c hl (lvl_lsem i) _)) $$ [HO HF]
  · isplitl [HO]; · iexact HO
    iexact HF
  iintro %_ ⟨HO, ⟨HM, Hw⟩, Hvi⟩
  iapply (use (ld_tr bX inb_S1024x1024_S1024x1024_0_0 c _)) $$ HX
  iintro %x ⟨%hx, HX⟩
  iapply (use (ld_tr M inb_S1024x1024_S1024x1024_0_0 c _)) $$ HM
  iintro %w ⟨%hw, HM⟩
  iapply (use (ld_any bO inb_S1024x1024_S1024x1024_0_0 c)) $$ Ho
  iintro %_ Ho
  iapply (use (st_tr bO inb_S1024x1024_S1024x1024_0_0 c (k0_pay1 x w))) $$ Ho
  iintro %_ Ho
  iapply (use (cpOut_tr c (View.dmaCredit_pos _ (by decide)) (k0_pay1 x w) (bf2 (Pn m c)) (by rw [hx, hw]; exact read_Pn m c o j b ho))) $$ [Ho Hg Hv]
  · isplitl [Ho]; · iexact Ho
    isplitl [Hg]; · iexact Hg
    iexact Hv
  iintro %_ HF
  iapply (useE (cw_tr m c hl (lvl_lsem 2) _)) $$ [HO HF]
  · isplitl [HO]; · iexact HO
    iexact HF
  iintro %_ ⟨HO, ⟨Hg, Ho⟩, Hv⟩
  isplitl [HO]; · iexact HO
  isplitl [HM Hvi Hw Hwr]
  · unfold idle
    isplitl [HM]; · iapply (hd_pa c M _); iexact HM
    isplitl [Hvi]; · iexact Hvi
    iapply (pointsTo_split_subset (Finset.subset_univ (wV b).view.set)).2
    isplitl [Hw]; · iexact Hw
    iexact Hwr
  isplitl [HX Ho Hv]
  · isplitl [HX]; · iexact HX
    isplitl [Ho]; · iexact Ho
    iexact Hv
  iexact Hg

/-- Both buffers at rest. -/
abbrev idA (c : Dev nD) : sProp 𝕄 := idle m c bWA 4 fullShare.left
/-- The second buffer idle. -/
abbrev idB (c : Dev nD) : sProp 𝕄 := idle m c bWB 5 fullShare.right
/-- The first buffer busy. -/
abbrev buA (c : Dev nD) (b : Fin 8) : sProp 𝕄 := busy m c bWA 4 fullShare.left b
/-- The second buffer busy. -/
abbrev buB (c : Dev nD) (b : Fin 8) : sProp 𝕄 := busy m c bWB 5 fullShare.right b

/-- A block not yet written. -/
abbrev g₀ (c : Dev nD) (o : ℕ → Fin 2 → ℕ) (j : Fin 4) (ho : Offs o j) (b : Fin 8) : sProp 𝕄 := pa (F := F) c (gV (o b.val) j b (ho b))
/-- A block written. -/
abbrev g₁ (c : Dev nD) (o : ℕ → Fin 2 → ℕ) (j : Fin 4) (ho : Offs o j) (b : Fin 8) : sProp 𝕄 := pt c (gV (o b.val) j b (ho b)) fullShare (bf2 (Pn m c))

/-- Start loading a block of `w` into the first buffer. -/
theorem wA_tr (c : Dev nD) (b : Fin 8) : idA m c ⊢ W c (wA b) (fun _ => buA m c b) := w_tr m c bWA 4 _ b (View.dmaCredit_pos _ (by decide))
/-- Start loading a block of `w` into the second buffer. -/
theorem wB_tr (c : Dev nD) (b : Fin 8) : idB m c ⊢ W c (wB b) (fun _ => buB m c b) := w_tr m c bWB 5 _ b (View.dmaCredit_pos _ (by decide))

/-- Multiply by two blocks of `w`, the next two being loaded meanwhile. -/
theorem gPair_tr (c : Dev nD) (o : ℕ → Fin 2 → ℕ) (j : Fin 4) (ho : Offs o j) (b₀ b₁ b₂ : Fin 8) {l} (hl : Above 0 l) :
    iprop(Ow m c l ∗ buA m c b₀ ∗ idB m c ∗ gst m c j ∗ g₀ c o j ho b₀ ∗ g₀ c o j ho b₁)
      ⊢ W c (gPair o j ho b₀ b₁ b₂) (fun _ => iprop(Ow m c l ∗ buA m c b₂ ∗ idB m c ∗ gst m c j ∗ g₁ m c o j ho b₀ ∗ g₁ m c o j ho b₁)) := by
  unfold gPair
  iintro ⟨HO, HA, HB, Hg, H₀, H₁⟩
  iapply (use (wB_tr m c b₁)) $$ HB
  iintro %_ HB
  iapply (use (gBlk_tr m c bWA (Memref.isWhole_whole _) 4 _ (o b₀.val) j b₀ (ho b₀) hl)) $$ [HO HA Hg H₀]
  · isplitl [HO]; · iexact HO
    isplitl [HA]; · iexact HA
    isplitl [Hg]; · iexact Hg
    iexact H₀
  iintro %_ ⟨HO, HA, Hg, H₀⟩
  iapply (use (wA_tr m c b₂)) $$ HA
  iintro %_ HA
  iapply (useE (gBlk_tr m c bWB (Memref.isWhole_whole _) 5 _ (o b₁.val) j b₁ (ho b₁) hl)) $$ [HO HB Hg H₁]
  · isplitl [HO]; · iexact HO
    isplitl [HB]; · iexact HB
    isplitl [Hg]; · iexact Hg
    iexact H₁
  iintro %_ ⟨HO, HB, Hg, H₁⟩
  isplitl [HO]; · iexact HO
  isplitl [HA]; · iexact HA
  isplitl [HB]; · iexact HB
  isplitl [Hg]; · iexact Hg
  isplitl [H₀]; · iexact H₀
  iexact H₁

/-- Multiply by the last two blocks of `w`. -/
theorem gLast_tr (c : Dev nD) (o : ℕ → Fin 2 → ℕ) (j : Fin 4) (ho : Offs o j) (b₀ b₁ : Fin 8) {l} (hl : Above 0 l) :
    iprop(Ow m c l ∗ buA m c b₀ ∗ idB m c ∗ gst m c j ∗ g₀ c o j ho b₀ ∗ g₀ c o j ho b₁)
      ⊢ W c (gLast o j ho b₀ b₁) (fun _ => iprop(Ow m c l ∗ idA m c ∗ idB m c ∗ gst m c j ∗ g₁ m c o j ho b₀ ∗ g₁ m c o j ho b₁)) := by
  unfold gLast
  iintro ⟨HO, HA, HB, Hg, H₀, H₁⟩
  iapply (use (wB_tr m c b₁)) $$ HB
  iintro %_ HB
  iapply (use (gBlk_tr m c bWA (Memref.isWhole_whole _) 4 _ (o b₀.val) j b₀ (ho b₀) hl)) $$ [HO HA Hg H₀]
  · isplitl [HO]; · iexact HO
    isplitl [HA]; · iexact HA
    isplitl [Hg]; · iexact Hg
    iexact H₀
  iintro %_ ⟨HO, HA, Hg, H₀⟩
  iapply (useE (gBlk_tr m c bWB (Memref.isWhole_whole _) 5 _ (o b₁.val) j b₁ (ho b₁) hl)) $$ [HO HB Hg H₁]
  · isplitl [HO]; · iexact HO
    isplitl [HB]; · iexact HB
    isplitl [Hg]; · iexact Hg
    iexact H₁
  iintro %_ ⟨HO, HB, Hg, H₁⟩
  isplitl [HO]; · iexact HO
  isplitl [HA]; · iexact HA
  isplitl [HB]; · iexact HB
  isplitl [Hg]; · iexact Hg
  isplitl [H₀]; · iexact H₀
  iexact H₁

/-! ### Halves of a chunk -/

/-- Half `d` of chunk `j` of the accumulator. -/
abbrev hb (c : Dev nD) (j : Fin 4) (d : Fin 2) (f : Buf (Elt F) ((c : Thread nD τ).loc main_v1_1)) : sProp 𝕄 :=
  ab c (1024 * j.val) (1024 * j.val + 1024) (4096 * d.val) (4096 * d.val + 4096) f

/-- Half a chunk is four blocks. -/
theorem hb_blocks (c : Dev nD) (o : ℕ → Fin 2 → ℕ) (j : Fin 4) (ho : Offs o j) (d : Fin 2) (b₀ b₁ b₂ b₃ : Fin 8)
    (h : b₀.val = 4 * d.val ∧ b₁.val = b₀.val + 1 ∧ b₂.val = b₁.val + 1 ∧ b₃.val = b₂.val + 1) (f) :
    (hb (F := F) c j d f) ⊣⊢ iprop(pt c (gV (o b₀.val) j b₀ (ho b₀)) fullShare f ∗ pt c (gV (o b₁.val) j b₁ (ho b₁)) fullShare f
      ∗ pt c (gV (o b₂.val) j b₂ (ho b₂)) fullShare f ∗ pt c (gV (o b₃.val) j b₃ (ho b₃)) fullShare f) := by
  rw [pt_gV, pt_gV, pt_gV, pt_gV]
  obtain ⟨h₀, h₁, h₂, h₃⟩ := h
  have e : 4096 * d.val = 1024 * b₀.val := by omega
  have e₁ : 1024 * b₁.val = 1024 * b₀.val + 1024 := by omega
  have e₂ : 1024 * b₂.val = 1024 * b₀.val + 2048 := by omega
  have e₃ : 1024 * b₃.val = 1024 * b₀.val + 3072 := by omega
  unfold hb
  rw [e₁, e₂, e₃, e]
  have s₁ := ab_cols c (r₀ := 1024 * j.val) (r₁ := 1024 * j.val + 1024) (c₀ := 1024 * b₀.val) (c₁ := 1024 * b₀.val + 1024) (c₂ := 1024 * b₀.val + 4096) (by omega) (by omega) f
  have s₂ := ab_cols c (r₀ := 1024 * j.val) (r₁ := 1024 * j.val + 1024) (c₀ := 1024 * b₀.val + 1024) (c₁ := 1024 * b₀.val + 2048) (c₂ := 1024 * b₀.val + 4096) (by omega) (by omega) f
  have s₃ := ab_cols c (r₀ := 1024 * j.val) (r₁ := 1024 * j.val + 1024) (c₀ := 1024 * b₀.val + 2048) (c₁ := 1024 * b₀.val + 3072) (c₂ := 1024 * b₀.val + 4096) (by omega) (by omega) f
  constructor
  · exact s₁.1.trans (sep_mono_right (s₂.1.trans (sep_mono_right s₃.1)))
  · exact ((sep_mono_right ((sep_mono_right s₃.2).trans s₂.2))).trans s₁.2

/-- Four blocks, which are half a chunk. -/
theorem gHalf_tr (c : Dev nD) (o : ℕ → Fin 2 → ℕ) (j : Fin 4) (ho : Offs o j) (d : Fin 2) (b₀ b₁ b₂ b₃ : Fin 8)
    (h : b₀.val = 4 * d.val ∧ b₁.val = b₀.val + 1 ∧ b₂.val = b₁.val + 1 ∧ b₃.val = b₂.val + 1) {l} (hl : Above 0 l) (f) :
    iprop(Ow m c l ∗ idA m c ∗ idB m c ∗ gst m c j ∗ hb c j d f)
      ⊢ W c (gHalf o j ho b₀ b₁ b₂ b₃) (fun _ => iprop(Ow m c l ∗ idA m c ∗ idB m c ∗ gst m c j ∗ hb c j d (bf2 (Pn m c)))) := by
  unfold gHalf
  iintro ⟨HO, HA, HB, Hg, H⟩
  ihave H := (hb_blocks c o j ho d b₀ b₁ b₂ b₃ h f).1 $$ H
  icases H with ⟨H₀, H₁, H₂, H₃⟩
  iapply (use (wA_tr m c b₀)) $$ HA
  iintro %_ HA
  iapply (use (gPair_tr m c o j ho b₀ b₁ b₂ hl)) $$ [HO HA HB Hg H₀ H₁]
  · isplitl [HO]; · iexact HO
    isplitl [HA]; · iexact HA
    isplitl [HB]; · iexact HB
    isplitl [Hg]; · iexact Hg
    isplitl [H₀]; · iexists f; iexact H₀
    iexists f; iexact H₁
  iintro %_ ⟨HO, HA, HB, Hg, H₀, H₁⟩
  iapply (useE (gLast_tr m c o j ho b₂ b₃ hl)) $$ [HO HA HB Hg H₂ H₃]
  · isplitl [HO]; · iexact HO
    isplitl [HA]; · iexact HA
    isplitl [HB]; · iexact HB
    isplitl [Hg]; · iexact Hg
    isplitl [H₂]; · iexists f; iexact H₂
    iexists f; iexact H₃
  iintro %_ ⟨HO, HA, HB, Hg, H₂, H₃⟩
  isplitl [HO]; · iexact HO
  isplitl [HA]; · iexact HA
  isplitl [HB]; · iexact HB
  isplitl [Hg]; · iexact Hg
  iapply (hb_blocks c o j ho d b₀ b₁ b₂ b₃ h _).2
  isplitl [H₀]; · iexact H₀
  isplitl [H₁]; · iexact H₁
  isplitl [H₂]; · iexact H₂
  iexact H₃

/-- All eight blocks of a chunk. -/
theorem gPass_tr (c : Dev nD) (o : ℕ → Fin 2 → ℕ) (j : Fin 4) (ho : Offs o j) {l} (hl : Above 0 l) (f f') :
    iprop(Ow m c l ∗ idA m c ∗ idB m c ∗ gst m c j ∗ hb c j 0 f ∗ hb c j 1 f')
      ⊢ W c (gPass o j ho) (fun _ => iprop(Ow m c l ∗ idA m c ∗ idB m c ∗ gst m c j ∗ hb c j 0 (bf2 (Pn m c)) ∗ hb c j 1 (bf2 (Pn m c)))) := by
  unfold gPass
  iintro ⟨HO, HA, HB, Hg, H, H'⟩
  ihave H := (hb_blocks c o j ho 0 0 1 2 3 (by decide) f).1 $$ H
  icases H with ⟨H₀, H₁, H₂, H₃⟩
  ihave H := (hb_blocks c o j ho 1 4 5 6 7 (by decide) f').1 $$ H'
  icases H with ⟨H₄, H₅, H₆, H₇⟩
  iapply (use (wA_tr m c 0)) $$ HA
  iintro %_ HA
  iapply (use (gPair_tr m c o j ho 0 1 2 hl)) $$ [HO HA HB Hg H₀ H₁]
  · isplitl [HO]; · iexact HO
    isplitl [HA]; · iexact HA
    isplitl [HB]; · iexact HB
    isplitl [Hg]; · iexact Hg
    isplitl [H₀]; · iexists f; iexact H₀
    iexists f; iexact H₁
  iintro %_ ⟨HO, HA, HB, Hg, H₀, H₁⟩
  iapply (use (gPair_tr m c o j ho 2 3 4 hl)) $$ [HO HA HB Hg H₂ H₃]
  · isplitl [HO]; · iexact HO
    isplitl [HA]; · iexact HA
    isplitl [HB]; · iexact HB
    isplitl [Hg]; · iexact Hg
    isplitl [H₂]; · iexists f; iexact H₂
    iexists f; iexact H₃
  iintro %_ ⟨HO, HA, HB, Hg, H₂, H₃⟩
  iapply (use (gPair_tr m c o j ho 4 5 6 hl)) $$ [HO HA HB Hg H₄ H₅]
  · isplitl [HO]; · iexact HO
    isplitl [HA]; · iexact HA
    isplitl [HB]; · iexact HB
    isplitl [Hg]; · iexact Hg
    isplitl [H₄]; · iexists f'; iexact H₄
    iexists f'; iexact H₅
  iintro %_ ⟨HO, HA, HB, Hg, H₄, H₅⟩
  iapply (useE (gLast_tr m c o j ho 6 7 hl)) $$ [HO HA HB Hg H₆ H₇]
  · isplitl [HO]; · iexact HO
    isplitl [HA]; · iexact HA
    isplitl [HB]; · iexact HB
    isplitl [Hg]; · iexact Hg
    isplitl [H₆]; · iexists f'; iexact H₆
    iexists f'; iexact H₇
  iintro %_ ⟨HO, HA, HB, Hg, H₆, H₇⟩
  isplitl [HO]; · iexact HO
  isplitl [HA]; · iexact HA
  isplitl [HB]; · iexact HB
  isplitl [Hg]; · iexact Hg
  isplitl [H₀ H₁ H₂ H₃]
  · iapply (hb_blocks c o j ho 0 0 1 2 3 (by decide) _).2
    isplitl [H₀]; · iexact H₀
    isplitl [H₁]; · iexact H₁
    isplitl [H₂]; · iexact H₂
    iexact H₃
  iapply (hb_blocks c o j ho 1 4 5 6 7 (by decide) _).2
  isplitl [H₄]; · iexact H₄
  isplitl [H₅]; · iexact H₅
  isplitl [H₆]; · iexact H₆
  iexact H₇

/-! ### Chunks -/

/-- What a product needs: its buffers and the inputs. -/
def gall (c : Dev nD) : sProp 𝕄 :=
  iprop(idA m c ∗ idB m c ∗ pa c bX ∗ pa c bO ∗ sv c 2 ∗ sv c 3 ∗ whl c main_arg0 fullShare (xC m c))

/-- The product with a chunk of the passing order. -/
theorem chunk_tr (c : Dev nD) (r : Fin 3) {l} (hl : Above 0 l) (f f') :
    iprop(Ow m c l ∗ gall m c ∗ hb c (ch c (1 + r.val)) 0 f ∗ hb c (ch c (1 + r.val)) 1 f')
      ⊢ W c (chunk c r) (fun _ => iprop(Ow m c l ∗ gall m c ∗ hb c (ch c (1 + r.val)) 0 (bf2 (Pn m c)) ∗ hb c (ch c (1 + r.val)) 1 (bf2 (Pn m c)))) := by
  unfold chunk gall
  iintro ⟨HO, ⟨HA, HB, HX, Ho, Hv₂, Hv₃, Hx⟩, H, H'⟩
  iapply (use (gX_tr m c _ _ (off12_eq c r) hl)) $$ [HO HX Hv₃ Hx]
  · isplitl [HO]; · iexact HO
    isplitl [HX]; · iexact HX
    isplitl [Hv₃]; · iexact Hv₃
    iexact Hx
  iintro %_ ⟨HO, HX, Hv₃, Hx⟩
  iapply (useE (gPass_tr m c _ _ (oPass_eq c r) hl f f')) $$ [HO HA HB HX Ho Hv₂ H H']
  · isplitl [HO]; · iexact HO
    isplitl [HA]; · iexact HA
    isplitl [HB]; · iexact HB
    isplitl [HX Ho Hv₂]
    · unfold gst
      isplitl [HX]; · iexact HX
      isplitl [Ho]; · iexact Ho
      iexact Hv₂
    isplitl [H]; · iexact H
    iexact H'
  unfold gst
  iintro %_ ⟨HO, HA, HB, ⟨HX, Ho, Hv₂⟩, H, H'⟩
  isplitl [HO]; · iexact HO
  isplitl [HA HB HX Ho Hv₂ Hv₃ Hx]
  · isplitl [HA]; · iexact HA
    isplitl [HB]; · iexact HB
    isplitl [HX]; · iapply (hd_pa c bX _); iexact HX
    isplitl [Ho]; · iexact Ho
    isplitl [Hv₂]; · iexact Hv₂
    isplitl [Hv₃]; · iexact Hv₃
    iexact Hx
  isplitl [H]; · iexact H
  iexact H'

end Cert.KernelIdeal.Gen

end
-- ==== Proof.Scatter.lean ====
/-
  The reduce-scatter: sums pass round the ring, each device adding its partial product.
-/
module

public import proofs.«01_k».proof.Proof.Gemm

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### Neighbours -/

/-- There are two halves. -/
theorem fin2_cases : ∀ d : Fin 2, d = 0 ∨ d = 1 := by decide
/-- The device sent to receives from the sender. -/
theorem hop_src : ∀ (c : Dev nD) (d : Fin 2), ch (ch c (hop d)) (src d) = c := by decide +kernel
/-- The chunk sent at step `s` is the chunk that the receiver expects. -/
theorem snd_rcv : ∀ (c : Dev nD) (s : Fin 3) (d : Fin 2), ch c (snd d s.val) = ch (ch c (hop d)) (rcv d s.val) := by decide +kernel
/-- The chunk sent next is the chunk just received. -/
theorem snd_next : ∀ (c : Dev nD) (s s' : Fin 3) (d : Fin 2), s'.val = s.val + 1 → ch c (snd d s'.val) = ch c (rcv d s.val) := by decide +kernel

/-- What is above any level is above the lowest. -/
theorem Above.mono {n : ℕ} {l : List (ℕ × SemLoc sig)} (h : Above n l) : Above 0 l := fun p hp => lt_of_le_of_lt (Nat.zero_le _) (h p hp)
/-- What is above a level stays so with one thing less. -/
theorem Above.tail {n : ℕ} {p} {l : List (ℕ × SemLoc sig)} (h : Above n (p :: l)) : Above n l := fun q hq => h q (List.mem_cons_of_mem _ hq)

/-- What device `c` pays with a transfer. -/
abbrev it (x : Xf) : ℕ × SemLoc sig := (hp x, .dma (sR x))

/-! ### Pieces of the accumulator -/

/-- A sub-chunk. -/
abbrev cb (c : Dev nD) (j : Fin 4) (k d : Fin 2) (f : Buf (Elt F) ((c : Thread nD τ).loc main_v1_1)) : sProp 𝕄 :=
  ab c (1024 * j.val + 512 * k.val) (1024 * j.val + 512 * k.val + 512) (4096 * d.val) (4096 * d.val + 4096) f
/-- A tile. -/
abbrev tb (c : Dev nD) (j : Fin 4) (k t d : Fin 2) (f : Buf (Elt F) ((c : Thread nD τ).loc main_v1_1)) : sProp 𝕄 :=
  ab c (1024 * j.val + 512 * k.val + 256 * t.val) (1024 * j.val + 512 * k.val + 256 * t.val + 256) (4096 * d.val) (4096 * d.val + 4096) f

/-- A sub-chunk through its view. -/
theorem cb_eq (c : Dev nD) (o : Fin 2 → ℕ) (j : Fin 4) (k d : Fin 2) (ho) (f) : (cb (F := F) c j k d f) = pt c (cV o j k d ho) fullShare f := (pt_cV c o j k d ho f).symm
/-- A tile through its view. -/
theorem tb_eq (c : Dev nD) (o : Fin 2 → ℕ) (j : Fin 4) (k t d : Fin 2) (ho) (f) : (tb (F := F) c j k t d f) = pt c (tV o j k t d ho) fullShare f := (pt_tV c o j k t d ho f).symm

/-- Half of a chunk is two sub-chunks. -/
theorem hb_cb (c : Dev nD) (j : Fin 4) (d : Fin 2) (f) : (hb (F := F) c j d f) ⊣⊢ iprop(cb c j 0 d f ∗ cb c j 1 d f) :=
  ab_rows c (r₀ := 1024 * j.val) (r₁ := 1024 * j.val + 512) (r₂ := 1024 * j.val + 1024) (by omega) (by omega) f
/-- A sub-chunk is two tiles. -/
theorem cb_tb (c : Dev nD) (j : Fin 4) (k d : Fin 2) (f) : (cb (F := F) c j k d f) ⊣⊢ iprop(tb c j k 0 d f ∗ tb c j k 1 d f) :=
  ab_rows c (r₀ := 1024 * j.val + 512 * k.val) (r₁ := 1024 * j.val + 512 * k.val + 256) (r₂ := 1024 * j.val + 512 * k.val + 512) (by omega) (by omega) f

/-! ### Pieces of the receive buffers -/

/-- The rows from `r₀` to `r₁` and columns from `c₀` to `c₁` of slot `i` of a stack of tables. -/
def bx3 {A B C : ℕ} (i r₀ r₁ c₀ c₁ : ℕ) : Finset (⟨3, ![A, B, C]⟩ : Shape).Idx :=
  Finset.univ.filter fun x => (x 0).val = i ∧ (r₀ ≤ (x 1).val ∧ (x 1).val < r₁) ∧ (c₀ ≤ (x 2).val ∧ (x 2).val < c₁)

/-- What it is to lie in a box of one slot of a stack. -/
theorem mem_bx3 {A B C i r₀ r₁ c₀ c₁ : ℕ} {x : (⟨3, ![A, B, C]⟩ : Shape).Idx} :
    x ∈ bx3 i r₀ r₁ c₀ c₁ ↔ (x 0).val = i ∧ (r₀ ≤ (x 1).val ∧ (x 1).val < r₁) ∧ (c₀ ≤ (x 2).val ∧ (x 2).val < c₁) := by
  unfold bx3; rw [Finset.mem_filter]; exact ⟨fun h => h.2, fun h => ⟨Finset.mem_univ _, h⟩⟩

/-- A rectangle of one slot is its box. -/
theorem unit_bx3 {A B C i r c h w : ℕ} (inb : ∀ a, (![i, r, c] : Fin 3 → ℕ) a + (![1, h, w] : Fin 3 → ℕ) a ≤ (⟨3, ![A, B, C]⟩ : Shape).size a) :
    (Rect.unit (s := ⟨3, ![A, B, C]⟩) ![i, r, c] ![1, h, w] inb).set = bx3 i r (r + h) c (c + w) := by
  refine Finset.ext fun x => ?_
  rw [Rect.mem_set_unit, mem_bx3, Fin.forall_fin_succ, Fin.forall_fin_two]
  show (i ≤ (x 0).val ∧ (x 0).val < i + 1) ∧ (r ≤ (x 1).val ∧ (x 1).val < r + h) ∧ (c ≤ (x 2).val ∧ (x 2).val < c + w) ↔ _
  constructor
  · rintro ⟨h₀, h₁, h₂⟩; exact ⟨by omega, h₁, h₂⟩
  · rintro ⟨h₀, h₁, h₂⟩; exact ⟨by omega, h₁, h₂⟩

/-- A box of a slot is cut between two rows. -/
theorem bx3_rows {A B C i r₀ r₁ r₂ c₀ c₁ : ℕ} (h₀ : r₀ ≤ r₁) (h₁ : r₁ ≤ r₂) :
    (bx3 i r₀ r₂ c₀ c₁ : Finset (⟨3, ![A, B, C]⟩ : Shape).Idx) = bx3 i r₀ r₁ c₀ c₁ ∪ bx3 i r₁ r₂ c₀ c₁
      ∧ Disjoint (bx3 i r₀ r₁ c₀ c₁ : Finset (⟨3, ![A, B, C]⟩ : Shape).Idx) (bx3 i r₁ r₂ c₀ c₁) := by
  constructor
  · refine Finset.ext fun x => ?_
    rw [Finset.mem_union, mem_bx3, mem_bx3, mem_bx3]; omega
  · rw [Finset.disjoint_left]; intro x; rw [mem_bx3, mem_bx3]; omega

omit [FloatOps F] in
/-- The places of a sub-chunk of the reduce-scatter's receive buffer. -/
theorem rV_set (s : Fin 3) (k d : Fin 2) : (rV s k d).view.set = bx3 s.val (512 * k.val) (512 * k.val + 512) (4096 * d.val) (4096 * d.val + 4096) := by
  show (((View.whole main_v1_2).slice _).reshape _ _).set = _
  rw [View.set_reshape, View.set_slice_whole]; exact unit_bx3 _
omit [FloatOps F] in
/-- The places of a tile of the reduce-scatter's receive buffer. -/
theorem rtV_set (s : Fin 3) (k t d : Fin 2) :
    (rtV s k t d).view.set = bx3 s.val (512 * k.val + 256 * t.val) (512 * k.val + 256 * t.val + 256) (4096 * d.val) (4096 * d.val + 4096) := by
  show (((View.whole main_v1_2).slice _).reshape _ _).set = _
  rw [View.set_reshape, View.set_slice_whole]; exact unit_bx3 _
omit [FloatOps F] in
/-- The places of a sub-chunk of the all-gather's receive buffer. -/
theorem aV_set (s : Fin 3) (k d : Fin 2) : (aV s k d).view.set = bx3 s.val (512 * k.val) (512 * k.val + 512) (4096 * d.val) (4096 * d.val + 4096) := by
  show (((View.whole main_v1_3).slice _).reshape _ _).set = _
  rw [View.set_reshape, View.set_slice_whole]; exact unit_bx3 _
omit [FloatOps F] in
/-- The places of a tile of the all-gather's receive buffer. -/
theorem atV_set (s : Fin 3) (k t d : Fin 2) :
    (atV s k t d).view.set = bx3 s.val (512 * k.val + 256 * t.val) (512 * k.val + 256 * t.val + 256) (4096 * d.val) (4096 * d.val + 4096) := by
  show (((View.whole main_v1_3).slice _).reshape _ _).set = _
  rw [View.set_reshape, View.set_slice_whole]; exact unit_bx3 _

/-- A sub-chunk received is two tiles. -/
theorem rV_tiles (c : Dev nD) (s : Fin 3) (k d : Fin 2) (q : PosShare TreeShare) (f : Buf (Elt F) ((c : Thread nD τ).loc main_v1_2)) :
    (pt (F := F) c (rV s k d) q f) ⊢ iprop(pt c (rtV s k 0 d) q f ∗ pt c (rtV s k 1 d) q f) := by
  have h := bx3_rows (A := 3) (B := 1024) (C := 8192) (i := s.val) (r₀ := 512 * k.val) (r₁ := 512 * k.val + 256) (r₂ := 512 * k.val + 512) (c₀ := 4096 * d.val) (c₁ := 4096 * d.val + 4096) (by omega) (by omega)
  show (((c : Thread nD τ).loc main_v1_2) ↦[(rV s k d).view.set]{q} f) ⊢ iprop((((c : Thread nD τ).loc main_v1_2) ↦[(rtV s k 0 d).view.set]{q} f) ∗ (((c : Thread nD τ).loc main_v1_2) ↦[(rtV s k 1 d).view.set]{q} f))
  rw [rV_set, rtV_set, rtV_set, h.1]
  exact (pointsTo_union h.2).1

/-- A sub-chunk gathered is two tiles. -/
theorem aV_tiles (c : Dev nD) (s : Fin 3) (k d : Fin 2) (q : PosShare TreeShare) (f : Buf (Elt F) ((c : Thread nD τ).loc main_v1_3)) :
    (pt (F := F) c (aV s k d) q f) ⊢ iprop(pt c (atV s k 0 d) q f ∗ pt c (atV s k 1 d) q f) := by
  have h := bx3_rows (A := 3) (B := 1024) (C := 8192) (i := s.val) (r₀ := 512 * k.val) (r₁ := 512 * k.val + 256) (r₂ := 512 * k.val + 512) (c₀ := 4096 * d.val) (c₁ := 4096 * d.val + 4096) (by omega) (by omega)
  show (((c : Thread nD τ).loc main_v1_3) ↦[(aV s k d).view.set]{q} f) ⊢ iprop((((c : Thread nD τ).loc main_v1_3) ↦[(atV s k 0 d).view.set]{q} f) ∗ (((c : Thread nD τ).loc main_v1_3) ↦[(atV s k 1 d).view.set]{q} f))
  rw [aV_set, atV_set, atV_set, h.1]
  exact (pointsTo_union h.2).1

/-! ### Sending -/

/-- The sum sent is what the receiver's slot holds. -/
theorem read_sent (c : Dev nD) (s : Fin 3) (o : Fin 2 → ℕ) (j : Fin 4) (k d : Fin 2) (ho) (hj : j = ch c (snd d s.val)) :
    (rV s k d).view.read (Elt F) (bf3 (RR m (ch c (hop d)))) = (cV o j k d ho).view.read (Elt F) (bf2 (ring m d s.val c)) := by
  rw [read_rV, read_cV]
  funext p
  have h₁ : (p 1).val < 4096 := (p 1).isLt
  show RR m (ch c (hop d)) s.val (512 * k.val + (p 0).val) (4096 * d.val + (p 1).val) = ring m d s.val c (1024 * j.val + 512 * k.val + (p 0).val) (4096 * d.val + (p 1).val)
  rw [hj, snd_rcv c s d]
  have hs := hop_src c d
  unfold RR
  rcases fin2_cases d with rfl | rfl
  · rw [if_pos (by show 4096 * 0 + _ < 4096; omega)]
    rw [show ch (ch c (hop 0)) 3 = c from hs, add_assoc]
  · rw [if_neg (by show ¬ (4096 * 1 + _ < 4096); omega)]
    rw [show ch (ch c (hop 1)) 1 = c from hs, add_assoc]

/-- Send a sub-chunk of sums: the debt is paid, and the send is under way. -/
theorem rsSend_tr (c n : Dev nD) (s : Fin 3) (o : Fin 2 → ℕ) (j : Fin 4) (k d : Fin 2) (ho) (hn : n = ch c (hop d)) (hj : j = ch c (snd d s.val)) {l} :
    iprop(Ow m c (it (.rs s k d) :: l) ∗ Tk c (.rs s k d) ∗ slot n (.rs s k d) ∗ cb c j k d (bf2 (ring m d s.val c)) ∗ extra n s k d)
      ⊢ W c (rsSend n s o j k d ho) (fun _ => iprop(Ow m c l ∗ Sd c (.rs s k d))) := by
  rw [cb_eq c o j k d ho]
  refine (send_tr m (.rs s k d) (src := cV o j k d ho) (dst := rV s k d) hn rfl (bf2 (ring m d s.val c)) (bf3 (RR m n)) (extra n s k d) ?_ (Entails.refl _) ?_)
  · iintro -; unfold PS; iempintro
  · subst hn; exact read_sent m c s o j k d ho hj

/-! ### Adding a tile -/

/-- The two tile buffers at rest. -/
def lt (c : Dev nD) : sProp 𝕄 := iprop(pa (F := F) c bA ∗ pa c bB ∗ sv c 0 ∗ sv c 1)

/-- Load a tile of the accumulator and a tile received. -/
theorem rsIn_tr (c : Dev nD) (s : Fin 3) (o : Fin 2 → ℕ) (j : Fin 4) (k t d : Fin 2) (ho) {l} (hl : Above 0 l) (f g) :
    iprop(Ow m c l ∗ lt c ∗ pt c (tV o j k t d ho) fullShare f ∗ pt c (rtV s k t d) fullShare g)
      ⊢ W c (rsIn s o j k t d ho) (fun _ => iprop(Ow m c l ∗ (hd c bA ((tV o j k t d ho).view.read (Elt F) f) ∗ hd c bB ((rtV s k t d).view.read (Elt F) g) ∗ sv c 0 ∗ sv c 1)
          ∗ pt c (tV o j k t d ho) fullShare f)) := by
  unfold rsIn lt
  iintro ⟨HO, ⟨HA, HB, Hv₀, Hv₁⟩, Ht, Hr⟩
  iapply (use (cpIn_tr c (View.dmaCredit_pos _ (by decide)) fullShare f)) $$ [Ht HA Hv₀]
  · isplitl [Ht]; · iexact Ht
    isplitl [HA]; · iexact HA
    iexact Hv₀
  iintro %_ HF₀
  iapply (use (cpIn_tr c (View.dmaCredit_pos _ (by decide)) fullShare g)) $$ [Hr HB Hv₁]
  · isplitl [Hr]; · iexact Hr
    isplitl [HB]; · iexact HB
    iexact Hv₁
  iintro %_ HF₁
  iapply (use (cw_tr m c hl (lvl_lsem 0) _)) $$ [HO HF₀]
  · isplitl [HO]; · iexact HO
    iexact HF₀
  iintro %_ ⟨HO, ⟨HA, Ht⟩, Hv₀⟩
  iapply (useE (cw_tr m c hl (lvl_lsem 1) _)) $$ [HO HF₁]
  · isplitl [HO]; · iexact HO
    iexact HF₁
  iintro %_ ⟨HO, ⟨HB, -⟩, Hv₁⟩
  isplitl [HO]; · iexact HO
  isplitl [HA HB Hv₀ Hv₁]
  · isplitl [HA]; · iexact HA
    isplitl [HB]; · iexact HB
    isplitl [Hv₀]; · iexact Hv₀
    iexact Hv₁
  iexact Ht

/-- Store a tile of sums into the accumulator. -/
theorem rsOut_tr (c : Dev nD) (o : Fin 2 → ℕ) (j : Fin 4) (k t d : Fin 2) (ho) (v : FVec F S256x4096 .bf16) {l} (hl : Above 0 l)
    (g : Buf (Elt F) ((c : Thread nD τ).loc main_v1_1)) (hg : (tV o j k t d ho).view.read (Elt F) g = v) (f) :
    iprop(Ow m c l ∗ pa c bA ∗ sv c 2 ∗ pt c (tV o j k t d ho) fullShare f)
      ⊢ W c (rsOut o j k t d ho v) (fun _ => iprop(Ow m c l ∗ pa c bA ∗ sv c 2 ∗ pt c (tV o j k t d ho) fullShare g)) := by
  unfold rsOut
  iintro ⟨HO, HA, Hv, Ht⟩
  iapply (use (ld_any bA inb_S256x4096_S256x4096_0_0 c)) $$ HA
  iintro %_ HA
  iapply (use (st_tr bA inb_S256x4096_S256x4096_0_0 c v)) $$ HA
  iintro %_ HA
  iapply (use (cpOut_tr c (View.dmaCredit_pos _ (by decide)) v g hg)) $$ [HA Ht Hv]
  · isplitl [HA]; · iexact HA
    isplitl [Ht]; · iexists f; iexact Ht
    iexact Hv
  iintro %_ HF
  iapply (useE (cw_tr m c hl (lvl_lsem 2) _)) $$ [HO HF]
  · isplitl [HO]; · iexact HO
    iexact HF
  iintro %_ ⟨HO, ⟨Ht, HA⟩, Hv⟩
  isplitl [HO]; · iexact HO
  isplitl [HA]; · iexact HA
  isplitl [Hv]; · iexact Hv
  iexact Ht

/-- The tile received, element by element. -/
theorem RR_at (c : Dev nD) (s : Fin 3) (d : Fin 2) (r col : ℕ) (hc : col < 4096) :
    RR m c s.val r (4096 * d.val + col) = ring m d s.val (ch c (src d)) (1024 * (ch c (rcv d s.val)).val + r) (4096 * d.val + col) := by
  unfold RR
  rcases fin2_cases d with rfl | rfl
  · rw [if_pos (by show 4096 * 0 + _ < 4096; omega)]
    rfl
  · rw [if_neg (by show ¬ (4096 * 1 + _ < 4096); omega)]
    rfl

/-- The sum of the tiles is the next sum of the ring. -/
theorem read_sum (c : Dev nD) (s : Fin 3) (o : Fin 2 → ℕ) (j : Fin 4) (k t d : Fin 2) (ho) (hj : j = ch c (rcv d s.val)) :
    (tV o j k t d ho).view.read (Elt F) (bf2 (ring m d (s.val + 1) c))
      = k0_pay26 ((tV o j k t d ho).view.read (Elt F) (bf2 (Pn m c))) ((rtV s k t d).view.read (Elt F) (bf3 (RR m c))) := by
  rw [read_tV, read_tV, read_rtV]
  funext p
  have h₁ : (p 1).val < 4096 := (p 1).isLt
  rw [pay26_apply]
  show comb (Pn m c _ _) (ring m d s.val _ _ _) = comb (Pn m c _ _) (RR m c s.val _ (4096 * d.val + (p 1).val))
  rw [RR_at m c s d _ _ h₁, hj, ← add_assoc, ← add_assoc]

/-- The clipped sum of the tiles. -/
theorem pay59_eq (c : Dev nD) (o : Fin 2 → ℕ) (j : Fin 4) (k t d : Fin 2) (ho) (hj : j = ch c (rcv d 2)) :
    k0_pay59 ((tV o j k t d ho).view.read (Elt F) (bf2 (Pn m c))) ((rtV 2 k t d).view.read (Elt F) (bf3 (RR m c))) = Vt m c k t d := by
  rw [read_tV, read_rtV]
  funext p
  have h₁ : (p 1).val < 4096 := (p 1).isLt
  rw [pay59_apply]
  show last32 (Pn m c _ _) (RR m c (2 : Fin 3).val _ (4096 * d.val + (p 1).val)) = last32 (Pn m c _ _) (ring m d 2 _ _ _)
  rw [RR_at m c 2 d _ _ h₁, hj, ← add_assoc, ← add_assoc]
  rfl

/-- A tile of the final accumulator reads as the rounded clipped sums. -/
theorem read_fin (c : Dev nD) (o : Fin 2 → ℕ) (j : Fin 4) (k t d : Fin 2) (ho) (hj : j = ch c (rcv d 2)) :
    (tV o j k t d ho).view.read (Elt F) (bf2 (fin16 m d c)) = k0_pay62 (Vt m c k t d) := by
  rw [read_tV]
  funext p
  rw [pay62_apply, hj]
  rfl

/-- Add a tile received to the accumulator's. -/
theorem rsTile_tr (c : Dev nD) (s : Fin 3) (o : Fin 2 → ℕ) (j : Fin 4) (k t d : Fin 2) (ho) (hj : j = ch c (rcv d s.val)) {l} (hl : Above 0 l) :
    iprop(Ow m c l ∗ lt c ∗ sv c 2 ∗ tb c j k t d (bf2 (Pn m c)) ∗ pt c (rtV s k t d) fullShare (bf3 (RR m c)))
      ⊢ W c (rsTile s o j k t d ho) (fun _ => iprop(Ow m c l ∗ lt c ∗ sv c 2 ∗ tb c j k t d (bf2 (ring m d (s.val + 1) c)))) := by
  simp only [tb_eq c o j k t d ho]
  unfold rsTile
  iintro ⟨HO, Hlt, Hv, Ht, Hr⟩
  iapply (use (rsIn_tr m c s o j k t d ho hl _ _)) $$ [HO Hlt Ht Hr]
  · isplitl [HO]; · iexact HO
    isplitl [Hlt]; · iexact Hlt
    isplitl [Ht]; · iexact Ht
    iexact Hr
  iintro %_ ⟨HO, ⟨HA, HB, Hv₀, Hv₁⟩, Ht⟩
  iapply (use (ld_tr bA inb_S256x4096_S256x4096_0_0 c _)) $$ HA
  iintro %a ⟨%ha, HA⟩
  iapply (use (ld_tr bB inb_S256x4096_S256x4096_0_0 c _)) $$ HB
  iintro %b ⟨%hb, HB⟩
  iapply (useE (rsOut_tr m c o j k t d ho _ hl (bf2 (ring m d (s.val + 1) c)) (by rw [ha, hb]; exact read_sum m c s o j k t d ho hj) _)) $$ [HO HA Hv Ht]
  · isplitl [HO]; · iexact HO
    isplitl [HA]; · iapply (hd_pa c bA _); iexact HA
    isplitl [Hv]; · iexact Hv
    iexact Ht
  iintro %_ ⟨HO, HA, Hv, Ht⟩
  isplitl [HO]; · iexact HO
  isplitl [HA HB Hv₀ Hv₁]
  · unfold lt
    isplitl [HA]; · iexact HA
    isplitl [HB]; · iapply (hd_pa c bB _); iexact HB
    isplitl [Hv₀]; · iexact Hv₀
    iexact Hv₁
  isplitl [Hv]; · iexact Hv
  iexact Ht

/-- The same at the last step, clipping, and yield the tile's clipped sums. -/
theorem rsTileLast_tr (c : Dev nD) (o : Fin 2 → ℕ) (j : Fin 4) (k t d : Fin 2) (ho) (hj : j = ch c (rcv d 2)) {l} (hl : Above 0 l) :
    iprop(Ow m c l ∗ lt c ∗ sv c 2 ∗ tb c j k t d (bf2 (Pn m c)) ∗ pt c (rtV 2 k t d) fullShare (bf3 (RR m c)))
      ⊢ W c (rsTileLast o j k t d ho) (fun v => iprop(⌜v = Vt m c k t d⌝ ∗ Ow m c l ∗ lt c ∗ sv c 2 ∗ tb c j k t d (bf2 (fin16 m d c)))) := by
  simp only [tb_eq c o j k t d ho]
  unfold rsTileLast
  iintro ⟨HO, Hlt, Hv, Ht, Hr⟩
  iapply (use (rsIn_tr m c 2 o j k t d ho hl _ _)) $$ [HO Hlt Ht Hr]
  · isplitl [HO]; · iexact HO
    isplitl [Hlt]; · iexact Hlt
    isplitl [Ht]; · iexact Ht
    iexact Hr
  iintro %_ ⟨HO, ⟨HA, HB, Hv₀, Hv₁⟩, Ht⟩
  iapply (use (ld_tr bA inb_S256x4096_S256x4096_0_0 c _)) $$ HA
  iintro %a ⟨%ha, HA⟩
  iapply (use (ld_tr bB inb_S256x4096_S256x4096_0_0 c _)) $$ HB
  iintro %b ⟨%hb, HB⟩
  have hv : k0_pay59 a b = Vt m c k t d := by rw [ha, hb]; exact pay59_eq m c o j k t d ho hj
  iapply (use (rsOut_tr m c o j k t d ho _ hl (bf2 (fin16 m d c)) (by rw [hv]; exact read_fin m c o j k t d ho hj) _)) $$ [HO HA Hv Ht]
  · isplitl [HO]; · iexact HO
    isplitl [HA]; · iapply (hd_pa c bA _); iexact HA
    isplitl [Hv]; · iexact Hv
    iexact Ht
  iintro %_ ⟨HO, HA, Hv, Ht⟩
  simp only [Prog.pure_eq_ret, W, wp_ret]
  imodintro
  isplitr; · ipureintro; exact hv
  isplitl [HO]; · iexact HO
  isplitl [HA HB Hv₀ Hv₁]
  · unfold lt
    isplitl [HA]; · iexact HA
    isplitl [HB]; · iapply (hd_pa c bB _); iexact HB
    isplitl [Hv₀]; · iexact Hv₀
    iexact Hv₁
  isplitl [Hv]; · iexact Hv
  iexact Ht

/-! ### Units -/

/-- Wait for a sub-chunk. -/
theorem rsWait_tr (c : Dev nD) (s : Fin 3) (o : Fin 2 → ℕ) (j : Fin 4) (k d : Fin 2) (ho) {l} (hl : Above (lvl (.dma (sR (.rs s k d)))) l) :
    iprop(Ow m c l ∗ Wt c (.rs s k d))
      ⊢ W c (rsWait s o j k d ho) (fun _ => iprop(Ow m c l ∗ PR m c (.rs s k d) ∗ semVal (gR c (.rs s k d)) 0)) :=
  recv_tr m (.rs s k d) (src := cV o j k d ho) (dst := rV s k d) rfl hl

/-- A unit before the last step, in either half. -/
def rsUnit (n : Dev nD) (s s' : Fin 3) (k d : Fin 2) (ow : Fin 2 → ℕ) (jw : Fin 4) (how : ow = ![1024 * jw.val + 512 * k.val, 4096 * d.val])
    (o₀ o₁ : Fin 2 → ℕ) (j : Fin 4) (ho₀ : o₀ = ![1024 * j.val + 512 * k.val + 256 * (0 : Fin 2).val, 4096 * d.val])
    (ho₁ : o₁ = ![1024 * j.val + 512 * k.val + 256 * (1 : Fin 2).val, 4096 * d.val])
    (os : Fin 2 → ℕ) (js : Fin 4) (hos : os = ![1024 * js.val + 512 * k.val, 4096 * d.val]) : TP F PUnit := do
  rsWait s ow jw k d how
  rsTile s o₀ j k 0 d ho₀
  rsTile s o₁ j k 1 d ho₁
  rsSend n s' os js k d hos

/-- One unit before the last step: wait, add both tiles, send on. -/
theorem rsUnit_tr (c n : Dev nD) (s s' : Fin 3) (k d : Fin 2) (ow : Fin 2 → ℕ) (jw : Fin 4) (how) (o₀ o₁ : Fin 2 → ℕ) (j : Fin 4) (ho₀) (ho₁) (os : Fin 2 → ℕ) (js : Fin 4) (hos)
    (hs : s'.val = s.val + 1) (hn : n = ch c (hop d)) (hj : j = ch c (rcv d s.val)) (hjs : js = ch c (snd d s'.val)) {l} (hl : Above (lvl (.dma (sR (.rs s k d)))) (it (.rs s' k d) :: l)) :
    iprop(Ow m c (it (.rs s' k d) :: l) ∗ Wt c (.rs s k d) ∗ Tk c (.rs s' k d) ∗ slot n (.rs s' k d) ∗ lt c ∗ sv c 2 ∗ cb c j k d (bf2 (Pn m c)))
      ⊢ W c (rsUnit n s s' k d ow jw how o₀ o₁ j ho₀ ho₁ os js hos)
          (fun _ => iprop(Ow m c l ∗ lt c ∗ sv c 2 ∗ extra c s k d ∗ semVal (gR c (.rs s k d)) 0 ∗ Sd c (.rs s' k d))) := by
  unfold rsUnit
  iintro ⟨HO, Hw, Htk, Hsl, Hlt, Hv, Hc⟩
  iapply (use (rsWait_tr m c s ow jw k d how hl)) $$ [HO Hw]
  · isplitl [HO]; · iexact HO
    iexact Hw
  unfold PR
  iintro %_ ⟨HO, ⟨Hr, He⟩, Hz⟩
  ihave Hr := (rV_tiles c s k d fullShare _) $$ Hr
  icases Hr with ⟨Hr₀, Hr₁⟩
  ihave Hc := (cb_tb c j k d _).1 $$ Hc
  icases Hc with ⟨Hc₀, Hc₁⟩
  iapply (use (rsTile_tr m c s o₀ j k 0 d ho₀ hj hl.mono)) $$ [HO Hlt Hv Hc₀ Hr₀]
  · isplitl [HO]; · iexact HO
    isplitl [Hlt]; · iexact Hlt
    isplitl [Hv]; · iexact Hv
    isplitl [Hc₀]; · iexact Hc₀
    iexact Hr₀
  iintro %_ ⟨HO, Hlt, Hv, Hc₀⟩
  iapply (use (rsTile_tr m c s o₁ j k 1 d ho₁ hj hl.mono)) $$ [HO Hlt Hv Hc₁ Hr₁]
  · isplitl [HO]; · iexact HO
    isplitl [Hlt]; · iexact Hlt
    isplitl [Hv]; · iexact Hv
    isplitl [Hc₁]; · iexact Hc₁
    iexact Hr₁
  iintro %_ ⟨HO, Hlt, Hv, Hc₁⟩
  iapply (useE (rsSend_tr m c n s' os js k d hos hn hjs)) $$ [HO Htk Hsl Hc₀ Hc₁]
  · isplitl [HO]; · iexact HO
    isplitl [Htk]; · iexact Htk
    isplitl [Hsl]; · iexact Hsl
    isplitl [Hc₀ Hc₁]
    · rw [hs, hjs, snd_next c s s' d hs, ← hj]
      iapply (cb_tb c j k d _).2
      isplitl [Hc₀]; · iexact Hc₀
      iexact Hc₁
    unfold extra
    rw [if_neg (fun h => by have := congrArg Fin.val h.1; rw [hs] at this; exact absurd this (Nat.succ_ne_zero _))]
    iempintro
  iintro %_ ⟨HO, Hs⟩
  isplitl [HO]; · iexact HO
  isplitl [Hlt]; · iexact Hlt
  isplitl [Hv]; · iexact Hv
  isplitl [He]; · iexact He
  isplitl [Hz]; · iexact Hz
  iexact Hs

/-- That unit in the low half. -/
theorem rsUnitL_tr (c n : Dev nD) (s s' : Fin 3) (k : Fin 2) (hs : s'.val = s.val + 1) (hn : n = ch c 1) {l} (hl : Above (lvl (.dma (sR (.rs s k 0)))) (it (.rs s' k 0) :: l)) :
    iprop(Ow m c (it (.rs s' k 0) :: l) ∗ Wt c (.rs s k 0) ∗ Tk c (.rs s' k 0) ∗ slot n (.rs s' k 0) ∗ lt c ∗ sv c 2 ∗ cb c (ch c (rcv 0 s.val)) k 0 (bf2 (Pn m c)))
      ⊢ W c (rsUnitL c n s s' k hs) (fun _ => iprop(Ow m c l ∗ lt c ∗ sv c 2 ∗ extra c s k 0 ∗ semVal (gR c (.rs s k 0)) 0 ∗ Sd c (.rs s' k 0))) :=
  rsUnit_tr m c n s s' k 0 _ _ (off6_eq c s k) _ _ _ (off21_eq c s k 0) (off21_eq c s k 1) _ _ (off6_eq c s' k) hs hn rfl rfl hl

/-- That unit in the high half. -/
theorem rsUnitH_tr (c n : Dev nD) (s s' : Fin 3) (k : Fin 2) (hs : s'.val = s.val + 1) (hn : n = ch c 3) {l} (hl : Above (lvl (.dma (sR (.rs s k 1)))) (it (.rs s' k 1) :: l)) :
    iprop(Ow m c (it (.rs s' k 1) :: l) ∗ Wt c (.rs s k 1) ∗ Tk c (.rs s' k 1) ∗ slot n (.rs s' k 1) ∗ lt c ∗ sv c 2 ∗ cb c (ch c (rcv 1 s.val)) k 1 (bf2 (Pn m c)))
      ⊢ W c (rsUnitH c n s s' k hs) (fun _ => iprop(Ow m c l ∗ lt c ∗ sv c 2 ∗ extra c s k 1 ∗ semVal (gR c (.rs s k 1)) 0 ∗ Sd c (.rs s' k 1))) :=
  rsUnit_tr m c n s s' k 1 _ _ (off11_eq c s k) _ _ _ (off22_eq c s k 0) (off22_eq c s k 1) _ _ (off11_eq c s' k) hs hn rfl rfl hl

/-- A unit of the last step, in either half. -/
def rsLast (k d : Fin 2) (ow : Fin 2 → ℕ) (jw : Fin 4) (how : ow = ![1024 * jw.val + 512 * k.val, 4096 * d.val])
    (o₀ o₁ : Fin 2 → ℕ) (j : Fin 4) (ho₀ : o₀ = ![1024 * j.val + 512 * k.val + 256 * (0 : Fin 2).val, 4096 * d.val])
    (ho₁ : o₁ = ![1024 * j.val + 512 * k.val + 256 * (1 : Fin 2).val, 4096 * d.val]) (x : F .f32) : TP F (F .f32) := do
  rsWait 2 ow jw k d how
  let v ← rsTileLast o₀ j k 0 d ho₀
  let v' ← rsTileLast o₁ j k 1 d ho₁
  pure (Scalar.maximumf (Scalar.maximumf x (tileMax v)) (tileMax v'))

/-- One unit of the last step: wait, add and clip both tiles, fold in their maxima. -/
theorem rsLast_tr (c : Dev nD) (k d : Fin 2) (ow : Fin 2 → ℕ) (jw : Fin 4) (how) (o₀ o₁ : Fin 2 → ℕ) (j : Fin 4) (ho₀) (ho₁) (x : F .f32)
    (hj : j = ch c (rcv d 2)) {l} (hl : Above (lvl (.dma (sR (.rs 2 k d)))) l) :
    iprop(Ow m c l ∗ Wt c (.rs 2 k d) ∗ lt c ∗ sv c 2 ∗ cb c j k d (bf2 (Pn m c)))
      ⊢ W c (rsLast k d ow jw how o₀ o₁ j ho₀ ho₁ x)
          (fun y => iprop(⌜y = fold2 m c k d x⌝ ∗ Ow m c l ∗ lt c ∗ sv c 2 ∗ semVal (gR c (.rs 2 k d)) 0 ∗ cb c j k d (bf2 (fin16 m d c)))) := by
  unfold rsLast
  iintro ⟨HO, Hw, Hlt, Hv, Hc⟩
  iapply (use (rsWait_tr m c 2 ow jw k d how hl)) $$ [HO Hw]
  · isplitl [HO]; · iexact HO
    iexact Hw
  unfold PR
  iintro %_ ⟨HO, ⟨Hr, -⟩, Hz⟩
  ihave Hr := (rV_tiles c 2 k d fullShare _) $$ Hr
  icases Hr with ⟨Hr₀, Hr₁⟩
  ihave Hc := (cb_tb c j k d _).1 $$ Hc
  icases Hc with ⟨Hc₀, Hc₁⟩
  iapply (use (rsTileLast_tr m c o₀ j k 0 d ho₀ hj hl.mono)) $$ [HO Hlt Hv Hc₀ Hr₀]
  · isplitl [HO]; · iexact HO
    isplitl [Hlt]; · iexact Hlt
    isplitl [Hv]; · iexact Hv
    isplitl [Hc₀]; · iexact Hc₀
    iexact Hr₀
  iintro %v ⟨%hv, HO, Hlt, Hv, Hc₀⟩
  iapply (use (rsTileLast_tr m c o₁ j k 1 d ho₁ hj hl.mono)) $$ [HO Hlt Hv Hc₁ Hr₁]
  · isplitl [HO]; · iexact HO
    isplitl [Hlt]; · iexact Hlt
    isplitl [Hv]; · iexact Hv
    isplitl [Hc₁]; · iexact Hc₁
    iexact Hr₁
  iintro %v' ⟨%hv', HO, Hlt, Hv, Hc₁⟩
  simp only [Prog.pure_eq_ret, W, wp_ret]
  imodintro
  isplitr; · ipureintro; rw [hv, hv']; rfl
  isplitl [HO]; · iexact HO
  isplitl [Hlt]; · iexact Hlt
  isplitl [Hv]; · iexact Hv
  isplitl [Hz]; · iexact Hz
  iapply (cb_tb c j k d _).2
  isplitl [Hc₀]; · iexact Hc₀
  iexact Hc₁

/-- That unit in the low half. -/
theorem rsLastL_tr (c : Dev nD) (k : Fin 2) (x : F .f32) {l} (hl : Above (lvl (.dma (sR (.rs 2 k 0)))) l) :
    iprop(Ow m c l ∗ Wt c (.rs 2 k 0) ∗ lt c ∗ sv c 2 ∗ cb c (ch c (rcv 0 2)) k 0 (bf2 (Pn m c)))
      ⊢ W c (rsLastL c k x)
          (fun y => iprop(⌜y = fold2 m c k 0 x⌝ ∗ Ow m c l ∗ lt c ∗ sv c 2 ∗ semVal (gR c (.rs 2 k 0)) 0 ∗ cb c (ch c (rcv 0 2)) k 0 (bf2 (fin16 m 0 c)))) :=
  rsLast_tr m c k 0 _ _ (off6_eq c 2 k) _ _ _ (off21_eq c 2 k 0) (off21_eq c 2 k 1) x rfl hl

/-- That unit in the high half. -/
theorem rsLastH_tr (c : Dev nD) (k : Fin 2) (x : F .f32) {l} (hl : Above (lvl (.dma (sR (.rs 2 k 1)))) l) :
    iprop(Ow m c l ∗ Wt c (.rs 2 k 1) ∗ lt c ∗ sv c 2 ∗ cb c (ch c (rcv 1 2)) k 1 (bf2 (Pn m c)))
      ⊢ W c (rsLastH c k x)
          (fun y => iprop(⌜y = fold2 m c k 1 x⌝ ∗ Ow m c l ∗ lt c ∗ sv c 2 ∗ semVal (gR c (.rs 2 k 1)) 0 ∗ cb c (ch c (rcv 1 2)) k 1 (bf2 (fin16 m 1 c)))) :=
  rsLast_tr m c k 1 _ _ (off11_eq c 2 k) _ _ _ (off22_eq c 2 k 0) (off22_eq c 2 k 1) x rfl hl

end Cert.KernelIdeal.Gen

end
-- ==== Proof.Greet.lean ====
/-
  The barrier with the neighbours, the first sends, and the exchange of the maxima.
-/
module

public import proofs.«01_k».proof.Proof.Scatter

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### The barrier -/

/-- What a duty of a barrier cell hands over. -/
theorem pay_B (c : Dev nD) (b : Bool) : (Rd m).payload (gB c) 0 b = PB (F := F) c b := rfl

/-- A signal at a barrier cell. -/
theorem greet_tr (c n : Dev nD) (h : ℕ) (b : Bool) (hn : n = ch c h) {l} :
    iprop(Ow m c ((h, .reg barS) :: l) ∗ dutyTok ER (gB n) 0 b ∗ PB n b)
      ⊢ W c (semSignalWord n barS 1#32) (fun _ => Ow m c l) := by
  subst hn
  unfold Ow
  iintro ⟨⟨#HA, ⟨%W, HO⟩⟩, Ht, HP⟩
  ihave #HB := (amb_at m (ch c h) none) $$ HA
  icases HB with ⟨%κ, #HI, #Hr⟩
  simp only [semSignalWord, Prog.lift, Prog.bind_op, Prog.bind_ret, Prog.pure_eq_ret]
  iapply (Rounds.wp_signal 𝒱₀ ER (Rd m) (c : Thread nD τ) none (dst := (ch c h : Thread nD τ)) (κ := κ) (d := b)
      (by rw [duties_B]; exact Finset.mem_univ _) (show (1 : ℕ) = _ by rfl) () (O₀ := Ot c ((h, .reg barS) :: l)) (Ot c l) (Ot_cons c _ l)) $$ [HO Ht HP]
  · isplitr; · iexact HI
    isplitl [HO]; · iexact HO
    isplitl [Ht]; · iexact Ht
    isplitl [HP]; · rw [pay_B]; iexact HP
    iexact Hr
  iintro HO
  rw [wp_ret]; imodintro
  isplitr; · iexact HA
  iexists W; iexact HO

/-- What device `c` waits at its barrier with. -/
def Bt (c : Dev nD) : sProp 𝕄 := iprop(atPos ER (gB c) 0 ∅ 0 ∗ cred (tallyAt (gB c) () 2))

/-- The wait at the barrier. -/
theorem met_tr (c : Dev nD) {l} (hl : Above 1 l) :
    iprop(Ow m c l ∗ Bt c) ⊢ W c (semWaitWord barS 2#32) (fun _ => iprop(Ow m c l ∗ (PB c false ∗ PB c true) ∗ semVal (gB c) 0)) := by
  unfold Ow Bt
  iintro ⟨⟨#HA, ⟨%W, HO⟩⟩, Hat, Hc⟩
  ihave #HB := (amb_at m c none) $$ HA
  icases HB with ⟨%κ, #HI, -⟩
  simp only [semWaitWord, Prog.lift, Prog.bind_op, Prog.bind_ret, Prog.pure_eq_ret]
  iapply (Rounds.wp_wait_rest_token 𝒱₀ ER (Rd m) (c : Thread nD τ) none (κ := κ)
      (wpE_semWait_eq 𝒱₀ (c : Thread nD τ) none Set.univ) (Set.mem_univ _) () (O := Ot c l) (W := W) (R := 0) (m := 0) (T := ∅)
      (by rw [expect_B]; decide)) $$ [Hc HO Hat]
  · isplitr; · iexact HI
    isplitl [Hc]; · iexact Hc
    isplitl [HO]; · iexact HO
    isplitr
    · unfold Amb; icases HA with ⟨-, Hl⟩; iapply (mayWait c (.reg barS) l hl); iexact Hl
    iexact Hat
  iintro ⟨HO, Hat, -, Hpay⟩
  ihave Hp := (Entails.of_eq (rest_B m c)) $$ Hpay
  rw [wp_ret]
  imod (Rounds.cell_close ER (Rd m) (Set.mem_univ κ) (fun h => h) (R := 0 + 1) (duties_later m (gB c))) $$ [Hat] with Hz
  · isplitr; · iexact HI
    iexact Hat
  imodintro
  isplitl [HO]
  · isplitr; · iexact HA
    iexists _; iexact HO
  isplitl [Hp]; · iexact Hp
  iexact Hz

/-! ### Exchanging the maxima -/

/-- A buffer that reads as `g` does holds `g`. -/
theorem hd_pt {sp : Space} {s : Shape} {e : EltTy} (c : Dev nD) (M : Memref sig .tc sp s e) (X : s.Idx → Elt F e) (g : Buf (Elt F) (M.view.loc (c : Thread nD τ)))
    (hg : M.view.read (Elt F) g = X) : hd c M X ⊢ pt c M fullShare g := by
  unfold hd
  iintro ⟨%f, %hf, H⟩
  have h : ∀ i ∈ M.view.set, f i = g i := by
    intro i hi
    obtain ⟨x, -, rfl⟩ := Finset.mem_map.mp hi
    have := congrFun (hf.trans hg.symm) x
    rw [View.read_apply, View.read_apply] at this
    exact cast_inj _ |>.mp this
  ihave H' := (Entails.of_eq (pointsTo_congr h)) $$ H
  iexact H'

/-- A piece splits into three shares. -/
theorem thirds {sp : Space} {s : Shape} {e : EltTy} (c : Dev nD) (M : Memref sig .tc sp s e) (f : Buf (Elt F) (M.view.loc (c : Thread nD τ))) :
    (pt (F := F) c M fullShare f) ⊣⊢ iprop(pt c M (third 0) f ∗ pt c M (third 1) f ∗ pt c M (third 2) f) := by
  constructor
  · iintro H
    ihave H := (pointsTo_share (PosShare.mem_left_op_right fullShare)).1 $$ H
    icases H with ⟨H₀, H⟩
    ihave H := (pointsTo_share (PosShare.mem_left_op_right fullShare.right)).1 $$ H
    icases H with ⟨H₁, H₂⟩
    isplitl [H₀]; · iexact H₀
    isplitl [H₁]; · iexact H₁
    iexact H₂
  · iintro ⟨H₀, H₁, H₂⟩
    iapply (pointsTo_share (PosShare.mem_left_op_right fullShare)).2
    isplitl [H₀]; · iexact H₀
    iapply (pointsTo_share (PosShare.mem_left_op_right fullShare.right)).2
    isplitl [H₁]; · iexact H₁
    iexact H₂

/-- The device from which a maximum comes. -/
theorem am_src : ∀ (c : Dev nD) (i : Fin 3), ch (ch c (i.val + 1)) (4 - (i.val + 1)) = c := by decide +kernel

/-- Send the maximum. -/
theorem amSend_tr (c n : Dev nD) (i : Fin 3) (hn : n = ch c (i.val + 1)) {l} :
    iprop(Ow m c (it (.am i) :: l) ∗ Tk c (.am i) ∗ slot n (.am i) ∗ pt c bM (third i) (bf2 fun _ _ => amax m c))
      ⊢ W c (amSend n i) (fun _ => iprop(Ow m c l ∗ Sd c (.am i))) := by
  have h := send_tr m (.am i) (src := bM) (dst := mV i) (hsrc := (Memref.isWhole_whole _).wordExact) (hdst := View.wordExact_bits rfl)
    (hsc := rfl) (hsem := ⟨⟨rfl, Or.inl rfl⟩, trivial⟩) (l := l) (q := third i) hn rfl (bf2 fun _ _ => amax m c) (bf3 (MR m n)) iprop(emp) (Entails.refl _) (by unfold PR; exact Laws.sep_emp.1)
    (by rw [read_mV]; funext p; subst hn; show amax m (ch (ch c (i.val + 1)) (4 - (i.val + 1))) = amax m c; rw [am_src])
  rw [show slot (F := F) n (.am i) = pa n (mV i) from rfl]
  iintro ⟨HO, Ht, Hs, Hp⟩
  iapply h
  isplitl [HO]; · iexact HO
  isplitl [Ht]; · iexact Ht
  isplitl [Hs]; · iexact Hs
  isplitl [Hp]; · iexact Hp
  iempintro

/-- Wait for a maximum. -/
theorem amWait_tr (c : Dev nD) (i : Fin 3) {l} (hl : Above (lvl (.dma (sR (.am i)))) l) :
    iprop(Ow m c l ∗ Wt c (.am i)) ⊢ W c (amWait i) (fun _ => iprop(Ow m c l ∗ pt c (mV i) fullShare (bf3 (MR m c)) ∗ semVal (gR c (.am i)) 0)) :=
  recv_tr m (.am i) (src := bM) (dst := mV i) rfl hl

omit [FloatOps F] in
/-- The places of a slot of the maxima. -/
theorem mV_set (i : Fin 3) : (mV i).view.set = bx3 (i.val + 1) 0 8 0 128 := by
  show (((View.whole cc0_scratch12).slice _).reshape _ _).set = _
  rw [View.set_reshape, View.set_slice_whole]; exact unit_bx3 _

/-- The place of the maxima received: all slots but the first. -/
abbrev mSet : Finset (⟨3, ![4, 8, 128]⟩ : Shape).Idx := bx3 1 0 8 0 128 ∪ (bx3 2 0 8 0 128 ∪ bx3 3 0 8 0 128)

/-- The three slots received are slot by slot. -/
theorem slots3 (c : Dev nD) (f : Buf (Elt F) ((c : Thread nD τ).loc cc0_scratch12)) :
    (((c : Thread nD τ).loc cc0_scratch12 ↦[mSet]{fullShare} f : sProp 𝕄))
      ⊣⊢ iprop(pt c (mV 0) fullShare f ∗ pt c (mV 1) fullShare f ∗ pt c (mV 2) fullShare f) := by
  have d : ∀ {i j}, i ≠ j → Disjoint (bx3 i 0 8 0 128 : Finset (⟨3, ![4, 8, 128]⟩ : Shape).Idx) (bx3 j 0 8 0 128) := by
    intro i j hij; rw [Finset.disjoint_left]; intro x; rw [mem_bx3, mem_bx3]; omega
  show _ ⊣⊢ iprop((((c : Thread nD τ).loc cc0_scratch12) ↦[(mV 0).view.set]{fullShare} f) ∗ (((c : Thread nD τ).loc cc0_scratch12) ↦[(mV 1).view.set]{fullShare} f) ∗ (((c : Thread nD τ).loc cc0_scratch12) ↦[(mV 2).view.set]{fullShare} f))
  rw [mV_set, mV_set, mV_set]
  have h₁ := fun (h : Disjoint _ _) => pointsTo_union (nD := nD) (τ := τ) (sig := sig) (Ix := Unit) (Val := Elt F) (Name := ℕ) (U := UU) (Lvl := ℕ) (ℓ := (c : Thread nD τ).loc cc0_scratch12) (q := fullShare) (f := f)
    (I := (bx3 1 0 8 0 128 : Finset (⟨3, ![4, 8, 128]⟩ : Shape).Idx)) (J := (bx3 2 0 8 0 128 ∪ bx3 3 0 8 0 128 : Finset (⟨3, ![4, 8, 128]⟩ : Shape).Idx)) h
  have h₂ := fun (h : Disjoint _ _) => pointsTo_union (nD := nD) (τ := τ) (sig := sig) (Ix := Unit) (Val := Elt F) (Name := ℕ) (U := UU) (Lvl := ℕ) (ℓ := (c : Thread nD τ).loc cc0_scratch12) (q := fullShare) (f := f)
    (I := (bx3 2 0 8 0 128 : Finset (⟨3, ![4, 8, 128]⟩ : Shape).Idx)) (J := (bx3 3 0 8 0 128 : Finset (⟨3, ![4, 8, 128]⟩ : Shape).Idx)) h
  have h₂ := h₂ (d (by decide))
  have h₁ := h₁ (Finset.disjoint_union_right.mpr ⟨d (by decide), d (by decide)⟩)
  exact ⟨h₁.1.trans (sep_mono_right h₂.1), (sep_mono_right h₂.2).trans h₁.2⟩

/-- The maxima loaded lie in the three slots. -/
theorem mLoad_set (r : Rect S4x8x128) (hr : r = Rect.unit (s := S4x8x128) ![1, 0, 0] S3x8x128.size inb_S4x8x128_S3x8x128_1_0_0) :
    (bMR.view.setOn r.toLoadRect.set) ⊆ mSet := by
  subst hr
  intro x hx
  obtain ⟨y, hy, rfl⟩ := Finset.mem_map.mp hx
  have h := (Rect.mem_set_unit (s := S4x8x128) (inb := inb_S4x8x128_S3x8x128_1_0_0)).mp (show y ∈ (Rect.unit (s := S4x8x128) ![1, 0, 0] S3x8x128.size inb_S4x8x128_S3x8x128_1_0_0).set from hy)
  have h₀ : 1 ≤ (y 0).val ∧ (y 0).val < 1 + 3 := h 0
  have h₁ : (y 1).val < 8 := (y 1).isLt
  have h₂ : (y 2).val < 128 := (y 2).isLt
  rw [Finset.mem_union, Finset.mem_union, mem_bx3, mem_bx3, mem_bx3]
  show ((y 0).val = _ ∧ (_ ≤ (y 1).val ∧ (y 1).val < _) ∧ (_ ≤ (y 2).val ∧ (y 2).val < _)) ∨ ((y 0).val = _ ∧ (_ ≤ (y 1).val ∧ (y 1).val < _) ∧ (_ ≤ (y 2).val ∧ (y 2).val < _)) ∨ ((y 0).val = _ ∧ (_ ≤ (y 1).val ∧ (y 1).val < _) ∧ (_ ≤ (y 2).val ∧ (y 2).val < _))
  omega

/-- The three maxima received. -/
theorem read_m3 (c : Dev nD) : bMR.view.readAt (Elt F) (Rect.unit (s := S4x8x128) ![1, 0, 0] S3x8x128.size inb_S4x8x128_S3x8x128_1_0_0).toLoadRect (bf3 (MR m c))
    = (bf3 fun i r col => MR m c (1 + i) r col : S3x8x128.Idx → F .f32) := by
  funext p
  rw [View.readAt_apply]
  show amax m (ch c (4 - (1 + 1 * (p 0).val))) = amax m (ch c (4 - (1 + (p 0).val)))
  rw [one_mul]

/-- Load the three maxima received. -/
theorem mLoad_tr (c : Dev nD) {hl} :
    iprop(pt c (mV 0) fullShare (bf3 (MR m c)) ∗ pt c (mV 1) fullShare (bf3 (MR m c)) ∗ pt c (mV 2) fullShare (bf3 (MR m c)))
      ⊢ W c (Prog.lift (.load bMR (Rect.unit (s := S4x8x128) ![1, 0, 0] S3x8x128.size inb_S4x8x128_S3x8x128_1_0_0).toLoadRect hl))
          (fun r => iprop(⌜k0_pay77 r = gmx m c⌝ ∗ pt c (mV 0) fullShare (bf3 (MR m c)) ∗ pt c (mV 1) fullShare (bf3 (MR m c)) ∗ pt c (mV 2) fullShare (bf3 (MR m c)))) := by
  iintro H
  ihave H := (slots3 c (bf3 (MR m c))).2 $$ H
  simp only [Prog.lift]
  iapply (wp_load 𝒱₀ (c : Thread nD τ) none Set.univ (m := bMR) (mLoad_set _ rfl)) $$ H
  iintro H
  rw [wp_ret]; imodintro
  isplitr
  · ipureintro
    exact congrArg k0_pay77 (read_m3 m c)
  iapply (slots3 c (bf3 (MR m c))).1
  iexact H

/-- Send the device's largest element to the others and receive theirs. -/
theorem amAll_tr (c : Dev nD) {l} (hl : Above 5 l) :
    iprop(Ow m c (it (.am 0) :: it (.am 1) :: it (.am 2) :: l) ∗ pa c bM
        ∗ (Tk c (.am 0) ∗ slot (ch c 1) (.am 0) ∗ Wt c (.am 0)) ∗ (Tk c (.am 1) ∗ slot (ch c 2) (.am 1) ∗ Wt c (.am 1)) ∗ (Tk c (.am 2) ∗ slot (ch c 3) (.am 2) ∗ Wt c (.am 2)))
      ⊢ W c (amAll c (amax m c)) (fun g => iprop(⌜g = gmx m c⌝ ∗ Ow m c l ∗ (Sd c (.am 0) ∗ Sd c (.am 1) ∗ Sd c (.am 2))
          ∗ (semVal (gR c (.am 0)) 0 ∗ semVal (gR c (.am 1)) 0 ∗ semVal (gR c (.am 2)) 0)
          ∗ pa c (mV 0) ∗ pa c (mV 1) ∗ pa c (mV 2))) := by
  have hn₀ : (⟨k0_dev15 c, k0_dev15_lt c⟩ : Dev nD) = ch c ((0 : Fin 3).val + 1) := by revert c; decide +kernel
  have hn₁ : (⟨k0_dev16 c, k0_dev16_lt c⟩ : Dev nD) = ch c ((1 : Fin 3).val + 1) := by revert c; decide +kernel
  have hn₂ : (⟨k0_dev17 c, k0_dev17_lt c⟩ : Dev nD) = ch c ((2 : Fin 3).val + 1) := by revert c; decide +kernel
  unfold amAll
  iintro ⟨HO, HM, ⟨Ht₀, Hs₀, Hw₀⟩, ⟨Ht₁, Hs₁, Hw₁⟩, ⟨Ht₂, Hs₂, Hw₂⟩⟩
  iapply (use (ld_any bM inb_S8x128_S8x128_0_0 c)) $$ HM
  iintro %_ HM
  iapply (use (st_tr bM inb_S8x128_S8x128_0_0 c _)) $$ HM
  iintro %_ HM
  ihave HM := (hd_pt c bM _ (bf2 fun _ _ => amax m c) (by rw [shapeCast_same]; rfl)) $$ HM
  ihave HM := (thirds c bM _).1 $$ HM
  icases HM with ⟨HM₀, HM₁, HM₂⟩
  iapply (use (amSend_tr m c _ 0 hn₀)) $$ [HO Ht₀ Hs₀ HM₀]
  · isplitl [HO]; · iexact HO
    isplitl [Ht₀]; · iexact Ht₀
    isplitl [Hs₀]; · rw [hn₀]; iexact Hs₀
    iexact HM₀
  iintro %_ ⟨HO, HS₀⟩
  iapply (use (amSend_tr m c _ 1 hn₁)) $$ [HO Ht₁ Hs₁ HM₁]
  · isplitl [HO]; · iexact HO
    isplitl [Ht₁]; · iexact Ht₁
    isplitl [Hs₁]; · rw [hn₁]; iexact Hs₁
    iexact HM₁
  iintro %_ ⟨HO, HS₁⟩
  iapply (use (amSend_tr m c _ 2 hn₂)) $$ [HO Ht₂ Hs₂ HM₂]
  · isplitl [HO]; · iexact HO
    isplitl [Ht₂]; · iexact Ht₂
    isplitl [Hs₂]; · rw [hn₂]; iexact Hs₂
    iexact HM₂
  iintro %_ ⟨HO, HS₂⟩
  iapply (use (amWait_tr m c 0 hl)) $$ [HO Hw₀]
  · isplitl [HO]; · iexact HO
    iexact Hw₀
  iintro %_ ⟨HO, Hp₀, Hz₀⟩
  iapply (use (amWait_tr m c 1 hl)) $$ [HO Hw₁]
  · isplitl [HO]; · iexact HO
    iexact Hw₁
  iintro %_ ⟨HO, Hp₁, Hz₁⟩
  iapply (use (amWait_tr m c 2 hl)) $$ [HO Hw₂]
  · isplitl [HO]; · iexact HO
    iexact Hw₂
  iintro %_ ⟨HO, Hp₂, Hz₂⟩
  iapply (use (mLoad_tr m c)) $$ [Hp₀ Hp₁ Hp₂]
  · isplitl [Hp₀]; · iexact Hp₀
    isplitl [Hp₁]; · iexact Hp₁
    iexact Hp₂
  iintro %r ⟨%hr, Hp₀, Hp₁, Hp₂⟩
  simp only [Prog.pure_eq_ret, W, wp_ret]
  imodintro
  isplitr; · ipureintro; exact hr
  isplitl [HO]; · iexact HO
  isplitl [HS₀ HS₁ HS₂]
  · isplitl [HS₀]; · iexact HS₀
    isplitl [HS₁]; · iexact HS₁
    iexact HS₂
  isplitl [Hz₀ Hz₁ Hz₂]
  · isplitl [Hz₀]; · iexact Hz₀
    isplitl [Hz₁]; · iexact Hz₁
    iexact Hz₂
  isplitl [Hp₀]; · iexists _; iexact Hp₀
  isplitl [Hp₁]; · iexists _; iexact Hp₁
  iexists _; iexact Hp₂

/-! ### The first sends -/

/-- Send the first low sub-chunks. -/
theorem firstL_tr (c : Dev nD) {l} :
    iprop(Ow m c (it (.rs 0 0 0) :: it (.rs 0 1 0) :: l) ∗ (Tk c (.rs 0 0 0) ∗ slot (ch c 1) (.rs 0 0 0)) ∗ (Tk c (.rs 0 1 0) ∗ slot (ch c 1) (.rs 0 1 0)) ∗ hb c (ch c 0) 0 (bf2 (Pn m c)))
      ⊢ W c (firstL c) (fun _ => iprop(Ow m c l ∗ Sd c (.rs 0 0 0) ∗ Sd c (.rs 0 1 0))) := by
  have hn₀ : (⟨k0_dev3 c, k0_dev3_lt c⟩ : Dev nD) = ch c 1 := by revert c; decide +kernel
  have hn₁ : (⟨k0_dev4 c, k0_dev4_lt c⟩ : Dev nD) = ch c 1 := by revert c; decide +kernel
  have hj : ch c 0 = ch c 4 := by revert c; decide +kernel
  unfold firstL
  iintro ⟨HO, ⟨Ht₀, Hs₀⟩, ⟨Ht₁, Hs₁⟩, Hh⟩
  ihave Hh := (hb_cb c (ch c 0) 0 _).1 $$ Hh
  icases Hh with ⟨Hh₀, Hh₁⟩
  iapply (use (rsSend_tr m c _ 0 _ _ 0 0 (off6_eq c 0 0) hn₀ rfl)) $$ [HO Ht₀ Hs₀ Hh₀]
  · isplitl [HO]; · iexact HO
    isplitl [Ht₀]; · iexact Ht₀
    isplitl [Hs₀]; · rw [hn₀]; iexact Hs₀
    isplitl [Hh₀]; · rw [hj]; iexact Hh₀
    unfold extra; rw [if_neg (by decide)]; iempintro
  iintro %_ ⟨HO, HS₀⟩
  iapply (useE (rsSend_tr m c _ 0 _ _ 1 0 (off6_eq c 0 1) hn₁ rfl)) $$ [HO Ht₁ Hs₁ Hh₁]
  · isplitl [HO]; · iexact HO
    isplitl [Ht₁]; · iexact Ht₁
    isplitl [Hs₁]; · rw [hn₁]; iexact Hs₁
    isplitl [Hh₁]; · rw [hj]; iexact Hh₁
    unfold extra; rw [if_neg (by decide)]; iempintro
  iintro %_ ⟨HO, HS₁⟩
  isplitl [HO]; · iexact HO
  isplitl [HS₀]; · iexact HS₀
  iexact HS₁

/-- Send the first high sub-chunks. -/
theorem firstH_tr (c : Dev nD) {l} :
    iprop(Ow m c (it (.rs 0 0 1) :: it (.rs 0 1 1) :: l) ∗ (Tk c (.rs 0 0 1) ∗ slot (ch c 3) (.rs 0 0 1)) ∗ (Tk c (.rs 0 1 1) ∗ slot (ch c 3) (.rs 0 1 1)) ∗ hb c (ch c 0) 1 (bf2 (Pn m c))
        ∗ slot (ch c 1) (.am 1))
      ⊢ W c (firstH c) (fun _ => iprop(Ow m c l ∗ Sd c (.rs 0 0 1) ∗ Sd c (.rs 0 1 1))) := by
  have hn₀ : (⟨k0_dev5 c, k0_dev5_lt c⟩ : Dev nD) = ch c 3 := by revert c; decide +kernel
  have hn₁ : (⟨k0_dev6 c, k0_dev6_lt c⟩ : Dev nD) = ch c 3 := by revert c; decide +kernel
  have hj : ch (ch c 3) 2 = ch c 1 := by revert c; decide +kernel
  unfold firstH
  iintro ⟨HO, ⟨Ht₀, Hs₀⟩, ⟨Ht₁, Hs₁⟩, Hh, He⟩
  ihave Hh := (hb_cb c (ch c 0) 1 _).1 $$ Hh
  icases Hh with ⟨Hh₀, Hh₁⟩
  iapply (use (rsSend_tr m c _ 0 _ _ 0 1 (off11_eq c 0 0) hn₀ rfl)) $$ [HO Ht₀ Hs₀ Hh₀ He]
  · isplitl [HO]; · iexact HO
    isplitl [Ht₀]; · iexact Ht₀
    isplitl [Hs₀]; · rw [hn₀]; iexact Hs₀
    isplitl [Hh₀]; · iexact Hh₀
    unfold extra; rw [if_pos (by decide), hn₀, hj]; iexact He
  iintro %_ ⟨HO, HS₀⟩
  iapply (useE (rsSend_tr m c _ 0 _ _ 1 1 (off11_eq c 0 1) hn₁ rfl)) $$ [HO Ht₁ Hs₁ Hh₁]
  · isplitl [HO]; · iexact HO
    isplitl [Ht₁]; · iexact Ht₁
    isplitl [Hs₁]; · rw [hn₁]; iexact Hs₁
    isplitl [Hh₁]; · iexact Hh₁
    unfold extra; rw [if_neg (by decide)]; iempintro
  iintro %_ ⟨HO, HS₁⟩
  isplitl [HO]; · iexact HO
  isplitl [HS₀]; · iexact HS₀
  iexact HS₁

end Cert.KernelIdeal.Gen

end
-- ==== Proof.Gather.lean ====
/-
  The quantiser, and the all-gather of the quantised chunks.
-/
module

public import proofs.«01_k».proof.Proof.Greet

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### Tiles of the result -/

/-- A tile of the result. -/
abbrev oT (j : Fin 4) (k t d : Fin 2) : Memref sig .tc .hbm S256x4096 .f32 := oV ![1024 * j.val + 512 * k.val + 256 * t.val, 4096 * d.val] j k t d rfl
/-- A tile of the result, whatever it holds. -/
def oa (c : Dev nD) (j : Fin 4) (k t d : Fin 2) : sProp 𝕄 := pa (F := F) c (oT j k t d)
/-- A tile of the result, done. -/
def oo (c : Dev nD) (j : Fin 4) (k t d : Fin 2) : sProp 𝕄 := pt c (oT j k t d) fullShare (bf2 (OUT m c))

/-- Write the result's buffer out. -/
theorem oOut_tr (c : Dev nD) (i : Fin 8) (o : Fin 2 → ℕ) (j : Fin 4) (k t d : Fin 2) (ho) (X : S256x4096.Idx → F .f32) {l} (hl : Above 0 l)
    (hX : (oT j k t d).view.read (Elt F) (bf2 (OUT m c)) = X) :
    iprop(Ow m c l ∗ hd c bF X ∗ oa c j k t d ∗ sv c i)
      ⊢ W c (cp bF (oV o j k t d ho) i (Memref.isWhole_whole _).wordExact (View.wordExact_bits rfl) ⟨Or.inl rfl, trivial⟩ >>= fun _ =>
            cw bF (oV o j k t d ho) i (Memref.isWhole_whole _).wordExact (View.wordExact_bits rfl))
          (fun _ => iprop(Ow m c l ∗ pa c bF ∗ oo m c j k t d ∗ sv c i)) := by
  subst ho
  unfold oa oo
  iintro ⟨HO, HF, Ho, Hv⟩
  iapply (use (cpOut_tr c (View.dmaCredit_pos _ (by decide)) X (bf2 (OUT m c)) hX)) $$ [HF Ho Hv]
  · isplitl [HF]; · iexact HF
    isplitl [Ho]; · iexact Ho
    iexact Hv
  iintro %_ HF
  iapply (useE (cw_tr m c hl (lvl_lsem i) _)) $$ [HO HF]
  · isplitl [HO]; · iexact HO
    iexact HF
  iintro %_ ⟨HO, ⟨Ho, HF⟩, Hv⟩
  isplitl [HO]; · iexact HO
  isplitl [HF]; · iexact HF
  isplitl [Ho]; · iexact Ho
  iexact Hv

/-! ### The quantiser -/

/-- Whoever owns the chunk that the device reduced last is the device. -/
theorem own_src : ∀ (c : Dev nD) (d : Fin 2), ch (ch c (rcv d 2)) (if d = 0 then 3 else 1) = c := by decide +kernel

/-- The owner of a row, its chunk known. -/
theorem owner_at (d : Fin 2) (j : Fin 4) (r : ℕ) (hr : r < 1024) : owner d (1024 * j.val + r) = ch j (if d = 0 then 3 else 1) := by
  unfold owner
  congr 1
  apply Fin.ext
  show (1024 * j.val + r) / 1024 % 4 = j.val
  omega

/-- The result in half `d`. -/
theorem OUT_at (c : Dev nD) (d : Fin 2) (r col : ℕ) (hc : col < 4096) : OUT m c r (4096 * d.val + col) = OUTd m d c r (4096 * d.val + col) := by
  unfold OUT
  rcases fin2_cases d with rfl | rfl
  · exact if_pos (by show 4096 * 0 + _ < 4096; omega)
  · exact if_neg (by show ¬ (4096 * 1 + _ < 4096); omega)

/-- The result in the device's own chunk. -/
theorem read_own (c : Dev nD) (j : Fin 4) (k t d : Fin 2) (hj : j = ch c (rcv d 2)) :
    (oT j k t d).view.read (Elt F) (bf2 (OUT m c)) = k0_pay83 (invC m c) (sclC m c) (bf2 fun r col => fin16 m d c (1024 * j.val + 512 * k.val + 256 * t.val + r) (4096 * d.val + col)) := by
  rw [read_oV]
  funext p
  have h₀ : (p 0).val < 256 := (p 0).isLt
  have h₁ : (p 1).val < 4096 := (p 1).isLt
  have hk := k.isLt
  have ht := t.isLt
  rw [pay83_apply]
  show OUT m c _ (4096 * d.val + (p 1).val) = _
  rw [OUT_at m c d _ _ h₁]
  unfold OUTd
  rw [if_pos]
  rw [add_assoc, add_assoc, owner_at _ _ _ (by omega), hj]
  exact own_src c d

/-- A tile of a quantised chunk. -/
abbrev qr (k t : Fin 2) : Rect S1024x4096 := Rect.unit (s := S1024x4096) ![512 * k.val + 256 * t.val, 0] S256x4096.size (qtInb k t)
/-- Holding a tile of a quantised chunk. -/
abbrev qp (c : Dev nD) (Q : Memref sig .tc .vmem S1024x4096 .i8) (k t : Fin 2) (g : Buf (Elt F) (Q.view.loc (c : Thread nD τ))) : sProp 𝕄 :=
  Q.view.loc (c : Thread nD τ) ↦[(Q.access (qr k t)).set]{fullShare} g

/-- A tile of the clipped sums. -/
abbrev fT (d : Fin 2) (c : Dev nD) (j : Fin 4) (k t : Fin 2) : S256x4096.Idx → F .bf16 :=
  bf2 fun r col => fin16 m d c (1024 * j.val + 512 * k.val + 256 * t.val + r) (4096 * d.val + col)

/-- Load a tile of the clipped sums: afterwards the buffer holds it. -/
theorem qIn_tr (c : Dev nD) (B : Memref sig .tc .vmem S256x4096 .bf16) (hB : B.IsWhole) (i : Fin 8) (o : Fin 2 → ℕ) (j : Fin 4) (k t d : Fin 2) (ho) :
    iprop(tb c j k t d (bf2 (fin16 m d c)) ∗ pa c B ∗ sv c i) ⊢ W c (qIn B hB i o j k t d ho) (fun _ => Fl c B i (hd c B (fT m d c j k t))) := by
  rw [tb_eq c o j k t d ho]
  have h : (tV o j k t d ho).view.read (Elt F) (bf2 (fin16 m d c)) = fT m d c j k t := by rw [read_tV]
  unfold qIn
  refine (cpIn_tr c (View.dmaCredit_pos _ (by decide)) fullShare _).trans (wp_mono frame _ _ fun _ => Flight_mono (EC := EC) (c := (c : Thread nD τ)) ?_)
  rw [h]
  iintro ⟨H, -⟩
  iexact H

/-- Quantise one tile: the integers go to the chunk and the products to the result. -/
theorem qTile_tr (c : Dev nD) (Q : Memref sig .tc .vmem S1024x4096 .i8) (hQ : Q.IsWhole) (B : Memref sig .tc .vmem S256x4096 .bf16) (hB : B.IsWhole) (i : Fin 8)
    (o : Fin 2 → ℕ) (j : Fin 4) (k t d : Fin 2) (ho) (hj : j = ch c (rcv d 2)) {l} (hl : Above 0 l) (g : Buf (Elt F) (Q.view.loc (c : Thread nD τ)))
    (hg : (Q.access (qr k t)).read (Elt F) g = k0_pay82 (invC m c) (fT m d c j k t)) :
    iprop(Ow m c l ∗ Fl c B i (hd c B (fT m d c j k t)) ∗ (∃ f, qp c Q k t f) ∗ (pa c bF ∗ sv c 6) ∗ oa c j k t d)
      ⊢ W c (qTile Q hQ (invC m c) (sclC m c) B hB i o j k t d ho)
          (fun _ => iprop(Ow m c l ∗ (pa c B ∗ sv c i) ∗ qp c Q k t g ∗ (pa c bF ∗ sv c 6) ∗ oo m c j k t d)) := by
  unfold qTile
  iintro ⟨HO, HFl, ⟨%f, HQ⟩, ⟨HF, Hv⟩, Ho⟩
  iapply (use (cw_tr m c hl (lvl_lsem i) _)) $$ [HO HFl]
  · isplitl [HO]; · iexact HO
    iexact HFl
  iintro %_ ⟨HO, HB, Hvi⟩
  iapply (use (ld_tr B inb_S256x4096_S256x4096_0_0 c _)) $$ HB
  iintro %y ⟨%hy, HB⟩
  simp only [Prog.lift, Prog.bind_op, Prog.bind_ret]
  iapply (wp_load_rect 𝒱₀ (c : Thread nD τ) none Set.univ (m := Q) (r := qr k t) (subset_refl _)) $$ HQ
  iintro HQ
  iapply (wp_store 𝒱₀ (c : Thread nD τ) none Set.univ (m := Q) (r := qr k t) (Mk := Finset.univ) (by rw [View.setOn_univ])) $$ HQ
  iintro HQ
  ihave HQ := (Entails.of_eq (pointsTo_congr (write_eq_of_read (hg.trans (by rw [hy]))))) $$ HQ
  iapply (use (ld_any bF inb_S256x4096_S256x4096_0_0 c)) $$ HF
  iintro %_ HF
  iapply (use (st_tr bF inb_S256x4096_S256x4096_0_0 c _)) $$ HF
  iintro %_ HF
  iapply (useE (oOut_tr m c 6 o j k t d ho (k0_pay83 (invC m c) (sclC m c) y) hl (by rw [hy]; exact read_own m c j k t d hj))) $$ [HO HF Ho Hv]
  · isplitl [HO]; · iexact HO
    isplitl [HF]; · iexact HF
    isplitl [Ho]; · iexact Ho
    iexact Hv
  iintro %_ ⟨HO, HF, Ho, Hv⟩
  isplitl [HO]; · iexact HO
  isplitl [HB Hvi]
  · isplitl [HB]; · iapply (hd_pa c B _); iexact HB
    iexact Hvi
  isplitl [HQ]; · iexact HQ
  isplitl [HF Hv]
  · isplitl [HF]; · iexact HF
    iexact Hv
  iexact Ho

/-- Send half of a quantised chunk. -/
theorem agSend0_tr (c n : Dev nD) (S : Memref sig .tc .vmem S512x4096 .i8) (hS : S.view.WordExact) (k d : Fin 2) (hn : n = ch c (hop d)) {l}
    (g : Buf (Elt F) (S.view.loc (c : Thread nD τ))) (hps : pt c S fullShare g ⊢ PS m c (.ag 0 k d))
    (hrd : (aV 0 k d).view.read (Elt F) (bf3 (AG m n)) = S.view.read (Elt F) g) :
    iprop(Ow m c (it (.ag 0 k d) :: l) ∗ Tk c (.ag 0 k d) ∗ slot n (.ag 0 k d) ∗ pt c S fullShare g)
      ⊢ W c (agSend0 n S hS k d) (fun _ => iprop(Ow m c l ∗ Sd c (.ag 0 k d))) := by
  have h := send_tr m (.ag 0 k d) (src := S) (dst := aV 0 k d) (hsrc := hS) (hdst := aWords 0 k d)
    (hsc := rfl) (hsem := ⟨⟨rfl, Or.inl rfl⟩, trivial⟩) (l := l) hn rfl g (bf3 (AG m n)) iprop(emp) hps (by unfold PR; exact Laws.sep_emp.1) hrd
  rw [show slot (F := F) n (.ag 0 k d) = pa n (aV 0 k d) from rfl]
  iintro ⟨HO, Ht, Hs, Hp⟩
  iapply h
  isplitl [HO]; · iexact HO
  isplitl [Ht]; · iexact Ht
  isplitl [Hs]; · iexact Hs
  isplitl [Hp]; · iexact Hp
  iempintro

/-- Quantise a chunk in either half, sending each half of it on when it is whole. -/
def quant (Q : Memref sig .tc .vmem S1024x4096 .i8) (hQ : Q.IsWhole) (S : Fin 2 → Memref sig .tc .vmem S512x4096 .i8) (hS : ∀ k, (S k).view.WordExact)
    (n₀ n₁ : Dev nD) (inv scale : F .f32) (d : Fin 2) (o : Fin 2 → Fin 2 → Fin 2 → ℕ) (j : Fin 4)
    (ho : ∀ k t : Fin 2, o k t = ![1024 * j.val + 512 * k.val + 256 * t.val, 4096 * d.val]) : TP F PUnit := do
  qIn bA (Memref.isWhole_whole _) 0 _ _ 0 0 d (ho 0 0)
  qIn bB (Memref.isWhole_whole _) 1 _ _ 0 1 d (ho 0 1)
  qTile Q hQ inv scale bA (Memref.isWhole_whole _) 0 _ _ 0 0 d (ho 0 0)
  qIn bA (Memref.isWhole_whole _) 0 _ _ 1 0 d (ho 1 0)
  qTile Q hQ inv scale bB (Memref.isWhole_whole _) 1 _ _ 0 1 d (ho 0 1)
  agSend0 n₀ (S 0) (hS 0) 0 d
  qIn bB (Memref.isWhole_whole _) 1 _ _ 1 1 d (ho 1 1)
  qTile Q hQ inv scale bA (Memref.isWhole_whole _) 0 _ _ 1 0 d (ho 1 0)
  qTile Q hQ inv scale bB (Memref.isWhole_whole _) 1 _ _ 1 1 d (ho 1 1)
  agSend0 n₁ (S 1) (hS 1) 1 d

/-- The four tiles of a quantised chunk, whatever they hold. -/
def qa (c : Dev nD) (Q : Memref sig .tc .vmem S1024x4096 .i8) : sProp 𝕄 :=
  iprop((∃ f, qp (F := F) c Q 0 0 f) ∗ (∃ f, qp (F := F) c Q 0 1 f) ∗ (∃ f, qp (F := F) c Q 1 0 f) ∗ (∃ f, qp (F := F) c Q 1 1 f))
/-- The four tiles of the result of a sub-chunk pair. -/
def oa4 (c : Dev nD) (j : Fin 4) (d : Fin 2) : sProp 𝕄 := iprop((oa (F := F) c j 0 0 d ∗ oa c j 0 1 d) ∗ (oa c j 1 0 d ∗ oa c j 1 1 d))
/-- The four tiles of a half of a chunk of the result, written. -/
def oo4 (c : Dev nD) (j : Fin 4) (d : Fin 2) : sProp 𝕄 := iprop((oo m c j 0 0 d ∗ oo m c j 0 1 d) ∗ (oo m c j 1 0 d ∗ oo m c j 1 1 d))

/-- Quantise a half of the device's own chunk and send its integers on. -/
theorem quant_tr (c : Dev nD) (Q : Memref sig .tc .vmem S1024x4096 .i8) (hQ : Q.IsWhole) (S : Fin 2 → Memref sig .tc .vmem S512x4096 .i8) (hS)
    (n₀ n₁ : Dev nD) (d : Fin 2) (o) (j : Fin 4) (ho) (hj : j = ch c (rcv d 2)) (hn₀ : n₀ = ch c (hop d)) (hn₁ : n₁ = ch c (hop d))
    (g : Buf (Elt F) (Q.view.loc (c : Thread nD τ))) (gS : (k : Fin 2) → Buf (Elt F) ((S k).view.loc (c : Thread nD τ)))
    (hg : ∀ k t, (Q.access (qr k t)).read (Elt F) g = k0_pay82 (invC m c) (fT m d c j k t))
    (hjoin : ∀ k, iprop(qp c Q k 0 g ∗ qp c Q k 1 g) ⊢ pt c (S k) fullShare (gS k))
    (hps : ∀ k, pt c (S k) fullShare (gS k) ⊢ PS m c (.ag 0 k d))
    (hrd : ∀ k, (aV 0 k d).view.read (Elt F) (bf3 (AG m (ch c (hop d)))) = (S k).view.read (Elt F) (gS k)) {l}
    (hl : Above 0 (it (.ag 0 0 d) :: it (.ag 0 1 d) :: l)) :
    iprop(Ow m c (it (.ag 0 0 d) :: it (.ag 0 1 d) :: l) ∗ (Tk c (.ag 0 0 d) ∗ slot (ch c (hop d)) (.ag 0 0 d)) ∗ (Tk c (.ag 0 1 d) ∗ slot (ch c (hop d)) (.ag 0 1 d))
        ∗ lt c ∗ (pa c bF ∗ sv c 6) ∗ (cb c j 0 d (bf2 (fin16 m d c)) ∗ cb c j 1 d (bf2 (fin16 m d c))) ∗ qa c Q ∗ oa4 c j d)
      ⊢ W c (quant Q hQ S hS n₀ n₁ (invC m c) (sclC m c) d o j ho)
          (fun _ => iprop(Ow m c l ∗ lt c ∗ (pa c bF ∗ sv c 6) ∗ oo4 m c j d ∗ (Sd c (.ag 0 0 d) ∗ Sd c (.ag 0 1 d)))) := by
  subst hn₀ hn₁
  unfold quant lt qa oa4
  iintro ⟨HO, ⟨Ht₀, Hs₀⟩, ⟨Ht₁, Hs₁⟩, ⟨HA, HB, Hv₀, Hv₁⟩, HF, ⟨Hc₀, Hc₁⟩, ⟨HQ₀, HQ₁, HQ₂, HQ₃⟩, ⟨Ho₀, Ho₁⟩, ⟨Ho₂, Ho₃⟩⟩
  ihave Hc₀ := (cb_tb c j 0 d _).1 $$ Hc₀
  icases Hc₀ with ⟨Hb₀, Hb₁⟩
  ihave Hc₁ := (cb_tb c j 1 d _).1 $$ Hc₁
  icases Hc₁ with ⟨Hb₂, Hb₃⟩
  iapply (use (qIn_tr m c bA (Memref.isWhole_whole _) 0 _ j 0 0 d (ho 0 0))) $$ [Hb₀ HA Hv₀]
  · isplitl [Hb₀]; · iexact Hb₀
    isplitl [HA]; · iexact HA
    iexact Hv₀
  iintro %_ HFA
  iapply (use (qIn_tr m c bB (Memref.isWhole_whole _) 1 _ j 0 1 d (ho 0 1))) $$ [Hb₁ HB Hv₁]
  · isplitl [Hb₁]; · iexact Hb₁
    isplitl [HB]; · iexact HB
    iexact Hv₁
  iintro %_ HFB
  iapply (use (qTile_tr m c Q hQ bA (Memref.isWhole_whole _) 0 _ j 0 0 d (ho 0 0) hj hl g (hg 0 0))) $$ [HO HFA HQ₀ HF Ho₀]
  · isplitl [HO]; · iexact HO
    isplitl [HFA]; · iexact HFA
    isplitl [HQ₀]; · iexact HQ₀
    isplitl [HF]; · iexact HF
    iexact Ho₀
  iintro %_ ⟨HO, ⟨HA, Hv₀⟩, HQ₀, HF, Ho₀⟩
  iapply (use (qIn_tr m c bA (Memref.isWhole_whole _) 0 _ j 1 0 d (ho 1 0))) $$ [Hb₂ HA Hv₀]
  · isplitl [Hb₂]; · iexact Hb₂
    isplitl [HA]; · iexact HA
    iexact Hv₀
  iintro %_ HFA
  iapply (use (qTile_tr m c Q hQ bB (Memref.isWhole_whole _) 1 _ j 0 1 d (ho 0 1) hj hl g (hg 0 1))) $$ [HO HFB HQ₁ HF Ho₁]
  · isplitl [HO]; · iexact HO
    isplitl [HFB]; · iexact HFB
    isplitl [HQ₁]; · iexact HQ₁
    isplitl [HF]; · iexact HF
    iexact Ho₁
  iintro %_ ⟨HO, ⟨HB, Hv₁⟩, HQ₁, HF, Ho₁⟩
  iapply (use (agSend0_tr m c _ (S 0) (hS 0) 0 d rfl (gS 0) (hps 0) (hrd 0))) $$ [HO Ht₀ Hs₀ HQ₀ HQ₁]
  · isplitl [HO]; · iexact HO
    isplitl [Ht₀]; · iexact Ht₀
    isplitl [Hs₀]; · iexact Hs₀
    iapply (hjoin 0)
    isplitl [HQ₀]; · iexact HQ₀
    iexact HQ₁
  iintro %_ ⟨HO, HS₀⟩
  iapply (use (qIn_tr m c bB (Memref.isWhole_whole _) 1 _ j 1 1 d (ho 1 1))) $$ [Hb₃ HB Hv₁]
  · isplitl [Hb₃]; · iexact Hb₃
    isplitl [HB]; · iexact HB
    iexact Hv₁
  iintro %_ HFB
  iapply (use (qTile_tr m c Q hQ bA (Memref.isWhole_whole _) 0 _ j 1 0 d (ho 1 0) hj hl.tail g (hg 1 0))) $$ [HO HFA HQ₂ HF Ho₂]
  · isplitl [HO]; · iexact HO
    isplitl [HFA]; · iexact HFA
    isplitl [HQ₂]; · iexact HQ₂
    isplitl [HF]; · iexact HF
    iexact Ho₂
  iintro %_ ⟨HO, ⟨HA, Hv₀⟩, HQ₂, HF, Ho₂⟩
  iapply (use (qTile_tr m c Q hQ bB (Memref.isWhole_whole _) 1 _ j 1 1 d (ho 1 1) hj hl.tail g (hg 1 1))) $$ [HO HFB HQ₃ HF Ho₃]
  · isplitl [HO]; · iexact HO
    isplitl [HFB]; · iexact HFB
    isplitl [HQ₃]; · iexact HQ₃
    isplitl [HF]; · iexact HF
    iexact Ho₃
  iintro %_ ⟨HO, ⟨HB, Hv₁⟩, HQ₃, HF, Ho₃⟩
  iapply (useE (agSend0_tr m c _ (S 1) (hS 1) 1 d rfl (gS 1) (hps 1) (hrd 1))) $$ [HO Ht₁ Hs₁ HQ₂ HQ₃]
  · isplitl [HO]; · iexact HO
    isplitl [Ht₁]; · iexact Ht₁
    isplitl [Hs₁]; · iexact Hs₁
    iapply (hjoin 1)
    isplitl [HQ₂]; · iexact HQ₂
    iexact HQ₃
  iintro %_ ⟨HO, HS₁⟩
  isplitl [HO]; · iexact HO
  isplitl [HA HB Hv₀ Hv₁]
  · isplitl [HA]; · iexact HA
    isplitl [HB]; · iexact HB
    isplitl [Hv₀]; · iexact Hv₀
    iexact Hv₁
  isplitl [HF]; · iexact HF
  isplitl [Ho₀ Ho₁ Ho₂ Ho₃]
  · unfold oo4
    isplitl [Ho₀ Ho₁]
    · isplitl [Ho₀]; · iexact Ho₀
      iexact Ho₁
    isplitl [Ho₂]; · iexact Ho₂
    iexact Ho₃
  isplitl [HS₀]; · iexact HS₀
  iexact HS₁

/-! ### The two chunks -/

/-- The integers of a tile. -/
theorem qq_at (c : Dev nD) (d : Fin 2) (j : Fin 4) (k t : Fin 2) (hj : j = ch c (rcv d 2)) :
    (bf2 fun r col => QQ m d c (512 * k.val + 256 * t.val + r) (0 + col)) = k0_pay82 (invC m c) (fT m d c j k t) := by
  funext p
  rw [pay82_apply]
  show QQ m d c _ _ = qi (invC m c) (fin16 m d c _ _)
  unfold QQ qn
  rw [zero_add, hj, ← add_assoc, ← add_assoc]

/-- The rows of a tile and those after it. -/
theorem bx_half (k : Fin 2) : (bx (512 * k.val) (512 * k.val + 512) 0 (0 + 4096) : Finset (⟨2, ![1024, 4096]⟩ : Shape).Idx)
      = bx (512 * k.val + 256 * (0 : Fin 2).val) (512 * k.val + 256 * (0 : Fin 2).val + 256) 0 (0 + 4096) ∪ bx (512 * k.val + 256 * (1 : Fin 2).val) (512 * k.val + 256 * (1 : Fin 2).val + 256) 0 (0 + 4096)
    ∧ Disjoint (bx (512 * k.val + 256 * (0 : Fin 2).val) (512 * k.val + 256 * (0 : Fin 2).val + 256) 0 (0 + 4096) : Finset (⟨2, ![1024, 4096]⟩ : Shape).Idx)
        (bx (512 * k.val + 256 * (1 : Fin 2).val) (512 * k.val + 256 * (1 : Fin 2).val + 256) 0 (0 + 4096)) :=
  bx_rows (r₀ := 512 * k.val) (r₁ := 512 * k.val + 256) (r₂ := 512 * k.val + 512) (by omega) (by omega)

omit [FloatOps F] in
/-- The places of a tile of the low integers. -/
theorem qLt_set (k t : Fin 2) : (bQL.access (qr k t)).set = bx (512 * k.val + 256 * t.val) (512 * k.val + 256 * t.val + 256) 0 (0 + 4096) := by
  show ((View.whole cc0_scratch9).slice _).set = _
  rw [View.set_slice_whole]; exact unit_bx rfl _
omit [FloatOps F] in
/-- The places of half of the low integers. -/
theorem qLh_set (k : Fin 2) : (qLV k).view.set = bx (512 * k.val) (512 * k.val + 512) 0 (0 + 4096) := by
  show ((View.whole cc0_scratch9).slice _).set = _
  rw [View.set_slice_whole]; exact unit_bx rfl _

omit [FloatOps F] in
/-- The places of a tile of the high integers. -/
theorem qHt_set (k t : Fin 2) : (bQH.access (qr k t)).set = bx (512 * k.val + 256 * t.val) (512 * k.val + 256 * t.val + 256) 0 (0 + 4096) := by
  show ((View.whole cc0_scratch10).slice _).set = _
  rw [View.set_slice_whole]; exact unit_bx rfl _
omit [FloatOps F] in
/-- The places of half of the high integers. -/
theorem qHh_set (k : Fin 2) : (qHV k).view.set = bx (512 * k.val) (512 * k.val + 512) 0 (0 + 4096) := by
  show ((View.whole cc0_scratch10).slice _).set = _
  rw [View.set_slice_whole]; exact unit_bx rfl _

/-- Half of the low integers is two tiles. -/
theorem qL_split (c : Dev nD) (k : Fin 2) (g : Buf (Elt F) ((c : Thread nD τ).loc cc0_scratch9)) : (pt (F := F) c (qLV k) fullShare g) ⊣⊢ iprop(qp c bQL k 0 g ∗ qp c bQL k 1 g) := by
  show (((c : Thread nD τ).loc cc0_scratch9) ↦[(qLV k).view.set]{fullShare} g) ⊣⊢
    iprop((((c : Thread nD τ).loc cc0_scratch9) ↦[(bQL.access (qr k 0)).set]{fullShare} g) ∗ (((c : Thread nD τ).loc cc0_scratch9) ↦[(bQL.access (qr k 1)).set]{fullShare} g))
  rw [qLh_set, qLt_set, qLt_set, (bx_half k).1]
  exact pointsTo_union (bx_half k).2
/-- Half of the high integers is two tiles. -/
theorem qH_split (c : Dev nD) (k : Fin 2) (g : Buf (Elt F) ((c : Thread nD τ).loc cc0_scratch10)) : (pt (F := F) c (qHV k) fullShare g) ⊣⊢ iprop(qp c bQH k 0 g ∗ qp c bQH k 1 g) := by
  show (((c : Thread nD τ).loc cc0_scratch10) ↦[(qHV k).view.set]{fullShare} g) ⊣⊢
    iprop((((c : Thread nD τ).loc cc0_scratch10) ↦[(bQH.access (qr k 0)).set]{fullShare} g) ∗ (((c : Thread nD τ).loc cc0_scratch10) ↦[(bQH.access (qr k 1)).set]{fullShare} g))
  rw [qHh_set, qHt_set, qHt_set, (bx_half k).1]
  exact pointsTo_union (bx_half k).2

/-- What the neighbour receives first is the device's own integers. -/
theorem AG0_at (c : Dev nD) (d : Fin 2) (r col : ℕ) (hc : col < 4096) : AG m (ch c (hop d)) 0 r (4096 * d.val + col) = QQ m d c r col := by
  have hs := hop_src c d
  unfold AG
  rcases fin2_cases d with rfl | rfl
  · rw [if_pos (by show 4096 * 0 + _ < 4096; omega)]
    rw [show ch (ch c (hop 0)) (3 - 0) = c from hs, show 4096 * (0 : Fin 2).val + col = col by show 4096 * 0 + col = col; omega]
  · rw [if_neg (by show ¬ (4096 * 1 + _ < 4096); omega)]
    rw [show ch (ch c (hop 1)) (1 + 0) = c from hs, show 4096 * (1 : Fin 2).val + col - 4096 = col by show 4096 * 1 + col - 4096 = col; omega]

/-- Quantise the low half. -/
theorem quantL_tr (c : Dev nD) {l} (hl : Above 0 (it (.ag 0 0 0) :: it (.ag 0 1 0) :: l)) :
    iprop(Ow m c (it (.ag 0 0 0) :: it (.ag 0 1 0) :: l) ∗ (Tk c (.ag 0 0 0) ∗ slot (ch c 1) (.ag 0 0 0)) ∗ (Tk c (.ag 0 1 0) ∗ slot (ch c 1) (.ag 0 1 0))
        ∗ lt c ∗ (pa c bF ∗ sv c 6) ∗ (cb c (ch c (rcv 0 2)) 0 0 (bf2 (fin16 m 0 c)) ∗ cb c (ch c (rcv 0 2)) 1 0 (bf2 (fin16 m 0 c))) ∗ qa c bQL ∗ oa4 c (ch c (rcv 0 2)) 0)
      ⊢ W c (quantL c (invC m c) (sclC m c))
          (fun _ => iprop(Ow m c l ∗ lt c ∗ (pa c bF ∗ sv c 6) ∗ oo4 m c (ch c (rcv 0 2)) 0 ∗ (Sd c (.ag 0 0 0) ∗ Sd c (.ag 0 1 0)))) := by
  have hn₀ : (⟨k0_dev18 c, k0_dev18_lt c⟩ : Dev nD) = ch c 1 := by revert c; decide +kernel
  have hn₁ : (⟨k0_dev19 c, k0_dev19_lt c⟩ : Dev nD) = ch c 1 := by revert c; decide +kernel
  exact quant_tr m c bQL (Memref.isWhole_whole _) qLV qLWords _ _ 0 _ _ (off23_eq c) rfl hn₀ hn₁ (bf2 (QQ m 0 c)) (fun _ => bf2 (QQ m 0 c))
    (fun k t => (funext fun p => bf2_emb (QQ m 0 c) (qtInb k t) p).trans (qq_at m c 0 _ k t rfl))
    (fun k => (qL_split c k _).2) (fun k => pt_pa c (qLV k) _)
    (fun k => by
      rw [read_aV, read_qLV]
      funext p
      have h₁ : (p 1).val < 4096 := (p 1).isLt
      show AG m (ch c (hop 0)) 0 _ (4096 * (0 : Fin 2).val + (p 1).val) = QQ m 0 c _ (0 + (p 1).val)
      rw [AG0_at m c 0 _ _ h₁, zero_add]) hl

/-- Quantise the high half. -/
theorem quantH_tr (c : Dev nD) {l} (hl : Above 0 (it (.ag 0 0 1) :: it (.ag 0 1 1) :: l)) :
    iprop(Ow m c (it (.ag 0 0 1) :: it (.ag 0 1 1) :: l) ∗ (Tk c (.ag 0 0 1) ∗ slot (ch c 3) (.ag 0 0 1)) ∗ (Tk c (.ag 0 1 1) ∗ slot (ch c 3) (.ag 0 1 1))
        ∗ lt c ∗ (pa c bF ∗ sv c 6) ∗ (cb c (ch c (rcv 1 2)) 0 1 (bf2 (fin16 m 1 c)) ∗ cb c (ch c (rcv 1 2)) 1 1 (bf2 (fin16 m 1 c))) ∗ qa c bQH ∗ oa4 c (ch c (rcv 1 2)) 1)
      ⊢ W c (quantH c (invC m c) (sclC m c))
          (fun _ => iprop(Ow m c l ∗ lt c ∗ (pa c bF ∗ sv c 6) ∗ oo4 m c (ch c (rcv 1 2)) 1 ∗ (Sd c (.ag 0 0 1) ∗ Sd c (.ag 0 1 1)))) := by
  have hn₀ : (⟨k0_dev20 c, k0_dev20_lt c⟩ : Dev nD) = ch c 3 := by revert c; decide +kernel
  have hn₁ : (⟨k0_dev21 c, k0_dev21_lt c⟩ : Dev nD) = ch c 3 := by revert c; decide +kernel
  exact quant_tr m c bQH (Memref.isWhole_whole _) qHV qHWords _ _ 1 _ _ (off24_eq c) rfl hn₀ hn₁ (bf2 (QQ m 1 c)) (fun _ => bf2 (QQ m 1 c))
    (fun k t => (funext fun p => bf2_emb (QQ m 1 c) (qtInb k t) p).trans (qq_at m c 1 _ k t rfl))
    (fun k => (qH_split c k _).2) (fun k => pt_pa c (qHV k) _)
    (fun k => by
      rw [read_aV, read_qHV]
      funext p
      have h₁ : (p 1).val < 4096 := (p 1).isLt
      show AG m (ch c (hop 1)) 0 _ (4096 * (1 : Fin 2).val + (p 1).val) = QQ m 1 c _ (0 + (p 1).val)
      rw [AG0_at m c 1 _ _ h₁, zero_add]) hl

/-! ### The all-gather -/

/-- Which chunk arrives at gather step `h`, counted from the device's own. -/
abbrev gch (d : Fin 2) (h : ℕ) : ℕ := if d = 0 then 4 - h else h
/-- The device that made it. -/
abbrev gsrc (d : Fin 2) (h : ℕ) : ℕ := if d = 0 then 3 - h else 1 + h

/-- The device that owns the chunk gathered at step `h`. -/
theorem gch_owner : ∀ (c : Dev nD) (h : Fin 3) (d : Fin 2), ch (ch c (gch d h.val)) (if d = 0 then 3 else 1) = ch c (gsrc d h.val) := by decide +kernel
/-- A gathered chunk is another device's. -/
theorem gsrc_ne : ∀ (c : Dev nD) (h : Fin 3) (d : Fin 2), ch c (gsrc d h.val) ≠ c := by decide +kernel
/-- The chunk gathered at step `h` is the one its owner reduced last. -/
theorem gsrc_chunk : ∀ (c : Dev nD) (h : Fin 3) (d : Fin 2), ch (ch c (gsrc d h.val)) (rcv d 2) = ch c (gch d h.val) := by decide +kernel
/-- What the neighbour gathers a step later comes from the same device. -/
theorem gsrc_hop : ∀ (c : Dev nD) (h h' : Fin 3) (d : Fin 2), h'.val = h.val + 1 → ch (ch c (hop d)) (gsrc d h'.val) = ch c (gsrc d h.val) := by decide +kernel

/-- What is gathered at step `h` are the integers of the device they come from. -/
theorem AG_at (c : Dev nD) (h : ℕ) (d : Fin 2) (r col : ℕ) (hc : col < 4096) : AG m c h r (4096 * d.val + col) = QQ m d (ch c (gsrc d h)) r col := by
  unfold AG
  rcases fin2_cases d with rfl | rfl
  · rw [if_pos (by show 4096 * 0 + _ < 4096; omega), show 4096 * (0 : Fin 2).val + col = col by show 4096 * 0 + col = col; omega]
    rfl
  · rw [if_neg (by show ¬ (4096 * 1 + _ < 4096); omega), show 4096 * (1 : Fin 2).val + col - 4096 = col by show 4096 * 1 + col - 4096 = col; omega]
    rfl

/-- The result in a chunk gathered. -/
theorem read_got (c : Dev nD) (h : Fin 3) (j : Fin 4) (k t d : Fin 2) (hj : j = ch c (gch d h.val)) :
    (oT j k t d).view.read (Elt F) (bf2 (OUT m c)) = k0_pay111 (sclC m c) ((atV h k t d).view.read (Elt F) (bf3 (AG m c))) := by
  rw [read_oV, read_atV]
  funext p
  have h₀ : (p 0).val < 256 := (p 0).isLt
  have h₁ : (p 1).val < 4096 := (p 1).isLt
  have hk := k.isLt
  have ht := t.isLt
  rw [pay111_apply]
  show OUT m c _ (4096 * d.val + (p 1).val) = o111 _ (AG m c h.val _ (4096 * d.val + (p 1).val))
  rw [OUT_at m c d _ _ h₁, AG_at m c _ d _ _ h₁]
  unfold OUTd QQ
  rw [add_assoc (1024 * j.val), add_assoc (1024 * j.val), owner_at _ _ _ (by omega), hj, gch_owner, if_neg (gsrc_ne c h d), gsrc_chunk]

/-- The buffers the gathered tiles come into. -/
def bq (c : Dev nD) : sProp 𝕄 := iprop(pa (F := F) c bQ ∗ pa c bQ' ∗ sv c 0 ∗ sv c 1)

/-- Write one tile of the result from gathered integers. -/
theorem agOut_tr (c : Dev nD) (B : Memref sig .tc .vmem S256x4096 .i8) (h : Fin 3) (o : Fin 2 → ℕ) (j : Fin 4) (k t d : Fin 2) (ho) (hj : j = ch c (gch d h.val)) {l} (hl : Above 0 l) :
    iprop(Ow m c l ∗ hd c B ((atV h k t d).view.read (Elt F) (bf3 (AG m c))) ∗ (pa c bF ∗ sv c 2) ∗ oa c j k t d)
      ⊢ W c (agOut (sclC m c) B o j k t d ho) (fun _ => iprop(Ow m c l ∗ pa c B ∗ (pa c bF ∗ sv c 2) ∗ oo m c j k t d)) := by
  unfold agOut
  iintro ⟨HO, HB, ⟨HF, Hv⟩, Ho⟩
  iapply (use (ld_tr B inb_S256x4096_S256x4096_0_0 c _)) $$ HB
  iintro %q ⟨%hq, HB⟩
  iapply (use (ld_any bF inb_S256x4096_S256x4096_0_0 c)) $$ HF
  iintro %_ HF
  iapply (use (st_tr bF inb_S256x4096_S256x4096_0_0 c _)) $$ HF
  iintro %_ HF
  iapply (useE (oOut_tr m c 2 o j k t d ho (k0_pay111 (sclC m c) q) hl (by rw [hq]; exact read_got m c h j k t d hj))) $$ [HO HF Ho Hv]
  · isplitl [HO]; · iexact HO
    isplitl [HF]; · iexact HF
    isplitl [Ho]; · iexact Ho
    iexact Hv
  iintro %_ ⟨HO, HF, Ho, Hv⟩
  isplitl [HO]; · iexact HO
  isplitl [HB]; · iapply (hd_pa c B _); iexact HB
  isplitl [HF Hv]
  · isplitl [HF]; · iexact HF
    iexact Hv
  iexact Ho

/-- Write both tiles of a gathered sub-chunk. -/
theorem agTiles_tr (c : Dev nD) (h : Fin 3) (o o' : Fin 2 → ℕ) (j : Fin 4) (k d : Fin 2) (ho) (ho') (hj : j = ch c (gch d h.val)) {l} (hl : Above 0 l) (q : PosShare TreeShare) :
    iprop(Ow m c l ∗ pt c (aV h k d) q (bf3 (AG m c)) ∗ bq c ∗ (pa c bF ∗ sv c 2) ∗ (oa c j k 0 d ∗ oa c j k 1 d))
      ⊢ W c (agTiles (sclC m c) h o o' j k d ho ho') (fun _ => iprop(Ow m c l ∗ bq c ∗ (pa c bF ∗ sv c 2) ∗ (oo m c j k 0 d ∗ oo m c j k 1 d))) := by
  unfold agTiles bq
  iintro ⟨HO, Ha, ⟨HQ, HQ', Hv₀, Hv₁⟩, HF, ⟨Ho₀, Ho₁⟩⟩
  ihave Ha := (aV_tiles c h k d q _) $$ Ha
  icases Ha with ⟨Ha₀, Ha₁⟩
  iapply (use (cpIn_tr c (View.dmaCredit_pos _ (by decide)) q (bf3 (AG m c)))) $$ [Ha₀ HQ Hv₀]
  · isplitl [Ha₀]; · iexact Ha₀
    isplitl [HQ]; · iexact HQ
    iexact Hv₀
  iintro %_ HF₀
  iapply (use (cpIn_tr c (View.dmaCredit_pos _ (by decide)) q (bf3 (AG m c)))) $$ [Ha₁ HQ' Hv₁]
  · isplitl [Ha₁]; · iexact Ha₁
    isplitl [HQ']; · iexact HQ'
    iexact Hv₁
  iintro %_ HF₁
  iapply (use (cw_tr m c hl (lvl_lsem 0) _)) $$ [HO HF₀]
  · isplitl [HO]; · iexact HO
    iexact HF₀
  iintro %_ ⟨HO, ⟨HQ, -⟩, Hv₀⟩
  iapply (use (cw_tr m c hl (lvl_lsem 1) _)) $$ [HO HF₁]
  · isplitl [HO]; · iexact HO
    iexact HF₁
  iintro %_ ⟨HO, ⟨HQ', -⟩, Hv₁⟩
  iapply (use (agOut_tr m c bQ h o j k 0 d ho hj hl)) $$ [HO HQ HF Ho₀]
  · isplitl [HO]; · iexact HO
    isplitl [HQ]; · iexact HQ
    isplitl [HF]; · iexact HF
    iexact Ho₀
  iintro %_ ⟨HO, HQ, HF, Ho₀⟩
  iapply (useE (agOut_tr m c bQ' h o' j k 1 d ho' hj hl)) $$ [HO HQ' HF Ho₁]
  · isplitl [HO]; · iexact HO
    isplitl [HQ']; · iexact HQ'
    isplitl [HF]; · iexact HF
    iexact Ho₁
  iintro %_ ⟨HO, HQ', HF, Ho₁⟩
  isplitl [HO]; · iexact HO
  isplitl [HQ HQ' Hv₀ Hv₁]
  · isplitl [HQ]; · iexact HQ
    isplitl [HQ']; · iexact HQ'
    isplitl [Hv₀]; · iexact Hv₀
    iexact Hv₁
  isplitl [HF]; · iexact HF
  isplitl [Ho₀]; · iexact Ho₀
  iexact Ho₁

/-- Wait for a gathered sub-chunk, and so own it. -/
theorem agWait_tr (c : Dev nD) {sp : Space} (S : Memref sig .tc sp S512x4096 .i8) (hS) (h : Fin 3) (k d : Fin 2) {l} (hl : Above (lvl (.dma (sR (.ag h k d)))) l) :
    iprop(Ow m c l ∗ Wt c (.ag h k d)) ⊢ W c (agWait S hS h k d) (fun _ => iprop(Ow m c l ∗ pt c (aV h k d) fullShare (bf3 (AG m c)) ∗ semVal (gR c (.ag h k d)) 0)) :=
  recv_tr m (.ag h k d) (src := S) (dst := aV h k d) rfl hl

/-- Wait for a piece and send it on, keeping half a share. -/
theorem agFwd_tr (c n : Dev nD) {sp : Space} (S : Memref sig .tc sp S512x4096 .i8) (hS) (h h' : Fin 3) (k d : Fin 2) (hh : h'.val = h.val + 1) (hn : n = ch c (hop d)) {l}
    (hl : Above (lvl (.dma (sR (.ag h k d)))) (it (.ag h' k d) :: l)) :
    iprop(Ow m c (it (.ag h' k d) :: l) ∗ Wt c (.ag h k d) ∗ (Tk c (.ag h' k d) ∗ slot (ch c (hop d)) (.ag h' k d)))
      ⊢ W c (agFwd n S hS h h' k d) (fun _ => iprop(Ow m c l ∗ semVal (gR c (.ag h k d)) 0 ∗ Sd c (.ag h' k d) ∗ pt c (aV h k d) fullShare.right (bf3 (AG m c)))) := by
  subst hn
  have h₀ := send_tr m (.ag h' k d) (src := aV h k d) (dst := aV h' k d) (hsrc := aWords h k d) (hdst := aWords h' k d)
    (hsc := rfl) (hsem := ⟨⟨rfl, Or.inl rfl⟩, trivial⟩) (l := l) (c := c) (n := ch c (hop d)) (q := fullShare.left) rfl rfl (bf3 (AG m c)) (bf3 (AG m (ch c (hop d)))) iprop(emp)
    (by unfold PS; dsimp only; rw [if_neg (fun e => by rw [e] at hh; exact absurd hh.symm (Nat.succ_ne_zero _))]; iintro -; iempintro)
    (by unfold PR; exact Laws.sep_emp.1)
    (by
      rw [read_aV, read_aV]
      funext p
      have h₁ : (p 1).val < 4096 := (p 1).isLt
      show AG m _ _ _ (4096 * d.val + (p 1).val) = AG m _ _ _ (4096 * d.val + (p 1).val)
      rw [AG_at m _ _ d _ _ h₁, AG_at m _ _ d _ _ h₁, gsrc_hop c h h' d hh])
  rw [show slot (F := F) (ch c (hop d)) (.ag h' k d) = pa (ch c (hop d)) (aV h' k d) from rfl]
  unfold agFwd
  iintro ⟨HO, Hw, Ht, Hs⟩
  iapply (use (agWait_tr m c S hS h k d hl)) $$ [HO Hw]
  · isplitl [HO]; · iexact HO
    iexact Hw
  iintro %_ ⟨HO, Ha, Hz⟩
  ihave Ha := (pointsTo_share (PosShare.mem_left_op_right fullShare)).1 $$ Ha
  icases Ha with ⟨Hl, Hr⟩
  iapply (useE h₀) $$ [HO Ht Hs Hl]
  · isplitl [HO]; · iexact HO
    isplitl [Ht]; · iexact Ht
    isplitl [Hs]; · iexact Hs
    isplitl [Hl]; · iexact Hl
    iempintro
  iintro %_ ⟨HO, HS⟩
  isplitl [HO]; · iexact HO
  isplitl [Hz]; · iexact Hz
  isplitl [HS]; · iexact HS
  iexact Hr

end Cert.KernelIdeal.Gen

end
-- ==== Proof.Body.lean ====
/-
  The body put together: from the greeting to the last wait.
-/
module

public import proofs.«01_k».proof.Proof.Gather

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### What is owed, stage by stage -/

/-- The signals still owed before the last gather step. -/
abbrev oG2 : List (ℕ × SemLoc sig) := it (.ag 2 0 0) :: it (.ag 2 0 1) :: it (.ag 2 1 0) :: it (.ag 2 1 1) :: []
/-- Before the second gather step. -/
abbrev oG1 : List (ℕ × SemLoc sig) := it (.ag 1 0 0) :: it (.ag 1 0 1) :: it (.ag 1 1 0) :: it (.ag 1 1 1) :: oG2
/-- Before the quantiser. -/
abbrev oG0 : List (ℕ × SemLoc sig) := it (.ag 0 0 0) :: it (.ag 0 1 0) :: it (.ag 0 0 1) :: it (.ag 0 1 1) :: oG1
/-- Before the maxima are exchanged. -/
abbrev oM : List (ℕ × SemLoc sig) := it (.am 0) :: it (.am 1) :: it (.am 2) :: oG0
/-- Before the last step of the reduce-scatter. -/
abbrev oR2 : List (ℕ × SemLoc sig) := it (.rs 2 0 0) :: it (.rs 2 0 1) :: it (.rs 2 1 0) :: it (.rs 2 1 1) :: oM
/-- Before its second step. -/
abbrev oR1 : List (ℕ × SemLoc sig) := it (.rs 1 0 0) :: it (.rs 1 0 1) :: it (.rs 1 1 0) :: it (.rs 1 1 1) :: oR2
/-- After the greeting. -/
abbrev oR0 : List (ℕ × SemLoc sig) := it (.rs 0 0 0) :: it (.rs 0 1 0) :: it (.rs 0 0 1) :: it (.rs 0 1 1) :: oR1
/-- At the start. -/
abbrev oB : List (ℕ × SemLoc sig) := (3, .reg barS) :: (1, .reg barS) :: oR0

/-- One thing for each of the four sub-chunks of a step. -/
def q4 (Φ : Fin 2 → Fin 2 → sProp 𝕄) : sProp 𝕄 := iprop(Φ 0 0 ∗ Φ 0 1 ∗ Φ 1 0 ∗ Φ 1 1)

/-- The places on the neighbours where the integers of gather step `h` go. -/
def sAg (c : Dev nD) (h : Fin 3) : sProp 𝕄 :=
  iprop(slot (F := F) (ch c 1) (.ag h 0 0) ∗ slot (ch c 3) (.ag h 0 1) ∗ slot (ch c 1) (.ag h 1 0) ∗ slot (ch c 3) (.ag h 1 1))

/-! ### The greeting -/

/-- Tell both neighbours that the receive buffers are ready, handing each the places it will send to. -/
theorem hello_tr (c : Dev nD) :
    iprop(Ow m c oB ∗ dutyTok ER (gB (ch c 3)) 0 false ∗ dutyTok ER (gB (ch c 1)) 0 true ∗ slotsD c 0 ∗ slotsD c 1 ∗ slot c (.am 0) ∗ slot c (.am 1) ∗ slot c (.am 2))
      ⊢ W c (hello c) (fun _ => Ow m c oR0) := by
  have h₁ : (⟨k0_dev1 c, k0_dev1_lt c⟩ : Dev nD) = ch c 3 := by revert c; decide +kernel
  have h₂ : (⟨k0_dev2 c, k0_dev2_lt c⟩ : Dev nD) = ch c 1 := by revert c; decide +kernel
  have e₁ : ch (ch c 3) 1 = c := by revert c; decide +kernel
  have e₂ : ch (ch c 1) 3 = c := by revert c; decide +kernel
  have p₁ : PB (F := F) (ch c 3) false = iprop(slotsD c 0 ∗ slot c (.am 0) ∗ slot c (.am 1)) := by unfold PB; rw [e₁]; rfl
  have p₂ : PB (F := F) (ch c 1) true = iprop(slotsD c 1 ∗ slot c (.am 2)) := by unfold PB; rw [e₂]; rfl
  unfold hello
  rw [h₁, h₂]
  iintro ⟨HO, Hd₁, Hd₂, Hs₀, Hs₁, Ha₀, Ha₁, Ha₂⟩
  iapply (use (greet_tr m c (ch c 3) 3 false rfl)) $$ [HO Hd₁ Hs₀ Ha₀ Ha₁]
  · rw [p₁]; isplitl [HO]; · iexact HO
    isplitl [Hd₁]; · iexact Hd₁
    isplitl [Hs₀]; · iexact Hs₀
    isplitl [Ha₀]; · iexact Ha₀
    iexact Ha₁
  iintro %_ HO
  iapply (useE (greet_tr m c (ch c 1) 1 true rfl)) $$ [HO Hd₂ Hs₁ Ha₂]
  · rw [p₂]; isplitl [HO]; · iexact HO
    isplitl [Hd₂]; · iexact Hd₂
    isplitl [Hs₁]; · iexact Hs₁
    iexact Ha₂
  iintro %_ HO
  iexact HO

omit [FloatOps F] in
/-- What the right neighbour hands over. -/
theorem PB_lo (c : Dev nD) : (PB (F := F) c false) ⊢ iprop((slot (ch c 1) (.rs 0 0 0) ∗ slot (ch c 1) (.rs 0 1 0) ∗ slot (ch c 1) (.rs 1 0 0) ∗ slot (ch c 1) (.rs 1 1 0) ∗ slot (ch c 1) (.rs 2 0 0) ∗ slot (ch c 1) (.rs 2 1 0) ∗ slot (ch c 1) (.ag 0 0 0) ∗ slot (ch c 1) (.ag 0 1 0) ∗ slot (ch c 1) (.ag 1 0 0) ∗ slot (ch c 1) (.ag 1 1 0) ∗ slot (ch c 1) (.ag 2 0 0) ∗ slot (ch c 1) (.ag 2 1 0)) ∗ slot (ch c 1) (.am 0) ∗ slot (ch c 1) (.am 1)) := by
  unfold PB slotsD; exact Entails.refl _
omit [FloatOps F] in
/-- What the left neighbour hands over. -/
theorem PB_hi (c : Dev nD) : (PB (F := F) c true) ⊢ iprop((slot (ch c 3) (.rs 0 0 1) ∗ slot (ch c 3) (.rs 0 1 1) ∗ slot (ch c 3) (.rs 1 0 1) ∗ slot (ch c 3) (.rs 1 1 1) ∗ slot (ch c 3) (.rs 2 0 1) ∗ slot (ch c 3) (.rs 2 1 1) ∗ slot (ch c 3) (.ag 0 0 1) ∗ slot (ch c 3) (.ag 0 1 1) ∗ slot (ch c 3) (.ag 1 0 1) ∗ slot (ch c 3) (.ag 1 1 1) ∗ slot (ch c 3) (.ag 2 0 1) ∗ slot (ch c 3) (.ag 2 1 1)) ∗ slot (ch c 3) (.am 2)) := by
  unfold PB slotsD; exact Entails.refl _

omit [FloatOps F] in
/-- The place for the maximum that goes two to the right comes with a sub-chunk. -/
theorem extra_am (c : Dev nD) : (extra (F := F) c 0 0 1) ⊢ slot (ch c 2) (.am 1) := by
  unfold extra; rw [if_pos ⟨rfl, rfl, rfl⟩]

/-! ### Up to the last step of the reduce-scatter -/

/-- The greeting's answer, the products, and every sum but the last. -/
theorem front_tr (c : Dev nD) (f) :
    iprop(Ow m c oR0 ∗ gall m c ∗ lt c ∗ Bt c
        ∗ ((hb c (ch c 0) 0 f ∗ hb c (ch c 0) 1 f) ∗ (hb c (ch c 1) 0 f ∗ hb c (ch c 1) 1 f) ∗ (hb c (ch c 2) 0 f ∗ hb c (ch c 2) 1 f) ∗ (hb c (ch c 3) 0 f ∗ hb c (ch c 3) 1 f))
        ∗ q4 (fun k d => Tk c (.rs 0 k d)) ∗ q4 (fun k d => Tk c (.rs 1 k d)) ∗ q4 (fun k d => Tk c (.rs 2 k d))
        ∗ q4 (fun k d => Wt c (.rs 0 k d)) ∗ q4 (fun k d => Wt c (.rs 1 k d)))
      ⊢ W c (front c) (fun _ => iprop(Ow m c oM ∗ gall m c ∗ lt c ∗ semVal (gB c) 0
        ∗ (sAg c 0 ∗ sAg c 1 ∗ sAg c 2) ∗ (slot (ch c 1) (.am 0) ∗ slot (ch c 2) (.am 1) ∗ slot (ch c 3) (.am 2))
        ∗ q4 (fun k d => Sd c (.rs 0 k d)) ∗ q4 (fun k d => Sd c (.rs 1 k d)) ∗ q4 (fun k d => Sd c (.rs 2 k d))
        ∗ q4 (fun k d => semVal (gR c (.rs 0 k d)) 0) ∗ q4 (fun k d => semVal (gR c (.rs 1 k d)) 0)
        ∗ ((cb c (ch c 1) 0 0 (bf2 (Pn m c)) ∗ cb c (ch c 1) 1 0 (bf2 (Pn m c))) ∗ (cb c (ch c 3) 0 1 (bf2 (Pn m c)) ∗ cb c (ch c 3) 1 1 (bf2 (Pn m c)))))) := by
  have n7 : ∀ c : Dev nD, (⟨k0_dev7 c, k0_dev7_lt c⟩ : Dev nD) = ch c 1 := by decide +kernel
  have n8 : ∀ c : Dev nD, (⟨k0_dev8 c, k0_dev8_lt c⟩ : Dev nD) = ch c 3 := by decide +kernel
  have n9 : ∀ c : Dev nD, (⟨k0_dev9 c, k0_dev9_lt c⟩ : Dev nD) = ch c 1 := by decide +kernel
  have n10 : ∀ c : Dev nD, (⟨k0_dev10 c, k0_dev10_lt c⟩ : Dev nD) = ch c 3 := by decide +kernel
  have n11 : ∀ c : Dev nD, (⟨k0_dev11 c, k0_dev11_lt c⟩ : Dev nD) = ch c 1 := by decide +kernel
  have n12 : ∀ c : Dev nD, (⟨k0_dev12 c, k0_dev12_lt c⟩ : Dev nD) = ch c 3 := by decide +kernel
  have n13 : ∀ c : Dev nD, (⟨k0_dev13 c, k0_dev13_lt c⟩ : Dev nD) = ch c 1 := by decide +kernel
  have n14 : ∀ c : Dev nD, (⟨k0_dev14 c, k0_dev14_lt c⟩ : Dev nD) = ch c 3 := by decide +kernel
  unfold front gall
  rw [n7, n8, n9, n10, n11, n12, n13, n14]
  simp only [q4]
  iintro ⟨HO, ⟨HA, HB, HX, Hbo, Hv₂, Hv₃, Hx⟩, Hlt, HBt, ⟨⟨C00, C01⟩, ⟨C10, C11⟩, ⟨C20, C21⟩, ⟨C30, C31⟩⟩, ⟨T000, T001, T010, T011⟩, ⟨T100, T101, T110, T111⟩, ⟨T200, T201, T210, T211⟩, ⟨V000, V001, V010, V011⟩, ⟨V100, V101, V110, V111⟩⟩
  iapply (use (gX_tr m c _ _ (off1_eq c) (l := oR0) (by decide +kernel))) $$ [HO HX Hv₃ Hx]
  · isplitl [HO]; · iexact HO
    isplitl [HX]; · iexact HX
    isplitl [Hv₃]; · iexact Hv₃
    iexact Hx
  iintro %_ ⟨HO, HX, Hv₃, Hx⟩
  iapply (use (gHalf_tr m c _ _ (oOwn_eq c) 0 0 1 2 3 (by decide) (l := oR0) (by decide +kernel) f)) $$ [HO HA HB HX Hbo Hv₂ C00]
  · isplitl [HO]; · iexact HO
    isplitl [HA]; · iexact HA
    isplitl [HB]; · iexact HB
    isplitl [HX Hbo Hv₂]
    · unfold gst; isplitl [HX]; · iexact HX
      isplitl [Hbo]; · iexact Hbo
      iexact Hv₂
    iexact C00
  iintro %_ ⟨HO, HA, HB, Hg, C00⟩
  iapply (use (met_tr m c (l := oR0) (by decide +kernel))) $$ [HO HBt]
  · isplitl [HO]; · iexact HO
    iexact HBt
  iintro %_ ⟨HO, ⟨HP₀, HP₁⟩, HgB⟩
  ihave HP₀ := (PB_lo c) $$ HP₀
  ihave HP₁ := (PB_hi c) $$ HP₁
  icases HP₀ with ⟨⟨S000, S010, S100, S110, S200, S210, A000, A010, A100, A110, A200, A210⟩, M0, M1⟩
  icases HP₁ with ⟨⟨S001, S011, S101, S111, S201, S211, A001, A011, A101, A111, A201, A211⟩, M2⟩
  iapply (use (firstL_tr m c)) $$ [HO T000 S000 T010 S010 C00]
  · isplitl [HO]; · iexact HO
    isplitl [T000 S000]
    · isplitl [T000]; · iexact T000
      iexact S000
    isplitl [T010 S010]
    · isplitl [T010]; · iexact T010
      iexact S010
    iexact C00
  iintro %_ ⟨HO, D000, D010⟩
  iapply (use (gHalf_tr m c _ _ (oOwn_eq c) 1 4 5 6 7 (by decide) (l := it (.rs 0 0 1) :: it (.rs 0 1 1) :: oR1) (by decide +kernel) f)) $$ [HO HA HB Hg C01]
  · isplitl [HO]; · iexact HO
    isplitl [HA]; · iexact HA
    isplitl [HB]; · iexact HB
    isplitl [Hg]; · iexact Hg
    iexact C01
  iintro %_ ⟨HO, HA, HB, Hg, C01⟩
  iapply (use (firstH_tr m c)) $$ [HO T001 S001 T011 S011 C01 M1]
  · isplitl [HO]; · iexact HO
    isplitl [T001 S001]
    · isplitl [T001]; · iexact T001
      iexact S001
    isplitl [T011 S011]
    · isplitl [T011]; · iexact T011
      iexact S011
    isplitl [C01]; · iexact C01
    iexact M1
  iintro %_ ⟨HO, D001, D011⟩
  unfold gst hd
  icases Hg with ⟨HX, Hbo, Hv₂⟩
  icases HX with ⟨%gx, -, HX⟩
  iapply (use (chunk_tr m c 2 (l := oR1) (by decide +kernel) f f)) $$ [HO HA HB HX Hbo Hv₂ Hv₃ Hx C30 C31]
  · isplitl [HO]; · iexact HO
    isplitl [HA HB HX Hbo Hv₂ Hv₃ Hx]
    · unfold gall; isplitl [HA]; · iexact HA
      isplitl [HB]; · iexact HB
      isplitl [HX]; · iexists gx; iexact HX
      isplitl [Hbo]; · iexact Hbo
      isplitl [Hv₂]; · iexact Hv₂
      isplitl [Hv₃]; · iexact Hv₃
      iexact Hx
    isplitl [C30]; · rw [show 1 + (2 : Fin 3).val = 3 from rfl]; iexact C30
    rw [show 1 + (2 : Fin 3).val = 3 from rfl]; iexact C31
  rw [show 1 + (2 : Fin 3).val = 3 from rfl]
  unfold gall
  iintro %_ ⟨HO, ⟨HA, HB, HX, Hbo, Hv₂, Hv₃, Hx⟩, C30, C31⟩
  iapply (use (chunk_tr m c 0 (l := oR1) (by decide +kernel) f f)) $$ [HO HA HB HX Hbo Hv₂ Hv₃ Hx C10 C11]
  · isplitl [HO]; · iexact HO
    isplitl [HA HB HX Hbo Hv₂ Hv₃ Hx]
    · unfold gall; isplitl [HA]; · iexact HA
      isplitl [HB]; · iexact HB
      isplitl [HX]; · iexact HX
      isplitl [Hbo]; · iexact Hbo
      isplitl [Hv₂]; · iexact Hv₂
      isplitl [Hv₃]; · iexact Hv₃
      iexact Hx
    isplitl [C10]; · rw [show 1 + (0 : Fin 3).val = 1 from rfl]; iexact C10
    rw [show 1 + (0 : Fin 3).val = 1 from rfl]; iexact C11
  rw [show 1 + (0 : Fin 3).val = 1 from rfl]
  unfold gall
  iintro %_ ⟨HO, ⟨HA, HB, HX, Hbo, Hv₂, Hv₃, Hx⟩, C10, C11⟩
  ihave C30 := (hb_cb c (ch c 3) 0 _).1 $$ C30
  icases C30 with ⟨B300, B310⟩
  ihave C31 := (hb_cb c (ch c 3) 1 _).1 $$ C31
  icases C31 with ⟨B301, B311⟩
  ihave C10 := (hb_cb c (ch c 1) 0 _).1 $$ C10
  icases C10 with ⟨B100, B110⟩
  ihave C11 := (hb_cb c (ch c 1) 1 _).1 $$ C11
  icases C11 with ⟨B101, B111⟩
  iapply (use (rsUnitL_tr m c _ 0 1 0 rfl rfl (l := it (.rs 1 0 1) :: it (.rs 1 1 0) :: it (.rs 1 1 1) :: it (.rs 2 0 0) :: it (.rs 2 0 1) :: it (.rs 2 1 0) :: it (.rs 2 1 1) :: oM) (by decide +kernel))) $$ [HO V000 T100 S100 Hlt Hv₂ B300]
  · isplitl [HO]; · iexact HO
    isplitl [V000]; · iexact V000
    isplitl [T100]; · iexact T100
    isplitl [S100]; · iexact S100
    isplitl [Hlt]; · iexact Hlt
    isplitl [Hv₂]; · iexact Hv₂
    rw [show rcv 0 (0 : Fin 3).val = 3 from rfl]; iexact B300
  iintro %_ ⟨HO, Hlt, Hv₂, -, Z000, D100⟩
  iapply (use (rsUnitH_tr m c _ 0 1 0 rfl rfl (l := it (.rs 1 1 0) :: it (.rs 1 1 1) :: it (.rs 2 0 0) :: it (.rs 2 0 1) :: it (.rs 2 1 0) :: it (.rs 2 1 1) :: oM) (by decide +kernel))) $$ [HO V001 T101 S101 Hlt Hv₂ B101]
  · isplitl [HO]; · iexact HO
    isplitl [V001]; · iexact V001
    isplitl [T101]; · iexact T101
    isplitl [S101]; · iexact S101
    isplitl [Hlt]; · iexact Hlt
    isplitl [Hv₂]; · iexact Hv₂
    rw [show rcv 1 (0 : Fin 3).val = 1 from rfl]; iexact B101
  iintro %_ ⟨HO, Hlt, Hv₂, M1, Z001, D101⟩
  iapply (use (chunk_tr m c 1 (l := it (.rs 1 1 0) :: it (.rs 1 1 1) :: oR2) (by decide +kernel) f f)) $$ [HO HA HB HX Hbo Hv₂ Hv₃ Hx C20 C21]
  · isplitl [HO]; · iexact HO
    isplitl [HA HB HX Hbo Hv₂ Hv₃ Hx]
    · unfold gall; isplitl [HA]; · iexact HA
      isplitl [HB]; · iexact HB
      isplitl [HX]; · iexact HX
      isplitl [Hbo]; · iexact Hbo
      isplitl [Hv₂]; · iexact Hv₂
      isplitl [Hv₃]; · iexact Hv₃
      iexact Hx
    isplitl [C20]; · rw [show 1 + (1 : Fin 3).val = 2 from rfl]; iexact C20
    rw [show 1 + (1 : Fin 3).val = 2 from rfl]; iexact C21
  rw [show 1 + (1 : Fin 3).val = 2 from rfl]
  unfold gall
  iintro %_ ⟨HO, ⟨HA, HB, HX, Hbo, Hv₂, Hv₃, Hx⟩, C20, C21⟩
  ihave C20 := (hb_cb c (ch c 2) 0 _).1 $$ C20
  icases C20 with ⟨B200, B210⟩
  ihave C21 := (hb_cb c (ch c 2) 1 _).1 $$ C21
  icases C21 with ⟨B201, B211⟩
  iapply (use (rsUnitL_tr m c _ 0 1 1 rfl rfl (l := it (.rs 1 1 1) :: it (.rs 2 0 0) :: it (.rs 2 0 1) :: it (.rs 2 1 0) :: it (.rs 2 1 1) :: oM) (by decide +kernel))) $$ [HO V010 T110 S110 Hlt Hv₂ B310]
  · isplitl [HO]; · iexact HO
    isplitl [V010]; · iexact V010
    isplitl [T110]; · iexact T110
    isplitl [S110]; · iexact S110
    isplitl [Hlt]; · iexact Hlt
    isplitl [Hv₂]; · iexact Hv₂
    rw [show rcv 0 (0 : Fin 3).val = 3 from rfl]; iexact B310
  iintro %_ ⟨HO, Hlt, Hv₂, -, Z010, D110⟩
  iapply (use (rsUnitH_tr m c _ 0 1 1 rfl rfl (l := it (.rs 2 0 0) :: it (.rs 2 0 1) :: it (.rs 2 1 0) :: it (.rs 2 1 1) :: oM) (by decide +kernel))) $$ [HO V011 T111 S111 Hlt Hv₂ B111]
  · isplitl [HO]; · iexact HO
    isplitl [V011]; · iexact V011
    isplitl [T111]; · iexact T111
    isplitl [S111]; · iexact S111
    isplitl [Hlt]; · iexact Hlt
    isplitl [Hv₂]; · iexact Hv₂
    rw [show rcv 1 (0 : Fin 3).val = 1 from rfl]; iexact B111
  iintro %_ ⟨HO, Hlt, Hv₂, -, Z011, D111⟩
  iapply (use (rsUnitL_tr m c _ 1 2 0 rfl rfl (l := it (.rs 2 0 1) :: it (.rs 2 1 0) :: it (.rs 2 1 1) :: oM) (by decide +kernel))) $$ [HO V100 T200 S200 Hlt Hv₂ B200]
  · isplitl [HO]; · iexact HO
    isplitl [V100]; · iexact V100
    isplitl [T200]; · iexact T200
    isplitl [S200]; · iexact S200
    isplitl [Hlt]; · iexact Hlt
    isplitl [Hv₂]; · iexact Hv₂
    rw [show rcv 0 (1 : Fin 3).val = 2 from rfl]; iexact B200
  iintro %_ ⟨HO, Hlt, Hv₂, -, Z100, D200⟩
  iapply (use (rsUnitH_tr m c _ 1 2 0 rfl rfl (l := it (.rs 2 1 0) :: it (.rs 2 1 1) :: oM) (by decide +kernel))) $$ [HO V101 T201 S201 Hlt Hv₂ B201]
  · isplitl [HO]; · iexact HO
    isplitl [V101]; · iexact V101
    isplitl [T201]; · iexact T201
    isplitl [S201]; · iexact S201
    isplitl [Hlt]; · iexact Hlt
    isplitl [Hv₂]; · iexact Hv₂
    rw [show rcv 1 (1 : Fin 3).val = 2 from rfl]; iexact B201
  iintro %_ ⟨HO, Hlt, Hv₂, -, Z101, D201⟩
  iapply (use (rsUnitL_tr m c _ 1 2 1 rfl rfl (l := it (.rs 2 1 1) :: oM) (by decide +kernel))) $$ [HO V110 T210 S210 Hlt Hv₂ B210]
  · isplitl [HO]; · iexact HO
    isplitl [V110]; · iexact V110
    isplitl [T210]; · iexact T210
    isplitl [S210]; · iexact S210
    isplitl [Hlt]; · iexact Hlt
    isplitl [Hv₂]; · iexact Hv₂
    rw [show rcv 0 (1 : Fin 3).val = 2 from rfl]; iexact B210
  iintro %_ ⟨HO, Hlt, Hv₂, -, Z110, D210⟩
  iapply (useE (rsUnitH_tr m c _ 1 2 1 rfl rfl (l := oM) (by decide +kernel))) $$ [HO V111 T211 S211 Hlt Hv₂ B211]
  · isplitl [HO]; · iexact HO
    isplitl [V111]; · iexact V111
    isplitl [T211]; · iexact T211
    isplitl [S211]; · iexact S211
    isplitl [Hlt]; · iexact Hlt
    isplitl [Hv₂]; · iexact Hv₂
    rw [show rcv 1 (1 : Fin 3).val = 2 from rfl]; iexact B211
  iintro %_ ⟨HO, Hlt, Hv₂, -, Z111, D211⟩
  ihave M1 := (extra_am c) $$ M1
  unfold sAg
  isplitl [HO]; · iexact HO
  isplitl [HA HB HX Hbo Hv₂ Hv₃ Hx]
  · isplitl [HA]; · iexact HA
    isplitl [HB]; · iexact HB
    isplitl [HX]; · iexact HX
    isplitl [Hbo]; · iexact Hbo
    isplitl [Hv₂]; · iexact Hv₂
    isplitl [Hv₃]; · iexact Hv₃
    iexact Hx
  isplitl [Hlt]; · iexact Hlt
  isplitl [HgB]; · iexact HgB
  isplitl [A000 A001 A010 A011 A100 A101 A110 A111 A200 A201 A210 A211]
  · isplitl [A000 A001 A010 A011]
    · isplitl [A000]; · iexact A000
      isplitl [A001]; · iexact A001
      isplitl [A010]; · iexact A010
      iexact A011
    isplitl [A100 A101 A110 A111]
    · isplitl [A100]; · iexact A100
      isplitl [A101]; · iexact A101
      isplitl [A110]; · iexact A110
      iexact A111
    isplitl [A200]; · iexact A200
    isplitl [A201]; · iexact A201
    isplitl [A210]; · iexact A210
    iexact A211
  isplitl [M0 M1 M2]
  · isplitl [M0]; · iexact M0
    isplitl [M1]; · iexact M1
    iexact M2
  isplitl [D000 D001 D010 D011]
  · isplitl [D000]; · iexact D000
    isplitl [D001]; · iexact D001
    isplitl [D010]; · iexact D010
    iexact D011
  isplitl [D100 D101 D110 D111]
  · isplitl [D100]; · iexact D100
    isplitl [D101]; · iexact D101
    isplitl [D110]; · iexact D110
    iexact D111
  isplitl [D200 D201 D210 D211]
  · isplitl [D200]; · iexact D200
    isplitl [D201]; · iexact D201
    isplitl [D210]; · iexact D210
    iexact D211
  isplitl [Z000 Z001 Z010 Z011]
  · isplitl [Z000]; · iexact Z000
    isplitl [Z001]; · iexact Z001
    isplitl [Z010]; · iexact Z010
    iexact Z011
  isplitl [Z100 Z101 Z110 Z111]
  · isplitl [Z100]; · iexact Z100
    isplitl [Z101]; · iexact Z101
    isplitl [Z110]; · iexact Z110
    iexact Z111
  isplitl [B100 B110]
  · isplitl [B100]; · iexact B100
    iexact B110
  isplitl [B301]; · iexact B301
  iexact B311

end Cert.KernelIdeal.Gen
-- ==== Proof.Whole.lean ====
/-
  The body put together: from the last sums to the last wait.
-/
module

public import proofs.«01_k».proof.Proof.Body

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### The largest of the device's own sums -/

/-- The last sums, and the largest of them. -/
theorem lastStep_tr (c : Dev nD) :
    iprop(Ow m c oM ∗ lt c ∗ sv c 2 ∗ q4 (fun k d => Wt c (.rs 2 k d))
        ∗ ((cb c (ch c 1) 0 0 (bf2 (Pn m c)) ∗ cb c (ch c 1) 1 0 (bf2 (Pn m c))) ∗ (cb c (ch c 3) 0 1 (bf2 (Pn m c)) ∗ cb c (ch c 3) 1 1 (bf2 (Pn m c)))))
      ⊢ W c (lastStep c) (fun y => iprop(⌜y = amax m c⌝ ∗ Ow m c oM ∗ lt c ∗ sv c 2 ∗ q4 (fun k d => semVal (gR c (.rs 2 k d)) 0)
        ∗ ((cb c (ch c 1) 0 0 (bf2 (fin16 m 0 c)) ∗ cb c (ch c 1) 1 0 (bf2 (fin16 m 0 c))) ∗ (cb c (ch c 3) 0 1 (bf2 (fin16 m 1 c)) ∗ cb c (ch c 3) 1 1 (bf2 (fin16 m 1 c)))))) := by
  unfold lastStep
  simp only [q4]
  iintro ⟨HO, Hlt, Hv, ⟨V00, V01, V10, V11⟩, ⟨B00, B10⟩, ⟨B01, B11⟩⟩
  iapply (use (rsLastL_tr m c 0 _ (l := oM) (by decide +kernel))) $$ [HO V00 Hlt Hv B00]
  · isplitl [HO]; · iexact HO
    isplitl [V00]; · iexact V00
    isplitl [Hlt]; · iexact Hlt
    isplitl [Hv]; · iexact Hv
    rw [show rcv 0 2 = 1 from rfl]; iexact B00
  iintro %y0 ⟨%e0, HO, Hlt, Hv, Z00, B00⟩
  iapply (use (rsLastH_tr m c 0 _ (l := oM) (by decide +kernel))) $$ [HO V01 Hlt Hv B01]
  · isplitl [HO]; · iexact HO
    isplitl [V01]; · iexact V01
    isplitl [Hlt]; · iexact Hlt
    isplitl [Hv]; · iexact Hv
    rw [show rcv 1 2 = 3 from rfl]; iexact B01
  iintro %y1 ⟨%e1, HO, Hlt, Hv, Z01, B01⟩
  iapply (use (rsLastL_tr m c 1 _ (l := oM) (by decide +kernel))) $$ [HO V10 Hlt Hv B10]
  · isplitl [HO]; · iexact HO
    isplitl [V10]; · iexact V10
    isplitl [Hlt]; · iexact Hlt
    isplitl [Hv]; · iexact Hv
    rw [show rcv 0 2 = 1 from rfl]; iexact B10
  iintro %y2 ⟨%e2, HO, Hlt, Hv, Z10, B10⟩
  iapply (useE (rsLastH_tr m c 1 _ (l := oM) (by decide +kernel))) $$ [HO V11 Hlt Hv B11]
  · isplitl [HO]; · iexact HO
    isplitl [V11]; · iexact V11
    isplitl [Hlt]; · iexact Hlt
    isplitl [Hv]; · iexact Hv
    rw [show rcv 1 2 = 3 from rfl]; iexact B11
  iintro %y3 ⟨%e3, HO, Hlt, Hv, Z11, B11⟩
  isplitr
  · ipureintro; subst e0 e1 e2 e3; rfl
  isplitl [HO]; · iexact HO
  isplitl [Hlt]; · iexact Hlt
  isplitl [Hv]; · iexact Hv
  isplitl [Z00 Z01 Z10 Z11]
  · isplitl [Z00]; · iexact Z00
    isplitl [Z01]; · iexact Z01
    isplitl [Z10]; · iexact Z10
    iexact Z11
  isplitl [B00 B10]
  · isplitl [B00]; · iexact B00
    iexact B10
  isplitl [B01]; · iexact B01
  iexact B11

/-! ### The gather -/

/-- A gather step that sends on: wait, send on, write out, for each of the four pieces. -/
def gatherF {sp : Space} (c : Dev nD) (scale : F .f32) (n₀₀ n₀₁ n₁₀ n₁₁ : Dev nD) (S₀₀ S₀₁ S₁₀ S₁₁ : Memref sig .tc sp S512x4096 .i8)
    (h₀₀ : S₀₀.view.WordExact) (h₀₁ : S₀₁.view.WordExact) (h₁₀ : S₁₀.view.WordExact) (h₁₁ : S₁₁.view.WordExact) (h h' : Fin 3) : TP F PUnit := do
  agFwd n₀₀ S₀₀ h₀₀ h h' 0 0
  agTilesL c scale h 0
  agFwd n₀₁ S₀₁ h₀₁ h h' 0 1
  agTilesH c scale h 0
  agFwd n₁₀ S₁₀ h₁₀ h h' 1 0
  agTilesL c scale h 1
  agFwd n₁₁ S₁₁ h₁₁ h h' 1 1
  agTilesH c scale h 1

/-- What such a step starts from, with the chunks `jL` and `jH` of the result to write. -/
theorem gatherF_tr {sp : Space} (c : Dev nD) (n₀₀ n₀₁ n₁₀ n₁₁ : Dev nD) (S₀₀ S₀₁ S₁₀ S₁₁ : Memref sig .tc sp S512x4096 .i8)
    (h₀₀ h₀₁ h₁₀ h₁₁) (h h' : Fin 3) (hh : h'.val = h.val + 1) (e₀₀ : n₀₀ = ch c 1) (e₀₁ : n₀₁ = ch c 3) (e₁₀ : n₁₀ = ch c 1) (e₁₁ : n₁₁ = ch c 3) {l}
    (hl : Above (6 + h.val) (it (.ag h' 0 0) :: it (.ag h' 0 1) :: it (.ag h' 1 0) :: it (.ag h' 1 1) :: l)) :
    iprop(Ow m c (it (.ag h' 0 0) :: it (.ag h' 0 1) :: it (.ag h' 1 0) :: it (.ag h' 1 1) :: l)
        ∗ q4 (fun k d => Wt c (.ag h k d)) ∗ q4 (fun k d => Tk c (.ag h' k d)) ∗ sAg c h' ∗ bq c ∗ (pa c bF ∗ sv c 2)
        ∗ oa4 c (ch c (4 - h.val)) 0 ∗ oa4 c (ch c h.val) 1)
      ⊢ W c (gatherF c (sclC m c) n₀₀ n₀₁ n₁₀ n₁₁ S₀₀ S₀₁ S₁₀ S₁₁ h₀₀ h₀₁ h₁₀ h₁₁ h h') (fun _ => iprop(Ow m c l ∗ bq c ∗ (pa c bF ∗ sv c 2)
        ∗ q4 (fun k d => semVal (gR c (.ag h k d)) 0) ∗ q4 (fun k d => Sd c (.ag h' k d))
        ∗ oo4 m c (ch c (4 - h.val)) 0 ∗ oo4 m c (ch c h.val) 1)) := by
  have hw : ∀ (h : Fin 3) (k d : Fin 2), lvl (.dma (sR (.ag h k d))) = 6 + h.val := by decide +kernel
  have a₀ : ∀ {n p} {l : List (ℕ × SemLoc sig)}, Above n (p :: l) → Above n l := fun h p hp => h p (List.mem_cons_of_mem _ hp)
  have z : ∀ {n} {l : List (ℕ × SemLoc sig)}, Above n l → Above 0 l := fun h p hp => lt_of_le_of_lt (Nat.zero_le _) (h p hp)
  unfold gatherF oa4 oo4 sAg
  simp only [q4]
  iintro ⟨HO, ⟨V00, V01, V10, V11⟩, ⟨T00, T01, T10, T11⟩, ⟨S00, S01, S10, S11⟩, Hq, HF, ⟨⟨O000, O010⟩, ⟨O100, O110⟩⟩, ⟨⟨O001, O011⟩, ⟨O101, O111⟩⟩⟩
  iapply (use (agFwd_tr m c _ _ _ h h' 0 0 hh e₀₀ (by rw [hw]; exact hl))) $$ [HO V00 T00 S00]
  · isplitl [HO]; · iexact HO
    isplitl [V00]; · iexact V00
    isplitl [T00]; · iexact T00
    iexact S00
  iintro %_ ⟨HO, Z00, D00, Ha⟩
  iapply (use (agTiles_tr m c h _ _ _ 0 0 (off25_eq c h 0) (off26_eq c h 0) rfl (z (a₀ hl)) _)) $$ [HO Ha Hq HF O000 O010]
  · isplitl [HO]; · iexact HO
    isplitl [Ha]; · iexact Ha
    isplitl [Hq]; · iexact Hq
    isplitl [HF]; · iexact HF
    isplitl [O000]; · iexact O000
    iexact O010
  iintro %_ ⟨HO, Hq, HF, ⟨O000, O010⟩⟩
  iapply (use (agFwd_tr m c _ _ _ h h' 0 1 hh e₀₁ (by rw [hw]; exact (a₀ hl)))) $$ [HO V01 T01 S01]
  · isplitl [HO]; · iexact HO
    isplitl [V01]; · iexact V01
    isplitl [T01]; · iexact T01
    iexact S01
  iintro %_ ⟨HO, Z01, D01, Ha⟩
  iapply (use (agTiles_tr m c h _ _ _ 0 1 (off27_eq c h 0) (off28_eq c h 0) rfl (z (a₀ (a₀ hl))) _)) $$ [HO Ha Hq HF O001 O011]
  · isplitl [HO]; · iexact HO
    isplitl [Ha]; · iexact Ha
    isplitl [Hq]; · iexact Hq
    isplitl [HF]; · iexact HF
    isplitl [O001]; · iexact O001
    iexact O011
  iintro %_ ⟨HO, Hq, HF, ⟨O001, O011⟩⟩
  iapply (use (agFwd_tr m c _ _ _ h h' 1 0 hh e₁₀ (by rw [hw]; exact (a₀ (a₀ hl))))) $$ [HO V10 T10 S10]
  · isplitl [HO]; · iexact HO
    isplitl [V10]; · iexact V10
    isplitl [T10]; · iexact T10
    iexact S10
  iintro %_ ⟨HO, Z10, D10, Ha⟩
  iapply (use (agTiles_tr m c h _ _ _ 1 0 (off25_eq c h 1) (off26_eq c h 1) rfl (z (a₀ (a₀ (a₀ hl)))) _)) $$ [HO Ha Hq HF O100 O110]
  · isplitl [HO]; · iexact HO
    isplitl [Ha]; · iexact Ha
    isplitl [Hq]; · iexact Hq
    isplitl [HF]; · iexact HF
    isplitl [O100]; · iexact O100
    iexact O110
  iintro %_ ⟨HO, Hq, HF, ⟨O100, O110⟩⟩
  iapply (use (agFwd_tr m c _ _ _ h h' 1 1 hh e₁₁ (by rw [hw]; exact (a₀ (a₀ (a₀ hl)))))) $$ [HO V11 T11 S11]
  · isplitl [HO]; · iexact HO
    isplitl [V11]; · iexact V11
    isplitl [T11]; · iexact T11
    iexact S11
  iintro %_ ⟨HO, Z11, D11, Ha⟩
  iapply (useE (agTiles_tr m c h _ _ _ 1 1 (off27_eq c h 1) (off28_eq c h 1) rfl (z (a₀ (a₀ (a₀ (a₀ hl))))) _)) $$ [HO Ha Hq HF O101 O111]
  · isplitl [HO]; · iexact HO
    isplitl [Ha]; · iexact Ha
    isplitl [Hq]; · iexact Hq
    isplitl [HF]; · iexact HF
    isplitl [O101]; · iexact O101
    iexact O111
  iintro %_ ⟨HO, Hq, HF, ⟨O101, O111⟩⟩
  isplitl [HO]; · iexact HO
  isplitl [Hq]; · iexact Hq
  isplitl [HF]; · iexact HF
  isplitl [Z00 Z01 Z10 Z11]
  · isplitl [Z00]; · iexact Z00
    isplitl [Z01]; · iexact Z01
    isplitl [Z10]; · iexact Z10
    iexact Z11
  isplitl [D00 D01 D10 D11]
  · isplitl [D00]; · iexact D00
    isplitl [D01]; · iexact D01
    isplitl [D10]; · iexact D10
    iexact D11
  isplitl [O000 O010 O100 O110]
  · isplitl [O000 O010]
    · isplitl [O000]; · iexact O000
      iexact O010
    isplitl [O100]; · iexact O100
    iexact O110
  isplitl [O001 O011]
  · isplitl [O001]; · iexact O001
    iexact O011
  isplitl [O101]; · iexact O101
  iexact O111

/-- Gather step 0. -/
theorem gather0_tr (c : Dev nD) :
    iprop(Ow m c oG1 ∗ q4 (fun k d => Wt c (.ag 0 k d)) ∗ q4 (fun k d => Tk c (.ag 1 k d)) ∗ sAg c 1 ∗ bq c ∗ (pa c bF ∗ sv c 2) ∗ oa4 c (ch c 4) 0 ∗ oa4 c (ch c 0) 1)
      ⊢ W c (gather0 c (sclC m c)) (fun _ => iprop(Ow m c oG2 ∗ bq c ∗ (pa c bF ∗ sv c 2)
        ∗ q4 (fun k d => semVal (gR c (.ag 0 k d)) 0) ∗ q4 (fun k d => Sd c (.ag 1 k d)) ∗ oo4 m c (ch c 4) 0 ∗ oo4 m c (ch c 0) 1)) := by
  have n22 : ∀ c : Dev nD, (⟨k0_dev22 c, k0_dev22_lt c⟩ : Dev nD) = ch c 1 := by decide +kernel
  have n23 : ∀ c : Dev nD, (⟨k0_dev23 c, k0_dev23_lt c⟩ : Dev nD) = ch c 3 := by decide +kernel
  have n24 : ∀ c : Dev nD, (⟨k0_dev24 c, k0_dev24_lt c⟩ : Dev nD) = ch c 1 := by decide +kernel
  have n25 : ∀ c : Dev nD, (⟨k0_dev25 c, k0_dev25_lt c⟩ : Dev nD) = ch c 3 := by decide +kernel
  exact gatherF_tr m c _ _ _ _ (qLV 0) (qHV 0) (qLV 1) (qHV 1) (qLWords 0) (qHWords 0) (qLWords 1) (qHWords 1) 0 1 rfl (n22 c) (n23 c) (n24 c) (n25 c) (l := oG2) (by decide +kernel)

/-- Gather step 1. -/
theorem gather1_tr (c : Dev nD) :
    iprop(Ow m c oG2 ∗ q4 (fun k d => Wt c (.ag 1 k d)) ∗ q4 (fun k d => Tk c (.ag 2 k d)) ∗ sAg c 2 ∗ bq c ∗ (pa c bF ∗ sv c 2) ∗ oa4 c (ch c 3) 0 ∗ oa4 c (ch c 1) 1)
      ⊢ W c (gather1 c (sclC m c)) (fun _ => iprop(Ow m c [] ∗ bq c ∗ (pa c bF ∗ sv c 2)
        ∗ q4 (fun k d => semVal (gR c (.ag 1 k d)) 0) ∗ q4 (fun k d => Sd c (.ag 2 k d)) ∗ oo4 m c (ch c 3) 0 ∗ oo4 m c (ch c 1) 1)) := by
  have n26 : ∀ c : Dev nD, (⟨k0_dev26 c, k0_dev26_lt c⟩ : Dev nD) = ch c 1 := by decide +kernel
  have n27 : ∀ c : Dev nD, (⟨k0_dev27 c, k0_dev27_lt c⟩ : Dev nD) = ch c 3 := by decide +kernel
  have n28 : ∀ c : Dev nD, (⟨k0_dev28 c, k0_dev28_lt c⟩ : Dev nD) = ch c 1 := by decide +kernel
  have n29 : ∀ c : Dev nD, (⟨k0_dev29 c, k0_dev29_lt c⟩ : Dev nD) = ch c 3 := by decide +kernel
  exact gatherF_tr m c _ _ _ _ (aV 0 0 0) (aV 0 0 1) (aV 0 1 0) (aV 0 1 1) (aWords 0 0 0) (aWords 0 0 1) (aWords 0 1 0) (aWords 0 1 1) 1 2 rfl (n26 c) (n27 c) (n28 c) (n29 c) (l := []) (by decide +kernel)

/-- The last gather step. -/
theorem gather2_tr (c : Dev nD) :
    iprop(Ow m c [] ∗ q4 (fun k d => Wt c (.ag 2 k d)) ∗ bq c ∗ (pa c bF ∗ sv c 2) ∗ oa4 c (ch c 2) 0 ∗ oa4 c (ch c 2) 1)
      ⊢ W c (gather2 c (sclC m c)) (fun _ => iprop(Ow m c [] ∗ bq c ∗ (pa c bF ∗ sv c 2)
        ∗ q4 (fun k d => semVal (gR c (.ag 2 k d)) 0) ∗ oo4 m c (ch c 2) 0 ∗ oo4 m c (ch c 2) 1)) := by
  have a : ∀ n, Above n [] := fun n p hp => absurd hp List.not_mem_nil
  unfold gather2 oa4 oo4
  simp only [q4]
  iintro ⟨HO, ⟨V00, V01, V10, V11⟩, Hq, HF, ⟨⟨O000, O010⟩, ⟨O100, O110⟩⟩, ⟨⟨O001, O011⟩, ⟨O101, O111⟩⟩⟩
  iapply (use (agWait_tr m c _ _ 2 0 0 (a _))) $$ [HO V00]
  · isplitl [HO]; · iexact HO
    iexact V00
  iintro %_ ⟨HO, Ha, Z00⟩
  iapply (use (agTiles_tr m c 2 _ _ _ 0 0 (off25_eq c 2 0) (off26_eq c 2 0) rfl (a _) _)) $$ [HO Ha Hq HF O000 O010]
  · isplitl [HO]; · iexact HO
    isplitl [Ha]; · iexact Ha
    isplitl [Hq]; · iexact Hq
    isplitl [HF]; · iexact HF
    isplitl [O000]; · iexact O000
    iexact O010
  iintro %_ ⟨HO, Hq, HF, ⟨O000, O010⟩⟩
  iapply (use (agWait_tr m c _ _ 2 0 1 (a _))) $$ [HO V01]
  · isplitl [HO]; · iexact HO
    iexact V01
  iintro %_ ⟨HO, Ha, Z01⟩
  iapply (use (agTiles_tr m c 2 _ _ _ 0 1 (off27_eq c 2 0) (off28_eq c 2 0) rfl (a _) _)) $$ [HO Ha Hq HF O001 O011]
  · isplitl [HO]; · iexact HO
    isplitl [Ha]; · iexact Ha
    isplitl [Hq]; · iexact Hq
    isplitl [HF]; · iexact HF
    isplitl [O001]; · iexact O001
    iexact O011
  iintro %_ ⟨HO, Hq, HF, ⟨O001, O011⟩⟩
  iapply (use (agWait_tr m c _ _ 2 1 0 (a _))) $$ [HO V10]
  · isplitl [HO]; · iexact HO
    iexact V10
  iintro %_ ⟨HO, Ha, Z10⟩
  iapply (use (agTiles_tr m c 2 _ _ _ 1 0 (off25_eq c 2 1) (off26_eq c 2 1) rfl (a _) _)) $$ [HO Ha Hq HF O100 O110]
  · isplitl [HO]; · iexact HO
    isplitl [Ha]; · iexact Ha
    isplitl [Hq]; · iexact Hq
    isplitl [HF]; · iexact HF
    isplitl [O100]; · iexact O100
    iexact O110
  iintro %_ ⟨HO, Hq, HF, ⟨O100, O110⟩⟩
  iapply (use (agWait_tr m c _ _ 2 1 1 (a _))) $$ [HO V11]
  · isplitl [HO]; · iexact HO
    iexact V11
  iintro %_ ⟨HO, Ha, Z11⟩
  iapply (useE (agTiles_tr m c 2 _ _ _ 1 1 (off27_eq c 2 1) (off28_eq c 2 1) rfl (a _) _)) $$ [HO Ha Hq HF O101 O111]
  · isplitl [HO]; · iexact HO
    isplitl [Ha]; · iexact Ha
    isplitl [Hq]; · iexact Hq
    isplitl [HF]; · iexact HF
    isplitl [O101]; · iexact O101
    iexact O111
  iintro %_ ⟨HO, Hq, HF, ⟨O101, O111⟩⟩
  isplitl [HO]; · iexact HO
  isplitl [Hq]; · iexact Hq
  isplitl [HF]; · iexact HF
  isplitl [Z00 Z01 Z10 Z11]
  · isplitl [Z00]; · iexact Z00
    isplitl [Z01]; · iexact Z01
    isplitl [Z10]; · iexact Z10
    iexact Z11
  isplitl [O000 O010 O100 O110]
  · isplitl [O000 O010]
    · isplitl [O000]; · iexact O000
      iexact O010
    isplitl [O100]; · iexact O100
    iexact O110
  isplitl [O001 O011]
  · isplitl [O001]; · iexact O001
    iexact O011
  isplitl [O101]; · iexact O101
  iexact O111

/-! ### The waits for the sends -/

/-- The sends of a step of the reduce-scatter. -/
theorem rsDones_tr (c : Dev nD) (s : Fin 3) :
    iprop(Ow m c [] ∗ q4 (fun k d => Sd c (.rs s k d)) ∗ q4 (fun k d => Sp c (.rs s k d)))
      ⊢ W c (rsDones c s) (fun _ => iprop(Ow m c [] ∗ q4 (fun k d => semVal (gS c (.rs s k d)) 0))) := by
  have a : ∀ n, Above n [] := fun n p hp => absurd hp List.not_mem_nil
  unfold rsDones rsDone
  simp only [q4]
  iintro ⟨HO, ⟨D00, D01, D10, D11⟩, ⟨P00, P01, P10, P11⟩⟩
  iapply (use (done_tr m (.rs s 0 0) (src := rV s 0 0) (dst := cV _ _ 0 0 (off6_eq c s 0)) rfl (a _))) $$ [HO D00 P00]
  · isplitl [HO]; · iexact HO
    isplitl [D00]; · iexact D00
    iexact P00
  iintro %_ ⟨HO, -, Z00⟩
  iapply (use (done_tr m (.rs s 0 1) (src := rV s 0 1) (dst := cV _ _ 0 1 (off11_eq c s 0)) rfl (a _))) $$ [HO D01 P01]
  · isplitl [HO]; · iexact HO
    isplitl [D01]; · iexact D01
    iexact P01
  iintro %_ ⟨HO, -, Z01⟩
  iapply (use (done_tr m (.rs s 1 0) (src := rV s 1 0) (dst := cV _ _ 1 0 (off6_eq c s 1)) rfl (a _))) $$ [HO D10 P10]
  · isplitl [HO]; · iexact HO
    isplitl [D10]; · iexact D10
    iexact P10
  iintro %_ ⟨HO, -, Z10⟩
  iapply (useE (done_tr m (.rs s 1 1) (src := rV s 1 1) (dst := cV _ _ 1 1 (off11_eq c s 1)) rfl (a _))) $$ [HO D11 P11]
  · isplitl [HO]; · iexact HO
    isplitl [D11]; · iexact D11
    iexact P11
  iintro %_ ⟨HO, -, Z11⟩
  isplitl [HO]; · iexact HO
  isplitl [Z00]; · iexact Z00
  isplitl [Z01]; · iexact Z01
  isplitl [Z10]; · iexact Z10
  iexact Z11

/-- The sends of the first step. -/
theorem rsDones0_tr (c : Dev nD) :
    iprop(Ow m c [] ∗ q4 (fun k d => Sd c (.rs 0 k d)) ∗ q4 (fun k d => Sp c (.rs 0 k d)))
      ⊢ W c (rsDones0 c) (fun _ => iprop(Ow m c [] ∗ q4 (fun k d => semVal (gS c (.rs 0 k d)) 0))) := by
  have a : ∀ n, Above n [] := fun n p hp => absurd hp List.not_mem_nil
  unfold rsDones0 rsDone
  simp only [q4]
  iintro ⟨HO, ⟨D00, D01, D10, D11⟩, ⟨P00, P01, P10, P11⟩⟩
  iapply (use (done_tr m (.rs 0 0 0) (src := rV 0 0 0) (dst := cV _ _ 0 0 (off6_eq c 0 0)) rfl (a _))) $$ [HO D00 P00]
  · isplitl [HO]; · iexact HO
    isplitl [D00]; · iexact D00
    iexact P00
  iintro %_ ⟨HO, -, Z00⟩
  iapply (use (done_tr m (.rs 0 1 0) (src := rV 0 1 0) (dst := cV _ _ 1 0 (off6_eq c 0 1)) rfl (a _))) $$ [HO D10 P10]
  · isplitl [HO]; · iexact HO
    isplitl [D10]; · iexact D10
    iexact P10
  iintro %_ ⟨HO, -, Z10⟩
  iapply (use (done_tr m (.rs 0 0 1) (src := rV 0 0 1) (dst := cV _ _ 0 1 (off11_eq c 0 0)) rfl (a _))) $$ [HO D01 P01]
  · isplitl [HO]; · iexact HO
    isplitl [D01]; · iexact D01
    iexact P01
  iintro %_ ⟨HO, -, Z01⟩
  iapply (useE (done_tr m (.rs 0 1 1) (src := rV 0 1 1) (dst := cV _ _ 1 1 (off11_eq c 0 1)) rfl (a _))) $$ [HO D11 P11]
  · isplitl [HO]; · iexact HO
    isplitl [D11]; · iexact D11
    iexact P11
  iintro %_ ⟨HO, -, Z11⟩
  isplitl [HO]; · iexact HO
  isplitl [Z00]; · iexact Z00
  isplitl [Z01]; · iexact Z01
  isplitl [Z10]; · iexact Z10
  iexact Z11

/-- The sends of a step of the gather after the first. -/
theorem agDones_tr (c : Dev nD) (h h' : Fin 3) :
    iprop(Ow m c [] ∗ q4 (fun k d => Sd c (.ag h' k d)) ∗ q4 (fun k d => Sp c (.ag h' k d)))
      ⊢ W c (agDones h h') (fun _ => iprop(Ow m c [] ∗ q4 (fun k d => semVal (gS c (.ag h' k d)) 0))) := by
  have a : ∀ n, Above n [] := fun n p hp => absurd hp List.not_mem_nil
  unfold agDones agDone
  simp only [q4]
  iintro ⟨HO, ⟨D00, D01, D10, D11⟩, ⟨P00, P01, P10, P11⟩⟩
  iapply (use (done_tr m (.ag h' 0 0) (src := aV h' 0 0) (dst := aV h 0 0) rfl (a _))) $$ [HO D00 P00]
  · isplitl [HO]; · iexact HO
    isplitl [D00]; · iexact D00
    iexact P00
  iintro %_ ⟨HO, -, Z00⟩
  iapply (use (done_tr m (.ag h' 0 1) (src := aV h' 0 1) (dst := aV h 0 1) rfl (a _))) $$ [HO D01 P01]
  · isplitl [HO]; · iexact HO
    isplitl [D01]; · iexact D01
    iexact P01
  iintro %_ ⟨HO, -, Z01⟩
  iapply (use (done_tr m (.ag h' 1 0) (src := aV h' 1 0) (dst := aV h 1 0) rfl (a _))) $$ [HO D10 P10]
  · isplitl [HO]; · iexact HO
    isplitl [D10]; · iexact D10
    iexact P10
  iintro %_ ⟨HO, -, Z10⟩
  iapply (useE (done_tr m (.ag h' 1 1) (src := aV h' 1 1) (dst := aV h 1 1) rfl (a _))) $$ [HO D11 P11]
  · isplitl [HO]; · iexact HO
    isplitl [D11]; · iexact D11
    iexact P11
  iintro %_ ⟨HO, -, Z11⟩
  isplitl [HO]; · iexact HO
  isplitl [Z00]; · iexact Z00
  isplitl [Z01]; · iexact Z01
  isplitl [Z10]; · iexact Z10
  iexact Z11

/-- Every send. -/
theorem ending_tr (c : Dev nD) :
    iprop(Ow m c [] ∗ (q4 (fun k d => Sd c (.rs 0 k d)) ∗ q4 (fun k d => Sd c (.rs 1 k d)) ∗ q4 (fun k d => Sd c (.rs 2 k d)))
        ∗ (q4 (fun k d => Sp c (.rs 0 k d)) ∗ q4 (fun k d => Sp c (.rs 1 k d)) ∗ q4 (fun k d => Sp c (.rs 2 k d)))
        ∗ (Sd c (.am 0) ∗ Sd c (.am 1) ∗ Sd c (.am 2)) ∗ (Sp c (.am 0) ∗ Sp c (.am 1) ∗ Sp c (.am 2))
        ∗ (q4 (fun k d => Sd c (.ag 0 k d)) ∗ q4 (fun k d => Sd c (.ag 1 k d)) ∗ q4 (fun k d => Sd c (.ag 2 k d)))
        ∗ (q4 (fun k d => Sp c (.ag 0 k d)) ∗ q4 (fun k d => Sp c (.ag 1 k d)) ∗ q4 (fun k d => Sp c (.ag 2 k d))))
      ⊢ W c (ending c) (fun _ => iprop(Ow m c []
        ∗ (q4 (fun k d => semVal (gS c (.rs 0 k d)) 0) ∗ q4 (fun k d => semVal (gS c (.rs 1 k d)) 0) ∗ q4 (fun k d => semVal (gS c (.rs 2 k d)) 0))
        ∗ (semVal (gS c (.am 0)) 0 ∗ semVal (gS c (.am 1)) 0 ∗ semVal (gS c (.am 2)) 0)
        ∗ (q4 (fun k d => semVal (gS c (.ag 0 k d)) 0) ∗ q4 (fun k d => semVal (gS c (.ag 1 k d)) 0) ∗ q4 (fun k d => semVal (gS c (.ag 2 k d)) 0))
        ∗ (PS m c (.am 0) ∗ PS m c (.am 1) ∗ PS m c (.am 2)) ∗ (PS m c (.ag 0 0 0) ∗ PS m c (.ag 0 1 0)) ∗ (PS m c (.ag 0 0 1) ∗ PS m c (.ag 0 1 1)))) := by
  have a : ∀ n, Above n [] := fun n p hp => absurd hp List.not_mem_nil
  unfold ending amDone agDone
  iintro ⟨HO, ⟨D0, D1, D2⟩, ⟨P0, P1, P2⟩, ⟨A0, A1, A2⟩, ⟨B0, B1, B2⟩, ⟨E0, E1, E2⟩, ⟨G0, G1, G2⟩⟩
  simp only [q4]
  icases E0 with ⟨D00, D01, D10, D11⟩
  icases G0 with ⟨P00, P01, P10, P11⟩
  iapply (use (rsDones0_tr m c)) $$ [HO D0 P0]
  · simp only [q4]; isplitl [HO]; · iexact HO
    isplitl [D0]; · iexact D0
    iexact P0
  iintro %_ ⟨HO, D0⟩
  iapply (use (rsDones_tr m c 1)) $$ [HO D1 P1]
  · simp only [q4]; isplitl [HO]; · iexact HO
    isplitl [D1]; · iexact D1
    iexact P1
  iintro %_ ⟨HO, D1⟩
  iapply (use (rsDones_tr m c 2)) $$ [HO D2 P2]
  · simp only [q4]; isplitl [HO]; · iexact HO
    isplitl [D2]; · iexact D2
    iexact P2
  iintro %_ ⟨HO, D2⟩
  iapply (use (done_tr m (.am 0) (src := mV 0) (dst := bM) rfl (a _))) $$ [HO A0 B0]
  · isplitl [HO]; · iexact HO
    isplitl [A0]; · iexact A0
    iexact B0
  iintro %_ ⟨HO, B0, A0⟩
  iapply (use (done_tr m (.am 1) (src := mV 1) (dst := bM) rfl (a _))) $$ [HO A1 B1]
  · isplitl [HO]; · iexact HO
    isplitl [A1]; · iexact A1
    iexact B1
  iintro %_ ⟨HO, B1, A1⟩
  iapply (use (done_tr m (.am 2) (src := mV 2) (dst := bM) rfl (a _))) $$ [HO A2 B2]
  · isplitl [HO]; · iexact HO
    isplitl [A2]; · iexact A2
    iexact B2
  iintro %_ ⟨HO, B2, A2⟩
  iapply (use (done_tr m (.ag 0 0 0) (src := aV 0 0 0) (dst := (qLV 0)) rfl (a _))) $$ [HO D00 P00]
  · isplitl [HO]; · iexact HO
    isplitl [D00]; · iexact D00
    iexact P00
  iintro %_ ⟨HO, R00, D00⟩
  iapply (use (done_tr m (.ag 0 1 0) (src := aV 0 1 0) (dst := (qLV 1)) rfl (a _))) $$ [HO D10 P10]
  · isplitl [HO]; · iexact HO
    isplitl [D10]; · iexact D10
    iexact P10
  iintro %_ ⟨HO, R10, D10⟩
  iapply (use (done_tr m (.ag 0 0 1) (src := aV 0 0 1) (dst := (qHV 0)) rfl (a _))) $$ [HO D01 P01]
  · isplitl [HO]; · iexact HO
    isplitl [D01]; · iexact D01
    iexact P01
  iintro %_ ⟨HO, R01, D01⟩
  iapply (use (done_tr m (.ag 0 1 1) (src := aV 0 1 1) (dst := (qHV 1)) rfl (a _))) $$ [HO D11 P11]
  · isplitl [HO]; · iexact HO
    isplitl [D11]; · iexact D11
    iexact P11
  iintro %_ ⟨HO, R11, D11⟩
  iapply (use (agDones_tr m c 0 1)) $$ [HO E1 G1]
  · simp only [q4]; isplitl [HO]; · iexact HO
    isplitl [E1]; · iexact E1
    iexact G1
  iintro %_ ⟨HO, E1⟩
  iapply (useE (agDones_tr m c 1 2)) $$ [HO E2 G2]
  · simp only [q4]; isplitl [HO]; · iexact HO
    isplitl [E2]; · iexact E2
    iexact G2
  iintro %_ ⟨HO, E2⟩
  simp only [q4]
  isplitl [HO]; · iexact HO
  isplitl [D0 D1 D2]
  · isplitl [D0]; · iexact D0
    isplitl [D1]; · iexact D1
    iexact D2
  isplitl [A0 A1 A2]
  · isplitl [A0]; · iexact A0
    isplitl [A1]; · iexact A1
    iexact A2
  isplitl [D00 D01 D10 D11 E1 E2]
  · isplitl [D00 D01 D10 D11]
    · isplitl [D00]; · iexact D00
      isplitl [D01]; · iexact D01
      isplitl [D10]; · iexact D10
      iexact D11
    isplitl [E1]; · iexact E1
    iexact E2
  isplitl [B0 B1 B2]
  · isplitl [B0]; · iexact B0
    isplitl [B1]; · iexact B1
    iexact B2
  isplitl [R00 R10]
  · isplitl [R00]; · iexact R00
    iexact R10
  isplitl [R01]; · iexact R01
  iexact R11

end Cert.KernelIdeal.Gen
-- ==== Proof.Device.lean ====
/-
  One device, from its greeting to its last wait.
-/
module

public import proofs.«01_k».proof.Proof.Whole

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-- One thing for each transfer. -/
def x27 (Φ : Xf → sProp 𝕄) : sProp 𝕄 :=
  iprop((q4 (fun k d => Φ (.rs 0 k d)) ∗ q4 (fun k d => Φ (.rs 1 k d)) ∗ q4 (fun k d => Φ (.rs 2 k d)))
    ∗ (Φ (.am 0) ∗ Φ (.am 1) ∗ Φ (.am 2))
    ∗ (q4 (fun k d => Φ (.ag 0 k d)) ∗ q4 (fun k d => Φ (.ag 1 k d)) ∗ q4 (fun k d => Φ (.ag 2 k d))))

omit [FloatOps F] in
/-- They are the transfers. -/
theorem x27_eq (Φ : Xf → sProp 𝕄) : (bigSep Finset.univ Φ) = x27 Φ := by
  have e : ∀ g : Fin 3 × Fin 2 × Fin 2 → sProp 𝕄, bigSep Finset.univ g
      = iprop(q4 (fun k d => g (0, k, d)) ∗ q4 (fun k d => g (1, k, d)) ∗ q4 (fun k d => g (2, k, d))) := fun g => by
    rw [bigSep_univ_prod, bigSep_univ_eq_bigSepL [0, 1, 2] (by decide) (by decide), bigSepL_cons_cons, bigSepL_cons_cons, bigSepL_singleton]
    show iprop(_ ∗ _ ∗ _) = _
    have e' : ∀ h : Fin 3, (bigSep Finset.univ fun p : Fin 2 × Fin 2 => g (h, p)) = q4 (fun k d => g (h, k, d)) := fun h => by
      rw [bigSep_univ_eq_bigSepL [(0, 0), (0, 1), (1, 0), (1, 1)] (by decide) (by decide), bigSepL_cons_cons, bigSepL_cons_cons, bigSepL_cons_cons, bigSepL_singleton]; rfl
    rw [e' 0, e' 1, e' 2]
  have sw' : ∀ P Q R : sProp 𝕄, iprop(P ∗ Q ∗ R) ⊢ iprop(P ∗ R ∗ Q) := fun P Q R => by
    iintro ⟨H₁, H₂, H₃⟩
    isplitl [H₁]; · iexact H₁
    isplitl [H₃]; · iexact H₃
    iexact H₂
  have sw : ∀ P Q R : sProp 𝕄, iprop(P ∗ Q ∗ R) = iprop(P ∗ R ∗ Q) := fun P Q R => equiv_iff.mp ⟨sw' P Q R, sw' P R Q⟩
  rw [bigSep_univ_equiv xfEquiv, bigSep_univ_sum, bigSep_univ_sum, e, e, bigSep_univ_eq_bigSepL [0, 1, 2] (by decide) (by decide), bigSepL_cons_cons, bigSepL_cons_cons, bigSepL_singleton]
  unfold x27
  exact sw _ _ _

/-- The result's tiles of half `d` of every chunk, in the order of the ring. -/
def oaH (c : Dev nD) (d : Fin 2) : sProp 𝕄 := iprop(oa4 (F := F) c (ch c 0) d ∗ oa4 c (ch c 1) d ∗ oa4 c (ch c 2) d ∗ oa4 c (ch c 3) d)
/-- The same, done. -/
def ooH (c : Dev nD) (d : Fin 2) : sProp 𝕄 := iprop(oo4 m c (ch c 0) d ∗ oo4 m c (ch c 1) d ∗ oo4 m c (ch c 2) d ∗ oo4 m c (ch c 3) d)

/-- What the body takes of the device's memory and semaphores, besides the product's. -/
def prem (c : Dev nD) : sProp 𝕄 := iprop(lt (F := F) c ∗ (pa c bF ∗ sv c 6) ∗ pa c bQ ∗ pa c bQ')
/-- What the device gets through its greeting and its transfers. -/
def pgive (c : Dev nD) : sProp 𝕄 :=
  iprop((dutyTok ER (gB (ch c 3)) 0 false ∗ dutyTok ER (gB (ch c 1)) 0 true) ∗ (slotsD (F := F) c 0 ∗ slotsD c 1 ∗ slot c (.am 0) ∗ slot c (.am 1) ∗ slot c (.am 2)))

omit [FloatOps F] in
/-- The slots for one step of the all-gather, one by one. -/
theorem sAg_open (c : Dev nD) (h : Fin 3) :
    (sAg (F := F) c h) ⊢ iprop(slot (ch c 1) (.ag h 0 0) ∗ slot (ch c 3) (.ag h 0 1) ∗ slot (ch c 1) (.ag h 1 0) ∗ slot (ch c 3) (.ag h 1 1)) := Entails.refl _
omit [FloatOps F] in
/-- The four tokens of the all-gather's first step, one by one. -/
theorem q4_tk (c : Dev nD) : (q4 (F := F) (fun k d => Tk c (.ag 0 k d))) ⊢ iprop(Tk c (.ag 0 0 0) ∗ Tk c (.ag 0 0 1) ∗ Tk c (.ag 0 1 0) ∗ Tk c (.ag 0 1 1)) := Entails.refl _
omit [FloatOps F] in
/-- The four sends of the all-gather's first step, gathered. -/
theorem q4_sd (c : Dev nD) : iprop(Sd (F := F) c (.ag 0 0 0) ∗ Sd c (.ag 0 0 1) ∗ Sd c (.ag 0 1 0) ∗ Sd c (.ag 0 1 1)) ⊢ q4 (fun k d => Sd c (.ag 0 k d)) := Entails.refl _

set_option maxHeartbeats 1600000 in
/-- The whole body on a device. -/
theorem main_tr (c : Dev nD) (f) :
    iprop(Ow m c oB ∗ pgive c ∗ gall m c ∗ prem c ∗ Bt c
        ∗ ((hb c (ch c 0) 0 f ∗ hb c (ch c 0) 1 f) ∗ (hb c (ch c 1) 0 f ∗ hb c (ch c 1) 1 f) ∗ (hb c (ch c 2) 0 f ∗ hb c (ch c 2) 1 f) ∗ (hb c (ch c 3) 0 f ∗ hb c (ch c 3) 1 f))
        ∗ pa c bM ∗ qa c bQL ∗ qa c bQH ∗ oaH c 0 ∗ oaH c 1
        ∗ x27 (Tk c) ∗ x27 (Wt c) ∗ x27 (Sp c))
      ⊢ W c (main' c) (fun _ => iprop(Ow m c [] ∗ gall m c ∗ prem c ∗ semVal (gB c) 0
        ∗ (PS m c (.am 0) ∗ PS m c (.am 1) ∗ PS m c (.am 2)) ∗ (PS m c (.ag 0 0 0) ∗ PS m c (.ag 0 1 0)) ∗ (PS m c (.ag 0 0 1) ∗ PS m c (.ag 0 1 1))
        ∗ (pa c (mV 0) ∗ pa c (mV 1) ∗ pa c (mV 2)) ∗ ooH m c 0 ∗ ooH m c 1
        ∗ x27 (fun x => semVal (gS c x) 0) ∗ x27 (fun x => semVal (gR c x) 0))) := by
  have e₄ : ∀ c : Fin 4, ch c 4 = ch c 0 := by decide +kernel
  unfold main' prem pgive oaH ooH x27
  iintro ⟨HO, ⟨⟨Hd₁, Hd₂⟩, ⟨Hs₀, Hs₁, Ha₀, Ha₁, Ha₂⟩⟩, Hg, ⟨Hlt, ⟨HF, Hv₆⟩, HQ, HQ'⟩, HBt, ⟨⟨C00, C01⟩, ⟨C10, C11⟩, ⟨C20, C21⟩, ⟨C30, C31⟩⟩, HM, HQL, HQH, ⟨O00, O10, O20, O30⟩, ⟨O01, O11, O21, O31⟩, ⟨⟨Tr0, Tr1, Tr2⟩, ⟨Tm0, Tm1, Tm2⟩, ⟨Ta0, Ta1, Ta2⟩⟩, ⟨⟨Vr0, Vr1, Vr2⟩, ⟨Vm0, Vm1, Vm2⟩, ⟨Va0, Va1, Va2⟩⟩, ⟨⟨Pr0, Pr1, Pr2⟩, ⟨Pm0, Pm1, Pm2⟩, ⟨Pa0, Pa1, Pa2⟩⟩⟩
  iapply (use (hello_tr m c)) $$ [HO Hd₁ Hd₂ Hs₀ Hs₁ Ha₀ Ha₁ Ha₂]
  · isplitl [HO]; · iexact HO
    isplitl [Hd₁]; · iexact Hd₁
    isplitl [Hd₂]; · iexact Hd₂
    isplitl [Hs₀]; · iexact Hs₀
    isplitl [Hs₁]; · iexact Hs₁
    isplitl [Ha₀]; · iexact Ha₀
    isplitl [Ha₁]; · iexact Ha₁
    iexact Ha₂
  iintro %_ HO
  iapply (use (front_tr m c f)) $$ [HO Hg Hlt HBt C00 C01 C10 C11 C20 C21 C30 C31 Tr0 Tr1 Tr2 Vr0 Vr1]
  · isplitl [HO]; · iexact HO
    isplitl [Hg]; · iexact Hg
    isplitl [Hlt]; · iexact Hlt
    isplitl [HBt]; · iexact HBt
    isplitl [C00 C01 C10 C11 C20 C21 C30 C31]
    · isplitl [C00 C01]
      · isplitl [C00]; · iexact C00
        iexact C01
      isplitl [C10 C11]
      · isplitl [C10]; · iexact C10
        iexact C11
      isplitl [C20 C21]
      · isplitl [C20]; · iexact C20
        iexact C21
      isplitl [C30]; · iexact C30
      iexact C31
    isplitl [Tr0]; · iexact Tr0
    isplitl [Tr1]; · iexact Tr1
    isplitl [Tr2]; · iexact Tr2
    isplitl [Vr0]; · iexact Vr0
    iexact Vr1
  iintro %_ ⟨HO, Hg, Hlt, HgB, ⟨S0, S1, S2⟩, ⟨M0, M1, M2⟩, Dr0, Dr1, Dr2, Rr0, Rr1, Hcb⟩
  unfold gall
  icases Hg with ⟨HA, HB, HX, Hbo, Hv₂, Hv₃, Hx⟩
  iapply (use (lastStep_tr m c)) $$ [HO Hlt Hv₂ Vr2 Hcb]
  · isplitl [HO]; · iexact HO
    isplitl [Hlt]; · iexact Hlt
    isplitl [Hv₂]; · iexact Hv₂
    isplitl [Vr2]; · iexact Vr2
    iexact Hcb
  iintro %y ⟨%hy, HO, Hlt, Hv₂, Rr2, ⟨K00, K10⟩, ⟨K01, K11⟩⟩
  subst hy
  iapply (use (amAll_tr m c (l := oG0) (by decide +kernel))) $$ [HO HM Tm0 M0 Vm0 Tm1 M1 Vm1 Tm2 M2 Vm2]
  · isplitl [HO]; · iexact HO
    isplitl [HM]; · iexact HM
    isplitl [Tm0 M0 Vm0]
    · isplitl [Tm0]; · iexact Tm0
      isplitl [M0]; · iexact M0
      iexact Vm0
    isplitl [Tm1 M1 Vm1]
    · isplitl [Tm1]; · iexact Tm1
      isplitl [M1]; · iexact M1
      iexact Vm1
    isplitl [Tm2]; · iexact Tm2
    isplitl [M2]; · iexact M2
    iexact Vm2
  iintro %g ⟨%hg, HO, ⟨Dm0, Dm1, Dm2⟩, ⟨Rm0, Rm1, Rm2⟩, N0, N1, N2⟩
  subst hg
  rw [show k0_pay79 (amax m c) (gmx m c) = invC m c from rfl, show k0_pay80 (amax m c) (gmx m c) = sclC m c from rfl]
  ihave S0 := (sAg_open c 0) $$ S0
  icases S0 with ⟨S000, S001, S010, S011⟩
  ihave Ta0 := (q4_tk c) $$ Ta0
  icases Ta0 with ⟨T000, T001, T010, T011⟩
  iapply (use (quantL_tr m c (l := it (.ag 0 0 1) :: it (.ag 0 1 1) :: oG1) (by decide +kernel))) $$ [HO T000 S000 T010 S010 Hlt HF Hv₆ K00 K10 HQL O10]
  · isplitl [HO]; · iexact HO
    isplitl [T000 S000]
    · isplitl [T000]; · iexact T000
      iexact S000
    isplitl [T010 S010]
    · isplitl [T010]; · iexact T010
      iexact S010
    isplitl [Hlt]; · iexact Hlt
    isplitl [HF Hv₆]
    · isplitl [HF]; · iexact HF
      iexact Hv₆
    isplitl [K00 K10]
    · isplitl [K00]; · rw [show rcv 0 2 = 1 from rfl]; iexact K00
      rw [show rcv 0 2 = 1 from rfl]; iexact K10
    isplitl [HQL]; · iexact HQL
    rw [show rcv 0 2 = 1 from rfl]; iexact O10
  iintro %_ ⟨HO, Hlt, ⟨HF, Hv₆⟩, O10, D000, D010⟩
  iapply (use (quantH_tr m c (l := oG1) (by decide +kernel))) $$ [HO T001 S001 T011 S011 Hlt HF Hv₆ K01 K11 HQH O31]
  · isplitl [HO]; · iexact HO
    isplitl [T001 S001]
    · isplitl [T001]; · iexact T001
      iexact S001
    isplitl [T011 S011]
    · isplitl [T011]; · iexact T011
      iexact S011
    isplitl [Hlt]; · iexact Hlt
    isplitl [HF Hv₆]
    · isplitl [HF]; · iexact HF
      iexact Hv₆
    isplitl [K01 K11]
    · isplitl [K01]; · rw [show rcv 1 2 = 3 from rfl]; iexact K01
      rw [show rcv 1 2 = 3 from rfl]; iexact K11
    isplitl [HQH]; · iexact HQH
    rw [show rcv 1 2 = 3 from rfl]; iexact O31
  iintro %_ ⟨HO, Hlt, ⟨HF, Hv₆⟩, O31, D001, D011⟩
  unfold lt
  icases Hlt with ⟨HbA, HbB, Hv₀, Hv₁⟩
  iapply (use (gather0_tr m c)) $$ [HO Va0 Ta1 S1 HQ HQ' Hv₀ Hv₁ HF Hv₂ O00 O01]
  · unfold bq; isplitl [HO]; · iexact HO
    isplitl [Va0]; · iexact Va0
    isplitl [Ta1]; · iexact Ta1
    isplitl [S1]; · iexact S1
    isplitl [HQ HQ' Hv₀ Hv₁]
    · isplitl [HQ]; · iexact HQ
      isplitl [HQ']; · iexact HQ'
      isplitl [Hv₀]; · iexact Hv₀
      iexact Hv₁
    isplitl [HF Hv₂]
    · isplitl [HF]; · iexact HF
      iexact Hv₂
    isplitl [O00]; · rw [e₄ c]; iexact O00
    iexact O01
  unfold bq
  iintro %_ ⟨HO, ⟨HQ, HQ', Hv₀, Hv₁⟩, ⟨HF, Hv₂⟩, Ra0, Da1, O00, O01⟩
  iapply (use (gather1_tr m c)) $$ [HO Va1 Ta2 S2 HQ HQ' Hv₀ Hv₁ HF Hv₂ O30 O11]
  · unfold bq; isplitl [HO]; · iexact HO
    isplitl [Va1]; · iexact Va1
    isplitl [Ta2]; · iexact Ta2
    isplitl [S2]; · iexact S2
    isplitl [HQ HQ' Hv₀ Hv₁]
    · isplitl [HQ]; · iexact HQ
      isplitl [HQ']; · iexact HQ'
      isplitl [Hv₀]; · iexact Hv₀
      iexact Hv₁
    isplitl [HF Hv₂]
    · isplitl [HF]; · iexact HF
      iexact Hv₂
    isplitl [O30]; · iexact O30
    iexact O11
  unfold bq
  iintro %_ ⟨HO, ⟨HQ, HQ', Hv₀, Hv₁⟩, ⟨HF, Hv₂⟩, Ra1, Da2, O30, O11⟩
  iapply (use (gather2_tr m c)) $$ [HO Va2 HQ HQ' Hv₀ Hv₁ HF Hv₂ O20 O21]
  · unfold bq; isplitl [HO]; · iexact HO
    isplitl [Va2]; · iexact Va2
    isplitl [HQ HQ' Hv₀ Hv₁]
    · isplitl [HQ]; · iexact HQ
      isplitl [HQ']; · iexact HQ'
      isplitl [Hv₀]; · iexact Hv₀
      iexact Hv₁
    isplitl [HF Hv₂]
    · isplitl [HF]; · iexact HF
      iexact Hv₂
    isplitl [O20]; · iexact O20
    iexact O21
  unfold bq
  iintro %_ ⟨HO, ⟨HQ, HQ', Hv₀, Hv₁⟩, ⟨HF, Hv₂⟩, Ra2, O20, O21⟩
  ihave Da0 := (q4_sd c) $$ [D000 D001 D010 D011]
  · isplitl [D000]; · iexact D000
    isplitl [D001]; · iexact D001
    isplitl [D010]; · iexact D010
    iexact D011
  iapply (useE (ending_tr m c)) $$ [HO Dr0 Dr1 Dr2 Pr0 Pr1 Pr2 Dm0 Dm1 Dm2 Pm0 Pm1 Pm2 Da0 Da1 Da2 Pa0 Pa1 Pa2]
  · isplitl [HO]; · iexact HO
    isplitl [Dr0 Dr1 Dr2]
    · isplitl [Dr0]; · iexact Dr0
      isplitl [Dr1]; · iexact Dr1
      iexact Dr2
    isplitl [Pr0 Pr1 Pr2]
    · isplitl [Pr0]; · iexact Pr0
      isplitl [Pr1]; · iexact Pr1
      iexact Pr2
    isplitl [Dm0 Dm1 Dm2]
    · isplitl [Dm0]; · iexact Dm0
      isplitl [Dm1]; · iexact Dm1
      iexact Dm2
    isplitl [Pm0 Pm1 Pm2]
    · isplitl [Pm0]; · iexact Pm0
      isplitl [Pm1]; · iexact Pm1
      iexact Pm2
    isplitl [Da0 Da1 Da2]
    · isplitl [Da0]; · iexact Da0
      isplitl [Da1]; · iexact Da1
      iexact Da2
    isplitl [Pa0]; · iexact Pa0
    isplitl [Pa1]; · iexact Pa1
    iexact Pa2
  iintro %_ ⟨HO, ⟨Sr0, Sr1, Sr2⟩, ⟨Sm0, Sm1, Sm2⟩, ⟨Sa0, Sa1, Sa2⟩, HPm, HPL, HPH⟩
  isplitl [HO]; · iexact HO
  isplitl [HA HB HX Hbo Hv₂ Hv₃ Hx]
  · isplitl [HA]; · iexact HA
    isplitl [HB]; · iexact HB
    isplitl [HX]; · iexact HX
    isplitl [Hbo]; · iexact Hbo
    isplitl [Hv₂]; · iexact Hv₂
    isplitl [Hv₃]; · iexact Hv₃
    iexact Hx
  isplitl [HbA HbB Hv₀ Hv₁ HF Hv₆ HQ HQ']
  · isplitl [HbA HbB Hv₀ Hv₁]
    · isplitl [HbA]; · iexact HbA
      isplitl [HbB]; · iexact HbB
      isplitl [Hv₀]; · iexact Hv₀
      iexact Hv₁
    isplitl [HF Hv₆]
    · isplitl [HF]; · iexact HF
      iexact Hv₆
    isplitl [HQ]; · iexact HQ
    iexact HQ'
  isplitl [HgB]; · iexact HgB
  isplitl [HPm]; · iexact HPm
  isplitl [HPL]; · iexact HPL
  isplitl [HPH]; · iexact HPH
  isplitl [N0 N1 N2]
  · isplitl [N0]; · iexact N0
    isplitl [N1]; · iexact N1
    iexact N2
  isplitl [O00 O10 O20 O30]
  · isplitl [O00]; · rw [← e₄ c]; iexact O00
    isplitl [O10]; · iexact O10
    isplitl [O20]; · iexact O20
    iexact O30
  isplitl [O01 O11 O21 O31]
  · isplitl [O01]; · iexact O01
    isplitl [O11]; · iexact O11
    isplitl [O21]; · iexact O21
    iexact O31
  isplitl [Sr0 Sr1 Sr2 Sm0 Sm1 Sm2 Sa0 Sa1 Sa2]
  · isplitl [Sr0 Sr1 Sr2]
    · isplitl [Sr0]; · iexact Sr0
      isplitl [Sr1]; · iexact Sr1
      iexact Sr2
    isplitl [Sm0 Sm1 Sm2]
    · isplitl [Sm0]; · iexact Sm0
      isplitl [Sm1]; · iexact Sm1
      iexact Sm2
    isplitl [Sa0]; · iexact Sa0
    isplitl [Sa1]; · iexact Sa1
    iexact Sa2
  isplitl [Rr0 Rr1 Rr2]
  · isplitl [Rr0]; · iexact Rr0
    isplitl [Rr1]; · iexact Rr1
    iexact Rr2
  isplitl [Rm0 Rm1 Rm2]
  · isplitl [Rm0]; · iexact Rm0
    isplitl [Rm1]; · iexact Rm1
    iexact Rm2
  isplitl [Ra0]; · iexact Ra0
  isplitl [Ra1]; · iexact Ra1
  iexact Ra2

end Cert.KernelIdeal.Gen
-- ==== Proof.Pieces.lean ====
/-
  The buffers cut into the pieces that the body works on, and put together again.
-/
module

public import proofs.«01_k».proof.Proof.Device

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### Cutting a buffer -/

section Cut
variable {ℓ : Loc nD τ sig} {I : Type} [Fintype I] [DecidableEq I] (S : I → Finset (Idx ℓ)) (g : Idx ℓ → I) (h : ∀ x i, x ∈ S i ↔ g x = i)
include h

omit [FloatOps F] in
/-- A buffer whose elements are each in one piece is its pieces. -/
theorem cut (f : Buf (Elt F) ℓ) : (ℓ ↦[Finset.univ]{fullShare} f : sProp 𝕄) = bigSep Finset.univ fun i => ℓ ↦[S i]{fullShare} f := by
  rw [← pointsTo_biUnion Finset.univ S fun i _ j _ hij => Finset.disjoint_left.mpr fun x hi hj => hij (((h x i).mp hi).symm.trans ((h x j).mp hj)),
    show Finset.univ.biUnion S = Finset.univ from Finset.eq_univ_iff_forall.mpr fun x => Finset.mem_biUnion.mpr ⟨g x, Finset.mem_univ _, (h x _).mpr rfl⟩]

omit [FloatOps F] in
/-- Pieces that hold anything make a buffer that holds something. -/
theorem glue (f₀ : Buf (Elt F) ℓ) : (bigSep Finset.univ fun i => iprop(∃ f : Buf (Elt F) ℓ, ℓ ↦[S i]{fullShare} f) : sProp 𝕄)
    ⊢ iprop(∃ f : Buf (Elt F) ℓ, ℓ ↦[Finset.univ]{fullShare} f) := by
  iintro H
  haveI : Nonempty (Buf (Elt F) ℓ) := ⟨f₀⟩
  ihave H := (BI.bigSep_exists_pi Finset.univ (fun (i : I) (f : Buf (Elt F) ℓ) => (ℓ ↦[S i]{fullShare} f : sProp 𝕄))) $$ H
  icases H with ⟨%fs, H⟩
  ihave H := (pointsTo_biUnion_join Finset.univ S fs f₀ fun i _ j _ hij => Finset.disjoint_left.mpr fun x hi hj => hij (((h x i).mp hi).symm.trans ((h x j).mp hj))) $$ H
  icases H with ⟨%f, -, H⟩
  iexists f
  rw [show Finset.univ.biUnion S = Finset.univ from Finset.eq_univ_iff_forall.mpr fun x => Finset.mem_biUnion.mpr ⟨g x, Finset.mem_univ _, (h x _).mpr rfl⟩]
  iexact H
end Cut

/-- The devices in the order of the ring from `c`. -/
def rot (r : ℕ) : Fin 4 ≃ Fin 4 where
  toFun c := ch c r
  invFun c := ch c (4 - r % 4)
  left_inv c := Fin.ext (by have := c.isLt; show ((c.val + r) % 4 + (4 - r % 4)) % 4 = c.val; omega)
  right_inv c := Fin.ext (by have := c.isLt; show ((c.val + (4 - r % 4)) % 4 + r) % 4 = c.val; omega)
/-- The chunks in the order of the ring from `c`. -/
def around (c : Fin 4) : Fin 4 ≃ Fin 4 where
  toFun r := ch c r.val
  invFun j := ch j (4 - c.val)
  left_inv r := Fin.ext (by have := c.isLt; have := r.isLt; show ((c.val + r.val) % 4 + (4 - c.val)) % 4 = r.val; omega)
  right_inv j := Fin.ext (by have := c.isLt; have := j.isLt; show (c.val + (j.val + (4 - c.val)) % 4) % 4 = j.val; omega)

omit [FloatOps F] in
/-- A product over three, written out. -/
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
/-- A product over four, written out. -/
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A thing for each chunk, in the order of the ring. -/
theorem bigSep_ring (c : Fin 4) (Φ : Fin 4 → sProp 𝕄) : bigSep Finset.univ Φ = iprop(Φ (ch c 0) ∗ Φ (ch c 1) ∗ Φ (ch c 2) ∗ Φ (ch c 3)) := by
  rw [bigSep_univ_equiv (around c), bigSep_fin4]; rfl

/-! ### The result -/

/-- The four tiles of half a chunk of the result at `f`. -/
def t4 (c : Dev nD) (f : Buf (Elt F) ((c : Thread nD τ).loc main_v1_0)) (j : Fin 4) (d : Fin 2) : sProp 𝕄 :=
  iprop((pt (F := F) c (oT j 0 0 d) fullShare f ∗ pt c (oT j 0 1 d) fullShare f) ∗ (pt c (oT j 1 0 d) fullShare f ∗ pt c (oT j 1 1 d) fullShare f))

omit [FloatOps F] in
/-- The places of a tile of the result. -/
theorem oT_set (j : Fin 4) (k t d : Fin 2) :
    (oT j k t d).view.set = bx (1024 * j.val + 512 * k.val + 256 * t.val) (1024 * j.val + 512 * k.val + 256 * t.val + 256) (4096 * d.val) (4096 * d.val + 4096) := by
  show ((View.whole main_v1_0).slice _).set = _
  rw [View.set_slice_whole]; exact unit_bx rfl _

/-- The tile that an element of the result is in. -/
def oAt (x : (⟨2, ![4096, 8192]⟩ : Shape).Idx) : Fin 2 × Fin 4 × Fin 2 × Fin 2 :=
  (⟨(x 1).val / 4096, by have : (x 1).val < 8192 := (x 1).isLt; omega⟩, ⟨(x 0).val / 1024, by have : (x 0).val < 4096 := (x 0).isLt; omega⟩,
    ⟨(x 0).val / 512 % 2, by omega⟩, ⟨(x 0).val / 256 % 2, by omega⟩)

omit [FloatOps F] in
/-- The result is its tiles. -/
theorem out_cut (c : Dev nD) (f : Buf (Elt F) ((c : Thread nD τ).loc main_v1_0)) :
    (whl c main_v1_0 fullShare f : sProp 𝕄) = iprop((t4 c f (ch c 0) 0 ∗ t4 c f (ch c 1) 0 ∗ t4 c f (ch c 2) 0 ∗ t4 c f (ch c 3) 0)
      ∗ (t4 c f (ch c 0) 1 ∗ t4 c f (ch c 1) 1 ∗ t4 c f (ch c 2) 1 ∗ t4 c f (ch c 3) 1)) := by
  rw [show (whl c main_v1_0 fullShare f : sProp 𝕄) = _ from cut (F := F) (ℓ := (c : Thread nD τ).loc main_v1_0)
    (fun p : Fin 2 × Fin 4 × Fin 2 × Fin 2 => (oT p.2.1 p.2.2.1 p.2.2.2 p.1).view.set) oAt (fun x ⟨d, j, k, t⟩ => by
      show x ∈ (oT j k t d).view.set ↔ _
      rw [oT_set, mem_bx]
      unfold oAt
      rw [Prod.mk.injEq, Prod.mk.injEq, Prod.mk.injEq, Fin.ext_iff, Fin.ext_iff, Fin.ext_iff, Fin.ext_iff]
      have := j.isLt; have := k.isLt; have := t.isLt; have := d.isLt
      dsimp only
      omega) f]
  have e : ∀ d : Fin 2, (bigSep Finset.univ fun p : Fin 4 × Fin 2 × Fin 2 => pt (F := F) c (oT p.1 p.2.1 p.2.2 d) fullShare f)
      = iprop(t4 c f (ch c 0) d ∗ t4 c f (ch c 1) d ∗ t4 c f (ch c 2) d ∗ t4 c f (ch c 3) d) := fun d => by
    rw [bigSep_univ_prod, bigSep_ring c]
    have e' : ∀ j : Fin 4, (bigSep Finset.univ fun p : Fin 2 × Fin 2 => pt (F := F) c (oT j p.1 p.2 d) fullShare f) = t4 c f j d := fun j => by
      rw [bigSep_univ_prod, bigSep_univ_two, bigSep_univ_two, bigSep_univ_two]; rfl
    rw [← e', ← e', ← e', ← e']
  rw [← e, ← e, bigSep_univ_prod, bigSep_univ_two]

omit [FloatOps F] in
/-- Four tiles with known contents are four tiles. -/
theorem t4_any (c : Dev nD) (f : Buf (Elt F) ((c : Thread nD τ).loc main_v1_0)) (j : Fin 4) (d : Fin 2) : (t4 (F := F) c f j d) ⊢ oa4 c j d := by
  unfold t4 oa4 oa
  iintro ⟨⟨H₀, H₁⟩, ⟨H₂, H₃⟩⟩
  isplitl [H₀ H₁]
  · isplitl [H₀]; · iexists f; iexact H₀
    iexists f; iexact H₁
  isplitl [H₂]; · iexists f; iexact H₂
  iexists f; iexact H₃

/-! ### The sums -/

/-- The half-chunk that an element of the sums is in. -/
def cAt (x : (⟨2, ![4096, 8192]⟩ : Shape).Idx) : Fin 4 × Fin 2 :=
  (⟨(x 0).val / 1024, by have : (x 0).val < 4096 := (x 0).isLt; omega⟩, ⟨(x 1).val / 4096, by have : (x 1).val < 8192 := (x 1).isLt; omega⟩)

omit [FloatOps F] in
/-- The buffer of sums is its half-chunks. -/
theorem acc_cut (c : Dev nD) (f : Buf (Elt F) ((c : Thread nD τ).loc main_v1_1)) :
    (whl c main_v1_1 fullShare f : sProp 𝕄) = iprop((hb c (ch c 0) 0 f ∗ hb c (ch c 0) 1 f) ∗ (hb c (ch c 1) 0 f ∗ hb c (ch c 1) 1 f)
      ∗ (hb c (ch c 2) 0 f ∗ hb c (ch c 2) 1 f) ∗ (hb c (ch c 3) 0 f ∗ hb c (ch c 3) 1 f)) := by
  rw [show (whl c main_v1_1 fullShare f : sProp 𝕄) = _ from cut (F := F) (ℓ := (c : Thread nD τ).loc main_v1_1)
    (fun p : Fin 4 × Fin 2 => (bx (1024 * p.1.val) (1024 * p.1.val + 1024) (4096 * p.2.val) (4096 * p.2.val + 4096) : Finset (⟨2, ![4096, 8192]⟩ : Shape).Idx)) cAt (fun x ⟨j, d⟩ => by
      show x ∈ (bx (1024 * j.val) (1024 * j.val + 1024) (4096 * d.val) (4096 * d.val + 4096) : Finset (⟨2, ![4096, 8192]⟩ : Shape).Idx) ↔ _
      rw [mem_bx]
      unfold cAt
      rw [Prod.mk.injEq, Fin.ext_iff, Fin.ext_iff]
      have := j.isLt; have := d.isLt
      dsimp only
      omega) f]
  have e : ∀ j : Fin 4, (bigSep Finset.univ fun d : Fin 2 => hb (F := F) c j d f) = iprop(hb c j 0 f ∗ hb c j 1 f) := fun j => by rw [bigSep_univ_two]
  rw [← e, ← e, ← e, ← e, ← bigSep_ring c (fun j => bigSep Finset.univ fun d : Fin 2 => hb (F := F) c j d f), bigSep_univ_prod]
  rfl

/-! ### The receive buffers -/

/-- The piece that an element of a receive buffer is in. -/
def sAt (x : (⟨3, ![3, 1024, 8192]⟩ : Shape).Idx) : Fin 2 × Fin 3 × Fin 2 :=
  (⟨(x 2).val / 4096, by have : (x 2).val < 8192 := (x 2).isLt; omega⟩, ⟨(x 0).val, (x 0).isLt⟩, ⟨(x 1).val / 512, by have : (x 1).val < 1024 := (x 1).isLt; omega⟩)

omit [FloatOps F] in
/-- The sub-chunk of a receive buffer in which a place lies. -/
theorem sAt_iff (x : (⟨3, ![3, 1024, 8192]⟩ : Shape).Idx) (d : Fin 2) (s : Fin 3) (k : Fin 2) :
    x ∈ (bx3 s.val (512 * k.val) (512 * k.val + 512) (4096 * d.val) (4096 * d.val + 4096) : Finset (⟨3, ![3, 1024, 8192]⟩ : Shape).Idx) ↔ sAt x = (d, s, k) := by
  rw [mem_bx3]
  unfold sAt
  rw [Prod.mk.injEq, Prod.mk.injEq, Fin.ext_iff, Fin.ext_iff, Fin.ext_iff]
  have := d.isLt; have := k.isLt
  dsimp only
  omega

/-- The places for half `d` of a kind of transfer. -/
def six (c : Dev nD) (x : Fin 3 → Fin 2 → Xf) : sProp 𝕄 :=
  iprop((slot (F := F) c (x 0 0) ∗ slot c (x 0 1)) ∗ (slot c (x 1 0) ∗ slot c (x 1 1)) ∗ (slot c (x 2 0) ∗ slot c (x 2 1)))

omit [FloatOps F] in
/-- The six slots of a half, written out. -/
theorem six_eq (c : Dev nD) (x : Fin 3 → Fin 2 → Xf) : (bigSep Finset.univ fun p : Fin 3 × Fin 2 => slot (F := F) c (x p.1 p.2)) = six c x := by
  rw [bigSep_univ_prod, bigSep_fin3, bigSep_univ_two, bigSep_univ_two, bigSep_univ_two]; rfl

omit [FloatOps F] in
/-- The sums received: the buffer is the places. -/
theorem rs_cut (c : Dev nD) (f : Buf (Elt F) ((c : Thread nD τ).loc main_v1_2)) :
    (whl c main_v1_2 fullShare f : sProp 𝕄) ⊢ iprop(six c (fun s k => .rs s k 0) ∗ six c (fun s k => .rs s k 1)) := by
  rw [show (whl c main_v1_2 fullShare f : sProp 𝕄) = _ from cut (F := F) (ℓ := (c : Thread nD τ).loc main_v1_2)
    (fun p : Fin 2 × Fin 3 × Fin 2 => (rV p.2.1 p.2.2 p.1).view.set) sAt (fun x ⟨d, s, k⟩ => by
      show x ∈ (rV s k d).view.set ↔ _
      rw [rV_set]; exact sAt_iff x d s k) f, bigSep_univ_prod, bigSep_univ_two, ← six_eq, ← six_eq]
  have e : ∀ p : Fin 2 × Fin 3 × Fin 2, (pt (F := F) c (rV p.2.1 p.2.2 p.1) fullShare f) ⊢ slot c (.rs p.2.1 p.2.2 p.1) := fun p => by
    show _ ⊢ iprop(∃ f, pt (F := F) c (rV p.2.1 p.2.2 p.1) fullShare f)
    iintro H; iexists f; iexact H
  exact Laws.sep_mono (bigSep_mono fun p _ => e (0, p)) (bigSep_mono fun p _ => e (1, p))

omit [FloatOps F] in
/-- The integers received: the buffer is the places. -/
theorem ag_cut (c : Dev nD) (f : Buf (Elt F) ((c : Thread nD τ).loc main_v1_3)) :
    (whl c main_v1_3 fullShare f : sProp 𝕄) ⊢ iprop(six c (fun s k => .ag s k 0) ∗ six c (fun s k => .ag s k 1)) := by
  rw [show (whl c main_v1_3 fullShare f : sProp 𝕄) = _ from cut (F := F) (ℓ := (c : Thread nD τ).loc main_v1_3)
    (fun p : Fin 2 × Fin 3 × Fin 2 => (aV p.2.1 p.2.2 p.1).view.set) sAt (fun x ⟨d, s, k⟩ => by
      show x ∈ (aV s k d).view.set ↔ _
      rw [aV_set]; exact sAt_iff x d s k) f, bigSep_univ_prod, bigSep_univ_two, ← six_eq, ← six_eq]
  have e : ∀ p : Fin 2 × Fin 3 × Fin 2, (pt (F := F) c (aV p.2.1 p.2.2 p.1) fullShare f) ⊢ slot c (.ag p.2.1 p.2.2 p.1) := fun p => by
    show _ ⊢ iprop(∃ f, pt (F := F) c (aV p.2.1 p.2.2 p.1) fullShare f)
    iintro H; iexists f; iexact H
  exact Laws.sep_mono (bigSep_mono fun p _ => e (0, p)) (bigSep_mono fun p _ => e (1, p))

omit [FloatOps F] in
/-- The slots of one half, those of both phases together. -/
theorem slotsD_of (c : Dev nD) (d : Fin 2) : iprop(six (F := F) c (fun s k => .rs s k d) ∗ six c (fun s k => .ag s k d)) ⊢ slotsD c d := by
  unfold six slotsD
  iintro ⟨⟨⟨R00, R01⟩, ⟨R10, R11⟩, ⟨R20, R21⟩⟩, ⟨⟨A00, A01⟩, ⟨A10, A11⟩, ⟨A20, A21⟩⟩⟩
  isplitl [R00]; · iexact R00
  isplitl [R01]; · iexact R01
  isplitl [R10]; · iexact R10
  isplitl [R11]; · iexact R11
  isplitl [R20]; · iexact R20
  isplitl [R21]; · iexact R21
  isplitl [A00]; · iexact A00
  isplitl [A01]; · iexact A01
  isplitl [A10]; · iexact A10
  isplitl [A11]; · iexact A11
  isplitl [A20]; · iexact A20
  iexact A21

/-! ### The maxima received -/

omit [FloatOps F] in
/-- The slot of the maxima in which a place lies. -/
theorem mCut (x : (⟨3, ![4, 8, 128]⟩ : Shape).Idx) (i : Fin 4) :
    x ∈ (bx3 i.val 0 8 0 128 : Finset (⟨3, ![4, 8, 128]⟩ : Shape).Idx) ↔ (⟨(x 0).val, (x 0).isLt⟩ : Fin 4) = i := by
  rw [mem_bx3, Fin.ext_iff]
  have h₁ : (x 1).val < 8 := (x 1).isLt
  have h₂ : (x 2).val < 128 := (x 2).isLt
  dsimp only
  omega

/-- The slot that nothing is sent to. -/
def mIdle (c : Dev nD) : sProp 𝕄 :=
  iprop(∃ f : Buf (Elt F) ((c : Thread nD τ).loc cc0_scratch12), ((c : Thread nD τ).loc cc0_scratch12) ↦[(bx3 0 0 8 0 128 : Finset (⟨3, ![4, 8, 128]⟩ : Shape).Idx)]{fullShare} f)

omit [FloatOps F] in
/-- A slot of the maxima, with whatever it holds. -/
theorem mPt (c : Dev nD) (i : Fin 3) : (iprop(∃ f : Buf (Elt F) ((c : Thread nD τ).loc cc0_scratch12),
    ((c : Thread nD τ).loc cc0_scratch12) ↦[(bx3 (i.val + 1) 0 8 0 128 : Finset (⟨3, ![4, 8, 128]⟩ : Shape).Idx)]{fullShare} f) : sProp 𝕄) = pa c (mV i) := by
  rw [← mV_set]

omit [FloatOps F] in
/-- The buffer of the maxima is cut into its slots. -/
theorem max_cut (c : Dev nD) (f : Buf (Elt F) ((c : Thread nD τ).loc cc0_scratch12)) :
    (whl c cc0_scratch12 fullShare f : sProp 𝕄) ⊢ iprop(mIdle c ∗ pa c (mV 0) ∗ pa c (mV 1) ∗ pa c (mV 2)) := by
  rw [show (whl c cc0_scratch12 fullShare f : sProp 𝕄) = _ from cut (F := F) (ℓ := (c : Thread nD τ).loc cc0_scratch12)
    (fun i : Fin 4 => (bx3 i.val 0 8 0 128 : Finset (⟨3, ![4, 8, 128]⟩ : Shape).Idx)) (fun x => ⟨(x 0).val, (x 0).isLt⟩) mCut f, bigSep_fin4, ← mPt, ← mPt, ← mPt]
  unfold mIdle
  iintro ⟨H₀, H₁, H₂, H₃⟩
  isplitl [H₀]; · iexists f; iexact H₀
  isplitl [H₁]; · iexists f; iexact H₁
  isplitl [H₂]; · iexists f; iexact H₂
  iexists f; iexact H₃

/-- The slots of the maxima make the buffer again. -/
theorem max_glue (c : Dev nD) (f₀ : Buf (Elt F) ((c : Thread nD τ).loc cc0_scratch12)) : iprop(mIdle c ∗ pa c (mV 0) ∗ pa c (mV 1) ∗ pa c (mV 2)) ⊢ (iprop(∃ f, whl c cc0_scratch12 fullShare f) : sProp 𝕄) := by
  refine BIBase.Entails.trans ?_ (glue (F := F) (ℓ := (c : Thread nD τ).loc cc0_scratch12)
    (fun i : Fin 4 => (bx3 i.val 0 8 0 128 : Finset (⟨3, ![4, 8, 128]⟩ : Shape).Idx)) (fun x => ⟨(x 0).val, (x 0).isLt⟩) mCut f₀)
  rw [bigSep_fin4, ← mPt, ← mPt, ← mPt]
  unfold mIdle
  exact Entails.refl _

/-! ### The quantised chunks -/

omit [FloatOps F] in
/-- The half of the integers in which a place lies. -/
theorem qAt_iff (x : (⟨2, ![1024, 4096]⟩ : Shape).Idx) (k : Fin 2) :
    x ∈ (bx (512 * k.val) (512 * k.val + 512) 0 (0 + 4096) : Finset (⟨2, ![1024, 4096]⟩ : Shape).Idx)
      ↔ (⟨(x 0).val / 512, by have : (x 0).val < 1024 := (x 0).isLt; omega⟩ : Fin 2) = k := by
  rw [mem_bx, Fin.ext_iff]
  have h₁ : (x 1).val < 4096 := (x 1).isLt
  dsimp only
  omega

/-- The low integers are cut into halves. -/
theorem qL_cut (c : Dev nD) (f : Buf (Elt F) ((c : Thread nD τ).loc cc0_scratch9)) : (whl c cc0_scratch9 fullShare f : sProp 𝕄) ⊢ qa c bQL := by
  rw [show (whl c cc0_scratch9 fullShare f : sProp 𝕄) = _ from cut (F := F) (ℓ := (c : Thread nD τ).loc cc0_scratch9) (fun k : Fin 2 => (qLV k).view.set)
    (fun x => ⟨(x 0).val / 512, by have : (x 0).val < 1024 := (x 0).isLt; omega⟩) (fun x k => by rw [qLh_set]; exact qAt_iff x k) f, bigSep_univ_two]
  iintro ⟨H₀, H₁⟩
  ihave H₀ := (qL_split c 0 f).1 $$ H₀
  icases H₀ with ⟨H₀, H₁'⟩
  ihave H₁ := (qL_split c 1 f).1 $$ H₁
  icases H₁ with ⟨H₂, H₃⟩
  unfold qa
  isplitl [H₀]; · iexists f; iexact H₀
  isplitl [H₁']; · iexists f; iexact H₁'
  isplitl [H₂]; · iexists f; iexact H₂
  iexists f; iexact H₃

/-- The halves of the low integers make the buffer again. -/
theorem qL_glue (c : Dev nD) (f₀ : Buf (Elt F) ((c : Thread nD τ).loc cc0_scratch9)) : iprop(pa c (qLV 0) ∗ pa c (qLV 1)) ⊢ (iprop(∃ f, whl c cc0_scratch9 fullShare f) : sProp 𝕄) := by
  refine BIBase.Entails.trans ?_ (glue (F := F) (ℓ := (c : Thread nD τ).loc cc0_scratch9) (fun k : Fin 2 => (qLV k).view.set)
    (fun x => ⟨(x 0).val / 512, by have : (x 0).val < 1024 := (x 0).isLt; omega⟩) (fun x k => by rw [qLh_set]; exact qAt_iff x k) f₀)
  rw [bigSep_univ_two]

/-- The high integers are cut into halves. -/
theorem qH_cut (c : Dev nD) (f : Buf (Elt F) ((c : Thread nD τ).loc cc0_scratch10)) : (whl c cc0_scratch10 fullShare f : sProp 𝕄) ⊢ qa c bQH := by
  rw [show (whl c cc0_scratch10 fullShare f : sProp 𝕄) = _ from cut (F := F) (ℓ := (c : Thread nD τ).loc cc0_scratch10) (fun k : Fin 2 => (qHV k).view.set)
    (fun x => ⟨(x 0).val / 512, by have : (x 0).val < 1024 := (x 0).isLt; omega⟩) (fun x k => by rw [qHh_set]; exact qAt_iff x k) f, bigSep_univ_two]
  iintro ⟨H₀, H₁⟩
  ihave H₀ := (qH_split c 0 f).1 $$ H₀
  icases H₀ with ⟨H₀, H₁'⟩
  ihave H₁ := (qH_split c 1 f).1 $$ H₁
  icases H₁ with ⟨H₂, H₃⟩
  unfold qa
  isplitl [H₀]; · iexists f; iexact H₀
  isplitl [H₁']; · iexists f; iexact H₁'
  isplitl [H₂]; · iexists f; iexact H₂
  iexists f; iexact H₃

/-- The halves of the high integers make the buffer again. -/
theorem qH_glue (c : Dev nD) (f₀ : Buf (Elt F) ((c : Thread nD τ).loc cc0_scratch10)) : iprop(pa c (qHV 0) ∗ pa c (qHV 1)) ⊢ (iprop(∃ f, whl c cc0_scratch10 fullShare f) : sProp 𝕄) := by
  refine BIBase.Entails.trans ?_ (glue (F := F) (ℓ := (c : Thread nD τ).loc cc0_scratch10) (fun k : Fin 2 => (qHV k).view.set)
    (fun x => ⟨(x 0).val / 512, by have : (x 0).val < 1024 := (x 0).isLt; omega⟩) (fun x k => by rw [qHh_set]; exact qAt_iff x k) f₀)
  rw [bigSep_univ_two]

/-! ### Whole buffers -/

omit [FloatOps F] in
/-- A whole buffer, as the memref of it sees it. -/
theorem pa_whole (c : Dev nD) (b : Ref sig .tc) :
    (iprop(∃ f : Buf (Elt F) ((c : Thread nD τ).loc b), ((c : Thread nD τ).loc b) ↦{fullShare} f) : sProp 𝕄) = pa c (Memref.whole b) := by
  show _ = iprop(∃ f : Buf (Elt F) ((c : Thread nD τ).loc b), ((c : Thread nD τ).loc b) ↦[(View.whole b).set]{fullShare} f)
  rw [View.set_whole]

end Cert.KernelIdeal.Gen
-- ==== Proof.Ghost.lean ====
/-
  What the launch deals the devices: the cells, the duty tokens, the credits.
-/
module

public import proofs.«01_k».proof.Proof.Pieces

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### Lists of cells -/

omit [FloatOps F] in
/-- A product over the two truth values, written out. -/
theorem bigSep_bool (Φ : Bool → sProp 𝕄) : bigSep Finset.univ Φ = iprop(Φ false ∗ Φ true) := bigSep_univ_eq_bigSepL [false, true] (by decide) (by decide) Φ

omit [FloatOps F] in
/-- A thing for each send and each arrival. -/
theorem bigSep_ends (Φ : Xf × Bool → sProp 𝕄) :
    bigSep Finset.univ Φ = iprop((bigSep Finset.univ fun x => Φ (x, false)) ∗ (bigSep Finset.univ fun x => Φ (x, true))) := by
  rw [bigSep_univ_equiv (Equiv.prodComm Bool Xf) Φ, bigSep_univ_prod, bigSep_bool]; rfl

omit [FloatOps F] in
/-- A thing for each cell of a device: its barrier, its sends, its arrivals. -/
theorem bigSep_cells (Φ : Option (Xf × Bool) → sProp 𝕄) :
    bigSep Finset.univ Φ = iprop((Φ none ∗ bigSep Finset.univ fun x => Φ (some (x, false))) ∗ (bigSep Finset.univ fun x => Φ (some (x, true)))) := by
  rw [bigSep_univ_equiv (Equiv.optionEquivSumPUnit.{0} (Xf × Bool)).symm Φ, bigSep_univ_sum, bigSep_univ_of_subsingleton PUnit.unit.{1}]
  rw [show (bigSep Finset.univ fun a => Φ ((Equiv.optionEquivSumPUnit.{0} (Xf × Bool)).symm (Sum.inl a))) = _ from bigSep_ends fun p => Φ (some p)]
  show iprop(((bigSep Finset.univ fun x => Φ (some (x, false))) ∗ (bigSep Finset.univ fun x => Φ (some (x, true)))) ∗ Φ none) = _
  have h₁ : iprop(((bigSep Finset.univ fun x => Φ (some (x, false))) ∗ (bigSep Finset.univ fun x => Φ (some (x, true)))) ∗ Φ none)
      ⊢ iprop((Φ none ∗ bigSep Finset.univ fun x => Φ (some (x, false))) ∗ (bigSep Finset.univ fun x => Φ (some (x, true)))) := by
    iintro ⟨⟨HS, HR⟩, HB⟩
    isplitl [HB HS]
    · isplitl [HB]; · iexact HB
      iexact HS
    iexact HR
  have h₂ : iprop((Φ none ∗ bigSep Finset.univ fun x => Φ (some (x, false))) ∗ (bigSep Finset.univ fun x => Φ (some (x, true))))
      ⊢ iprop(((bigSep Finset.univ fun x => Φ (some (x, false))) ∗ (bigSep Finset.univ fun x => Φ (some (x, true)))) ∗ Φ none) := by
    iintro ⟨⟨HB, HS⟩, HR⟩
    isplitl [HS HR]
    · isplitl [HS]; · iexact HS
      iexact HR
    iexact HB
  exact equiv_iff.mp ⟨h₁, h₂⟩

/-! ### Cells and tokens -/

/-- A barrier semaphore is no copy's semaphore. -/
theorem reg_ne {a : Sem sig} {b : DmaSem sig} : (SemLoc.reg a : SemLoc sig) ≠ .dma b := fun h => by cases h

/-- Different cells of a device have different semaphores. -/
theorem csem_inj : Function.Injective csem := by
  rintro (_ | ⟨x, _ | _⟩) (_ | ⟨y, _ | _⟩) h
  · rfl
  · exact absurd h reg_ne
  · exact absurd h reg_ne
  · exact absurd h.symm reg_ne
  · rw [sS_inj (SemLoc.dma.inj h)]
  · exact absurd (SemLoc.dma.inj h) sS_ne_sR
  · exact absurd h.symm reg_ne
  · exact absurd (SemLoc.dma.inj h).symm sS_ne_sR
  · rw [sR_inj (SemLoc.dma.inj h)]

/-- Different cells are different. -/
theorem kcell_inj : Function.Injective kcell := by
  rintro ⟨c, k⟩ ⟨c', k'⟩ h
  have h₁ : c = c' := congrArg (fun g : GSem nD τ sig => g.1.1) h
  have h₂ : k = k' := csem_inj (congrArg Prod.snd h)
  rw [h₁, h₂]
/-- All the cells. -/
def allCells : Finset (GSem nD τ sig) := Finset.univ.map ⟨kcell, kcell_inj⟩

/-- A token of a device's own cells: the two of its barrier, and one of each send and arrival. -/
def tok (ck : Dev nD × (Bool ⊕ (Xf × Bool))) : GSem nD τ sig × ℕ × Bool :=
  match ck.2 with
  | .inl b => (gB ck.1, 0, b)
  | .inr p => (kcell (ck.1, some p), 0, false)
/-- Different duties have different tokens. -/
theorem tok_inj : Function.Injective tok := by
  rintro ⟨c, k⟩ ⟨c', k'⟩ h
  have h₁ : c = c' := by
    have := congrArg (fun x : GSem nD τ sig × ℕ × Bool => x.1.1.1) h
    rcases k with _ | _ <;> rcases k' with _ | _ <;> exact this
  subst h₁
  have h₂ : k = k' := by
    rcases k with b | p <;> rcases k' with b' | p'
    · exact congrArg Sum.inl (congrArg (fun x : GSem nD τ sig × ℕ × Bool => x.2.2) h)
    · exact absurd (@csem_inj none (some p') (congrArg (fun x : GSem nD τ sig × ℕ × Bool => x.1.2) h)) (Option.some_ne_none p').symm
    · exact absurd (@csem_inj (some p) none (congrArg (fun x : GSem nD τ sig × ℕ × Bool => x.1.2) h)) (Option.some_ne_none p)
    · exact congrArg Sum.inr (Option.some.inj (@csem_inj (some p) (some p') (congrArg (fun x : GSem nD τ sig × ℕ × Bool => x.1.2) h)))
  rw [h₂]
/-- All the tokens. -/
def allToks : Finset (GSem nD τ sig × ℕ × Bool) := Finset.univ.map ⟨tok, tok_inj⟩

/-- The ghost state at the launch. -/
def u₀ : UU := (initOf (Pipeline.cells cfgs cellOf_inj) (Pipeline.launchToks cfgs cellOf_inj), (initOf allCells allToks, (1 : Counters)))

/-- The tokens of a device's own cells. -/
def ownToks (c : Dev nD) : sProp 𝕄 :=
  iprop((dutyTok ER (gB c) 0 false ∗ dutyTok ER (gB c) 0 true)
    ∗ (bigSep Finset.univ fun x : Xf => dutyTok ER (gS c x) 0 false) ∗ (bigSep Finset.univ fun x : Xf => dutyTok ER (gR c x) 0 false))

/-- The tokens a device pays with. -/
def payToks (c : Dev nD) : sProp 𝕄 :=
  iprop((dutyTok ER (gB (ch c 3)) 0 false ∗ dutyTok ER (gB (ch c 1)) 0 true)
    ∗ (bigSep Finset.univ fun x : Xf => dutyTok ER (gS c x) 0 false) ∗ (bigSep Finset.univ fun x : Xf => dutyTok ER (gR (ch c (hp x)) x) 0 false))

/-- What the launch deals a device. -/
def deal (c : Dev nD) : sProp 𝕄 :=
  iprop((bigSep Finset.univ fun k => roundState ER (Rd m) (kcell (c, k)) 0)
    ∗ (bigSep Finset.univ fun k => iprop(atPos ER (kcell (c, k)) 0 ∅ 0 ∗ reached ER (kcell (c, k)) 0)) ∗ ownToks c)

omit [FloatOps F] in
/-- The tokens dealt to a device are its own. -/
theorem toks_own (c : Dev nD) :
    (bigSep Finset.univ fun k => dutyTok ER (tok (c, k)).1 (tok (c, k)).2.1 (tok (c, k)).2.2 : sProp 𝕄) = ownToks c := by
  rw [bigSep_univ_sum, bigSep_bool, bigSep_ends]; rfl

/-- The launch's ghost state is what it deals. -/
theorem fund_deal : BI.own (ER (initOf allCells allToks)) ⊢ (|==> bigSep Finset.univ (deal m) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => toks_own c
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold deal; simp only [bigSep_sep']
  isplitl [Hst]; · iexact Hst
  isplitl [Hat Hr]
  · isplitl [Hat]; · iexact Hat
    iexact Hr
  iexact Htok

omit [FloatOps F] in
/-- The tokens go to the devices that pay with them. -/
theorem toks_around : (bigSep Finset.univ fun c : Dev nD => (ownToks c : sProp 𝕄)) ⊢ bigSep Finset.univ fun c : Dev nD => payToks c := by
  unfold ownToks payToks
  simp only [bigSep_sep']
  have hR : (bigSep Finset.univ fun c : Dev nD => bigSep Finset.univ fun x : Xf => (dutyTok ER (gR c x) 0 false : sProp 𝕄))
      = bigSep Finset.univ fun c : Dev nD => bigSep Finset.univ fun x : Xf => dutyTok ER (gR (ch c (hp x)) x) 0 false := by
    rw [Pipeline.bigSep_univ_comm, Pipeline.bigSep_univ_comm (fun (c : Dev nD) (x : Xf) => (dutyTok ER (gR (ch c (hp x)) x) 0 false : sProp 𝕄))]
    exact bigSep_congr fun x _ => bigSep_univ_equiv (rot (hp x)) fun c : Dev nD => (dutyTok ER (gR c x) 0 false : sProp 𝕄)
  rw [hR, bigSep_univ_equiv (rot 3) (fun c : Dev nD => (dutyTok ER (gB c) 0 false : sProp 𝕄)),
    bigSep_univ_equiv (rot 1) (fun c : Dev nD => (dutyTok ER (gB c) 0 true : sProp 𝕄))]
  exact Entails.refl _

/-! ### The semaphores -/

/-- The kernel's own semaphores: those of the transfers, and the eight of the device's own copies. -/
def osem : (Xf × Bool) ⊕ Fin 8 → SemLoc sig
  | .inl p => csem (some p)
  | .inr i => .dma (lsem i)

/-- The kernel's own semaphores are listed, each once. -/
theorem ownSemFacts : Pipeline.OwnSemFacts cfg0.spec osem where
  isScoped := by decide +kernel
  inj := by decide +kernel
  disj := by decide +kernel

omit [FloatOps F] in
/-- The kernel's own semaphores at zero: two for each transfer, and the eight of the local copies. -/
theorem ownSems0_eq (c : Dev nD) : (Pipeline.ownSems0 (Ix := Unit) (Name := ℕ) (U := UU) (Lvl := ℕ) (Val := Elt F) (τ := τ) osem c : sProp 𝕄)
    = iprop(((bigSep Finset.univ fun x => semVal (gS c x) 0) ∗ (bigSep Finset.univ fun x => semVal (gR c x) 0)) ∗ bigSep Finset.univ fun i => sv c i) := by
  unfold Pipeline.ownSems0
  rw [bigSep_univ_sum, bigSep_ends]; rfl
omit [FloatOps F] in
/-- The one other semaphore is the barrier's. -/
theorem unscopedSems0_eq (c : Dev nD) : (unscopedSems0 c : sProp 𝕄) = semVal (gB c) 0 := by
  unfold unscopedSems0; rw [bigSep_eq_bigSepL_of_eq [SemLoc.reg barS] (by decide +kernel) (by decide +kernel)]; rfl

omit [FloatOps F] in
/-- The semaphores at zero are the cells' counters and the local copies'. -/
theorem sems_cells (c : Dev nD) :
    iprop(Pipeline.ownSems0 (Ix := Unit) (Name := ℕ) (U := UU) (Lvl := ℕ) (Val := Elt F) (τ := τ) osem c ∗ unscopedSems0 c)
      ⊢ (iprop((bigSep Finset.univ fun k => semVal (kcell (c, k)) 0) ∗ bigSep Finset.univ fun i => sv c i) : sProp 𝕄) := by
  rw [ownSems0_eq, unscopedSems0_eq, bigSep_cells]
  iintro ⟨⟨⟨HS, HR⟩, Hl⟩, HB⟩
  isplitr [Hl]
  · isplitr [HR]
    · isplitl [HB]; · iexact HB
      iexact HS
    iexact HR
  iexact Hl

/-- Each cell's state goes into its invariant. -/
theorem cells_alloc (c : Dev nD) :
    iprop(Pipeline.ownSems0 (Ix := Unit) (Name := ℕ) (U := UU) (Lvl := ℕ) (Val := Elt F) (τ := τ) osem c ∗ unscopedSems0 c ∗ deal m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c ∗ bigSep Finset.univ fun i => sv c i) := by
  unfold deal
  iintro ⟨Hos, Hus, Hst, Hat, Htok⟩
  ihave Hv := (sems_cells (F := F) c) $$ [Hos Hus]
  · isplitl [Hos]; · iexact Hos
    iexact Hus
  icases Hv with ⟨Hv, Hl⟩
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hl

/-- What a device keeps: its places in its cells, the tokens it pays with, its own semaphores. -/
def keeps (c : Dev nD) : sProp 𝕄 :=
  iprop((bigSep Finset.univ fun k => atPos ER (kcell (c, k)) 0 ∅ 0) ∗ payToks c ∗ bigSep Finset.univ fun i => sv c i)
/-- With the records of all the cells. -/
def dealt (c : Dev nD) : sProp 𝕄 := iprop((∃ K, Recs m K) ∗ keeps (F := F) c)

omit [FloatOps F] in
/-- Change every factor of a product, with a fact that may be used again and again. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The names and the reached-marks are everyone's; the tokens go round. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c ∗ bigSep Finset.univ fun i => sv c i) : sProp 𝕄)
      ⊢ bigSep Finset.univ (dealt m) := by
  rw [bigSep_sep', bigSep_sep', bigSep_sep', ← bigSep_univ_prod (fun ck : Dev nD × Option (Xf × Bool) => iprop(∃ κ : ℕ, cellInv ER (Rd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Xf × Bool) => (reached ER (kcell ck) 0 : sProp 𝕄))]
  iintro ⟨HI, ⟨Hat, #HR⟩, Htok, Hl⟩
  ihave HK := (BI.bigSep_exists_pi Finset.univ (fun (ck : Dev nD × Option (Xf × Bool)) (κ : ℕ) => (cellInv ER (Rd m) κ (kcell ck) : sProp 𝕄))) $$ HI
  icases HK with ⟨%K, #HI⟩
  ihave Htk := (toks_around (F := F)) $$ Htok
  iapply (bigSep_with (R := iprop(∃ K, Recs m K)) (Φ := fun c => keeps (F := F) c) fun c _ => by unfold dealt; exact Entails.refl _)
  isplitr
  · iexists K; unfold Recs; rw [bigSep_sep']
    isplitl; · iexact HI
    iexact HR
  · unfold keeps; rw [bigSep_sep', bigSep_sep']
    isplitl [Hat]; · iexact Hat
    isplitl [Htk]; · iexact Htk
    iexact Hl

/-- The step that all the devices take at once. -/
theorem glob : (bigSep Finset.univ fun c => iprop(Pipeline.ownSems0 (Ix := Unit) (Name := ℕ) (U := UU) (Lvl := ℕ) (Val := Elt F) (τ := τ) osem c ∗ unscopedSems0 c ∗ deal m c) : sProp 𝕄)
    ⊢ |={Set.univ}=> bigSep Finset.univ (dealt m) :=
  ((bigSep_mono fun c _ => cells_alloc m c).trans (bigSep_fupd _ _)).trans (BI.fupd_mono (regroup m))

/-! ### The credits -/

/-- Two cells are the same where the device and the semaphore are. -/
theorem dev_iff {a b : Dev nD} {sm sm' : SemLoc sig} : (((a : Thread nD τ), sm) : GSem nD τ sig) = ((b : Thread nD τ), sm') ↔ a = b ∧ sm = sm' :=
  ⟨fun h => ⟨congrArg (fun g : GSem nD τ sig => g.1.1) h, congrArg Prod.snd h⟩, fun h => by rw [h.1, h.2]⟩

/-- What all the devices owe a cell is what one of them owes the semaphore anywhere. -/
theorem owed_all (c : Dev nD) (sm : SemLoc sig) : ∀ l : List (ℕ × SemLoc sig),
    ∑ d : Dev nD, Ot d l ((c : Thread nD τ), sm) () = l.countP (fun p => decide (p.2 = sm)) * amt sm
  | [] => by rw [List.countP_nil, Nat.zero_mul]; exact Finset.sum_eq_zero fun d _ => rfl
  | p :: l => by
    have e : ∀ d : Dev nD, Ot d (p :: l) ((c : Thread nD τ), sm) () = Ot d l ((c : Thread nD τ), sm) () + if d = (rot p.1).symm c then (if p.2 = sm then amt sm else 0) else 0 := fun d => by
      rw [Ot_cons, Pi.add_apply, Finsupp.add_apply, tallyAt_apply]
      refine congrArg _ ?_
      by_cases h : d = (rot p.1).symm c
      · have h' : ch d p.1 = c := by rw [h]; exact (rot p.1).apply_symm_apply c
        rw [if_pos h, h']
        by_cases hs : p.2 = sm
        · rw [if_pos hs, hs]; exact if_pos ⟨rfl, rfl⟩
        · rw [if_neg hs]; exact if_neg fun q => hs (dev_iff.mp q.1).2.symm
      · rw [if_neg h]
        exact if_neg fun q => h (by rw [(dev_iff.mp q.1).1]; exact ((rot p.1).symm_apply_apply d).symm)
    rw [Finset.sum_congr rfl fun d _ => e d, Finset.sum_add_distrib, owed_all c sm l, Finset.sum_ite_eq' Finset.univ, if_pos (Finset.mem_univ _), List.countP_cons]
    by_cases hs : p.2 = sm
    · rw [if_pos hs, if_pos (decide_eq_true hs), Nat.add_mul, Nat.one_mul]
    · rw [if_neg hs, if_neg (by rw [decide_eq_false hs]; exact Bool.false_ne_true), Nat.add_zero, Nat.add_zero]

/-- A device signals the barrier twice. -/
theorem count_bar : oB.countP (fun p => decide (p.2 = .reg barS)) = 2 := by decide +kernel
/-- A device sends each transfer once. -/
theorem count_arr : ∀ x : Xf, oB.countP (fun p => decide (p.2 = .dma (sR x))) = 1 := by decide +kernel

/-- What is owed at launch to one of a device's cells. -/
theorem launch_at (c : Dev nD) (sm : SemLoc sig) :
    tallyOn ((c : Thread nD τ), sm) (launchCredit (Pipeline.owing fun c => Ot c oB) 0 ((c : Thread nD τ), sm))
      = (tallyAt ((c : Thread nD τ), sm) () (oB.countP (fun p => decide (p.2 = sm)) * amt sm) : CellTallies nD τ sig Unit) := by
  unfold tallyAt; refine congrArg _ (Finsupp.ext fun u => ?_); cases u
  rw [Pipeline.launchCredit_owing, Finsupp.single_eq_same, owed_all]

/-- The semaphores that a device waits for others on. -/
def waited : Option Xf ↪ SemLoc sig where
  toFun | none => .reg barS | some x => .dma (sR x)
  inj' := by
    rintro (_ | x) (_ | y) h
    · rfl
    · exact absurd h reg_ne
    · exact absurd h.symm reg_ne
    · rw [sR_inj (SemLoc.dma.inj h)]

omit [FloatOps F] in
/-- The credits of a device's barrier and of its arrivals. -/
theorem creds (c : Dev nD) :
    (Pipeline.launchCred (fun c => Ot c oB) c : sProp 𝕄)
      ⊢ iprop(cred (tallyAt (gB c) () 2) ∗ bigSep Finset.univ fun x => cred (tallyAt (gR c x) () (amtX x))) := by
  unfold Pipeline.launchCred
  refine BIBase.Entails.trans (BI.bigSep_subset (Finset.subset_univ (Finset.univ.map waited))) ?_
  rw [bigSep_map, bigSep_univ_equiv (Equiv.optionEquivSumPUnit.{0} Xf).symm, bigSep_univ_sum, bigSep_univ_of_subsingleton PUnit.unit.{1}]
  have hB : tallyOn (gB c) (launchCredit (Pipeline.owing fun c => Ot c oB) 0 (gB c)) = (tallyAt (gB c) () 2 : CellTallies nD τ sig Unit) := by
    rw [launch_at, count_bar]; rfl
  have hR : ∀ x, tallyOn (gR c x) (launchCredit (Pipeline.owing fun c => Ot c oB) 0 (gR c x)) = (tallyAt (gR c x) () (amtX x) : CellTallies nD τ sig Unit) := fun x => by
    rw [launch_at, count_arr, amt_sR, Nat.one_mul]
  rw [← hB, show (bigSep Finset.univ fun x => (cred (tallyAt (gR c x) () (amtX x)) : sProp 𝕄))
    = bigSep Finset.univ fun x => cred (tallyOn (gR c x) (launchCredit (Pipeline.owing fun c => Ot c oB) 0 (gR c x))) from bigSep_congr fun x _ => by rw [hR x]]
  exact sep_comm.1

end Cert.KernelIdeal.Gen
-- ==== Proof.Run.lean ====
/-
  The run: from what the launch gives a device to the body and back, and the program on four devices.
-/
module

public import proofs.«01_k».proof.Proof.Ghost
public import Idealize.ShloMosaic.Lib.Pipeline.CollectiveSegs

@[expose] public section

set_option synthInstance.maxSize 4096

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ### Around the body -/

/-- A device's arrays as the launch gives them. -/
def arrs (c : Dev nD) : sProp 𝕄 :=
  iprop(whl c main_arg0 fullShare (xC m c) ∗ whl c main_arg1 fullShare (wC m c) ∗ whl c main_v1_0 fullShare (m _) ∗ whl c main_v1_1 fullShare (m _)
    ∗ whl c main_v1_2 fullShare (m _) ∗ whl c main_v1_3 fullShare (m _))
/-- What a device starts from, besides its scratch buffers. -/
def start (c : Dev nD) : sProp 𝕄 :=
  iprop(Amb m ∗ keeps (F := F) c ∗ (cred (tallyAt (gB c) () 2) ∗ bigSep Finset.univ fun x => cred (tallyAt (gR c x) () (amtX x))) ∗ arrs m c)
/-- What it ends with, besides those and its own semaphores. -/
def final (c : Dev nD) : sProp 𝕄 :=
  iprop(unscopedSems0 c ∗ whl c main_arg0 fullShare (xC m c) ∗ whl c main_arg1 fullShare (wC m c) ∗ whl c main_v1_0 fullShare (bf2 (OUT m c)))

omit [FloatOps F] in
/-- A product over eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What the body takes. -/
def takes (c : Dev nD) : sProp 𝕄 :=
  iprop(pgive c ∗ gall m c ∗ prem c ∗ Bt c
        ∗ ((hb c (ch c 0) 0 (m _) ∗ hb c (ch c 0) 1 (m _)) ∗ (hb c (ch c 1) 0 (m _) ∗ hb c (ch c 1) 1 (m _)) ∗ (hb c (ch c 2) 0 (m _) ∗ hb c (ch c 2) 1 (m _)) ∗ (hb c (ch c 3) 0 (m _) ∗ hb c (ch c 3) 1 (m _)))
        ∗ pa c bM ∗ qa c bQL ∗ qa c bQH ∗ oaH c 0 ∗ oaH c 1
        ∗ x27 (Tk c) ∗ x27 (Wt c) ∗ x27 (Sp c))
/-- What the body gives back. -/
def yields (c : Dev nD) : sProp 𝕄 :=
  iprop(gall m c ∗ prem c ∗ semVal (gB c) 0
        ∗ (PS m c (.am 0) ∗ PS m c (.am 1) ∗ PS m c (.am 2)) ∗ (PS m c (.ag 0 0 0) ∗ PS m c (.ag 0 1 0)) ∗ (PS m c (.ag 0 0 1) ∗ PS m c (.ag 0 1 1))
        ∗ (pa c (mV 0) ∗ pa c (mV 1) ∗ pa c (mV 2)) ∗ ooH m c 0 ∗ ooH m c 1
        ∗ x27 (fun x => semVal (gS c x) 0) ∗ x27 (fun x => semVal (gR c x) 0))
/-- What stays beside it. -/
def beside (c : Dev nD) : sProp 𝕄 := iprop(mIdle (F := F) c ∗ sv c 7)

omit [FloatOps F] in
/-- The duty tokens and the places in the cells, a transfer at a time. -/
theorem keeps_open (c : Dev nD) :
    iprop(keeps (F := F) c ∗ bigSep Finset.univ fun x => cred (tallyAt (gR c x) () (amtX x)))
      ⊢ iprop((dutyTok ER (gB (ch c 3)) 0 false ∗ dutyTok ER (gB (ch c 1)) 0 true) ∗ atPos ER (gB c) 0 ∅ 0 ∗ x27 (Tk (F := F) c) ∗ x27 (Wt c) ∗ x27 (Sp c)
        ∗ (sv c 0 ∗ sv c 1 ∗ sv c 2 ∗ sv c 3 ∗ sv c 4 ∗ sv c 5 ∗ sv c 6 ∗ sv c 7)) := by
  rw [← x27_eq, ← x27_eq, ← x27_eq]
  unfold keeps payToks Tk Wt Sp
  rw [bigSep_cells, bigSep_sep', bigSep_sep', bigSep_fin8]
  iintro ⟨⟨⟨⟨HB, HS⟩, HR⟩, ⟨Ht, HtS, HtR⟩, Hv⟩, HC⟩
  isplitl [Ht]; · iexact Ht
  isplitl [HB]; · iexact HB
  isplitl [HtS HtR]
  · isplitl [HtS]; · iexact HtS
    iexact HtR
  isplitl [HR HC]
  · isplitl [HR]; · iexact HR
    iexact HC
  isplitl [HS]; · iexact HS
  iexact Hv

/-- The result's buffer is its tiles, with whatever they hold. -/
theorem out_any (c : Dev nD) (f : Buf (Elt F) ((c : Thread nD τ).loc main_v1_0)) : (whl c main_v1_0 fullShare f : sProp 𝕄) ⊢ iprop(oaH c 0 ∗ oaH c 1) := by
  rw [out_cut]
  have e : ∀ d : Fin 2, iprop(t4 c f (ch c 0) d ∗ t4 c f (ch c 1) d ∗ t4 c f (ch c 2) d ∗ t4 c f (ch c 3) d) ⊢ oaH (F := F) c d := fun d =>
    Laws.sep_mono (t4_any c f _ d) (Laws.sep_mono (t4_any c f _ d) (Laws.sep_mono (t4_any c f _ d) (t4_any c f _ d)))
  exact Laws.sep_mono (e 0) (e 1)
/-- The written tiles are the result. -/
theorem out_done (c : Dev nD) : iprop(ooH m c 0 ∗ ooH m c 1) ⊢ (whl c main_v1_0 fullShare (bf2 (OUT m c)) : sProp 𝕄) := by
  rw [out_cut]; exact Entails.refl _

/-- What the launch gives a device is what its body takes. -/
theorem takes_intro (c : Dev nD) : iprop(start m c ∗ Pipeline.scopedRest cfg0.spec c) ⊢ iprop(Amb m ∗ takes m c ∗ beside c) := by
  rw [scopedRest0_eq]
  unfold start arrs takes beside pgive gall idA idB idle prem lt Bt
  iintro ⟨⟨HA, HK, ⟨HcB, HcR⟩, ⟨Hx, Hw, Ho, Hs, Hr, Hg⟩⟩, ⟨S0, S1, S2, S3, S4, S5, S6, S7, S8, ⟨%f₉, S9⟩, ⟨%f₁₀, S10⟩, S11, ⟨%f₁₂, S12⟩⟩⟩
  ihave HK := (keeps_open (F := F) c) $$ [HK HcR]
  · isplitl [HK]; · iexact HK
    iexact HcR
  icases HK with ⟨Ht, HB, HT, HW, HP, ⟨v0, v1, v2, v3, v4, v5, v6, v7⟩⟩
  ihave Hw := (pointsTo_share (PosShare.mem_left_op_right fullShare)).1 $$ Hw
  icases Hw with ⟨HwL, HwR⟩
  ihave Ho := (out_any (F := F) c _) $$ Ho
  icases Ho with ⟨O0, O1⟩
  ihave Hs := (Entails.of_eq (acc_cut (F := F) c _)) $$ Hs
  ihave Hr := (rs_cut (F := F) c _) $$ Hr
  icases Hr with ⟨R0, R1⟩
  ihave Hg := (ag_cut (F := F) c _) $$ Hg
  icases Hg with ⟨G0, G1⟩
  ihave D0 := (slotsD_of (F := F) c 0) $$ [R0 G0]
  · isplitl [R0]; · iexact R0
    iexact G0
  ihave D1 := (slotsD_of (F := F) c 1) $$ [R1 G1]
  · isplitl [R1]; · iexact R1
    iexact G1
  ihave S9 := (qL_cut (F := F) c f₉) $$ S9
  ihave S10 := (qH_cut (F := F) c f₁₀) $$ S10
  ihave S12 := (max_cut (F := F) c f₁₂) $$ S12
  icases S12 with ⟨M, M0, M1, M2⟩
  ihave S0 := (Entails.of_eq (pa_whole (F := F) c cc0_scratch0)) $$ S0
  ihave S1 := (Entails.of_eq (pa_whole (F := F) c cc0_scratch1)) $$ S1
  ihave S2 := (Entails.of_eq (pa_whole (F := F) c cc0_scratch2)) $$ S2
  ihave S3 := (Entails.of_eq (pa_whole (F := F) c cc0_scratch3)) $$ S3
  ihave S4 := (Entails.of_eq (pa_whole (F := F) c cc0_scratch4)) $$ S4
  ihave S5 := (Entails.of_eq (pa_whole (F := F) c cc0_scratch5)) $$ S5
  ihave S6 := (Entails.of_eq (pa_whole (F := F) c cc0_scratch6)) $$ S6
  ihave S7 := (Entails.of_eq (pa_whole (F := F) c cc0_scratch7)) $$ S7
  ihave S8 := (Entails.of_eq (pa_whole (F := F) c cc0_scratch8)) $$ S8
  ihave S11 := (Entails.of_eq (pa_whole (F := F) c cc0_scratch11)) $$ S11
  isplitl [HA]; · iexact HA
  isplitl [Ht D0 D1 M0 M1 M2 S1 v4 HwL S2 v5 HwR S0 S3 v2 v3 Hx S4 S5 v0 v1 S6 v6 S7 S8 HB HcB Hs S11 S9 S10 O0 O1 HT HW HP]
  · isplitl [Ht D0 D1 M0 M1 M2]
    · isplitl [Ht]; · iexact Ht
      isplitl [D0]; · iexact D0
      isplitl [D1]; · iexact D1
      isplitl [M0]; · rw [show slot (F := F) c (.am 0) = pa c (mV 0) from rfl]; iexact M0
      isplitl [M1]; · rw [show slot (F := F) c (.am 1) = pa c (mV 1) from rfl]; iexact M1
      rw [show slot (F := F) c (.am 2) = pa c (mV 2) from rfl]; iexact M2
    isplitl [S1 v4 HwL S2 v5 HwR S0 S3 v2 v3 Hx]
    · isplitl [S1 v4 HwL]
      · isplitl [S1]; · iexact S1
        isplitl [v4]; · iexact v4
        iexact HwL
      isplitl [S2 v5 HwR]
      · isplitl [S2]; · iexact S2
        isplitl [v5]; · iexact v5
        iexact HwR
      isplitl [S0]; · iexact S0
      isplitl [S3]; · iexact S3
      isplitl [v2]; · iexact v2
      isplitl [v3]; · iexact v3
      iexact Hx
    isplitl [S4 S5 v0 v1 S6 v6 S7 S8]
    · isplitl [S4 S5 v0 v1]
      · isplitl [S4]; · iexact S4
        isplitl [S5]; · iexact S5
        isplitl [v0]; · iexact v0
        iexact v1
      isplitl [S6 v6]
      · isplitl [S6]; · iexact S6
        iexact v6
      isplitl [S7]; · iexact S7
      iexact S8
    isplitl [HB HcB]
    · isplitl [HB]; · iexact HB
      iexact HcB
    isplitl [Hs]; · iexact Hs
    isplitl [S11]; · iexact S11
    isplitl [S9]; · iexact S9
    isplitl [S10]; · iexact S10
    isplitl [O0]; · iexact O0
    isplitl [O1]; · iexact O1
    isplitl [HT]; · iexact HT
    isplitl [HW]; · iexact HW
    iexact HP
  isplitl [M]; · iexact M
  iexact v7

/-- The finished sends of the maximum hand its buffer back. -/
theorem max_back (c : Dev nD) : iprop(PS m c (.am 0) ∗ PS m c (.am 1) ∗ PS m c (.am 2))
    ⊢ (iprop(∃ f : Buf (Elt F) ((c : Thread nD τ).loc cc0_scratch11), ((c : Thread nD τ).loc cc0_scratch11) ↦{fullShare} f) : sProp 𝕄) := by
  rw [pa_whole]
  show iprop(pt c bM (third 0) (bf2 fun _ _ => amax m c) ∗ pt c bM (third 1) (bf2 fun _ _ => amax m c) ∗ pt c bM (third 2) (bf2 fun _ _ => amax m c)) ⊢ pa c bM
  iintro H
  ihave H := (thirds c bM _).2 $$ H
  iexists _; iexact H
/-- The finished first sends of the low integers hand their buffer back. -/
theorem low_back (c : Dev nD) : iprop(PS m c (.ag 0 0 0) ∗ PS m c (.ag 0 1 0))
    ⊢ (iprop(∃ f : Buf (Elt F) ((c : Thread nD τ).loc cc0_scratch9), ((c : Thread nD τ).loc cc0_scratch9) ↦{fullShare} f) : sProp 𝕄) := qL_glue c (m _)
/-- The finished first sends of the high integers hand their buffer back. -/
theorem high_back (c : Dev nD) : iprop(PS m c (.ag 0 0 1) ∗ PS m c (.ag 0 1 1))
    ⊢ (iprop(∃ f : Buf (Elt F) ((c : Thread nD τ).loc cc0_scratch10), ((c : Thread nD τ).loc cc0_scratch10) ↦{fullShare} f) : sProp 𝕄) := qH_glue c (m _)

/-- What the body gives back is what the launch asks. -/
theorem gives_elim (c : Dev nD) : iprop(yields m c ∗ beside c) ⊢ iprop(final m c ∗ Pipeline.ownSems0 osem c ∗ Pipeline.scopedRest cfg0.spec c) := by
  rw [scopedRest0_eq, ownSems0_eq, bigSep_fin8, x27_eq, x27_eq]
  unfold yields final beside gall idA idB idle prem lt
  rw [unscopedSems0_eq]
  iintro ⟨⟨⟨⟨S1, v4, HwL⟩, ⟨S2, v5, HwR⟩, S0, S3, v2, v3, Hx⟩, ⟨⟨S4, S5, v0, v1⟩, ⟨S6, v6⟩, S7, S8⟩, HB, S11, S9, S10, ⟨M0, M1, M2⟩, O0, O1, HS, HR⟩, ⟨M, v7⟩⟩
  ihave Hw := (pointsTo_share (PosShare.mem_left_op_right fullShare)).2 $$ [HwL HwR]
  · isplitl [HwL]; · iexact HwL
    iexact HwR
  ihave Ho := (out_done m c) $$ [O0 O1]
  · isplitl [O0]; · iexact O0
    iexact O1
  ihave S11 := (max_back m c) $$ S11
  ihave S9 := (low_back m c) $$ S9
  ihave S10 := (high_back m c) $$ S10
  ihave S12 := (max_glue c (m _)) $$ [M M0 M1 M2]
  · isplitl [M]; · iexact M
    isplitl [M0]; · iexact M0
    isplitl [M1]; · iexact M1
    iexact M2
  ihave S0 := (Entails.of_eq (pa_whole (F := F) c cc0_scratch0).symm) $$ S0
  ihave S1 := (Entails.of_eq (pa_whole (F := F) c cc0_scratch1).symm) $$ S1
  ihave S2 := (Entails.of_eq (pa_whole (F := F) c cc0_scratch2).symm) $$ S2
  ihave S3 := (Entails.of_eq (pa_whole (F := F) c cc0_scratch3).symm) $$ S3
  ihave S4 := (Entails.of_eq (pa_whole (F := F) c cc0_scratch4).symm) $$ S4
  ihave S5 := (Entails.of_eq (pa_whole (F := F) c cc0_scratch5).symm) $$ S5
  ihave S6 := (Entails.of_eq (pa_whole (F := F) c cc0_scratch6).symm) $$ S6
  ihave S7 := (Entails.of_eq (pa_whole (F := F) c cc0_scratch7).symm) $$ S7
  ihave S8 := (Entails.of_eq (pa_whole (F := F) c cc0_scratch8).symm) $$ S8
  isplitl [HB Hx Hw Ho]
  · isplitl [HB]; · iexact HB
    isplitl [Hx]; · iexact Hx
    isplitl [Hw]; · iexact Hw
    iexact Ho
  isplitl [HS HR v0 v1 v2 v3 v4 v5 v6 v7]
  · isplitl [HS HR]
    · isplitl [HS]; · iexact HS
      iexact HR
    isplitl [v0]; · iexact v0
    isplitl [v1]; · iexact v1
    isplitl [v2]; · iexact v2
    isplitl [v3]; · iexact v3
    isplitl [v4]; · iexact v4
    isplitl [v5]; · iexact v5
    isplitl [v6]; · iexact v6
    iexact v7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact S12

/-! ### The body's obligation -/

set_option maxRecDepth 65536 in
/-- The body, from the launch's resources. -/
theorem body_tr (c : Dev nD) (Ws) :
    iprop((start m c ∗ Pipeline.scopedRest cfg0.spec c) ∗ owes (c : Thread nD τ) (Ot c oB) Ws)
      ⊢ W c (main' c) (fun _ => iprop((final m c ∗ Pipeline.ownSems0 osem c ∗ Pipeline.scopedRest cfg0.spec c) ∗ ∃ W, owes (c : Thread nD τ) (0 : CellTallies nD τ sig Unit) W)) := by
  have hm : iprop(Ow m c oB ∗ takes m c) ⊢ W c (main' c) (fun _ => iprop(Ow m c [] ∗ yields m c)) := by
    unfold takes yields; exact main_tr m c (m ((c : Thread nD τ).loc main_v1_1))
  iintro ⟨Hs, HO⟩
  ihave Hs := (takes_intro m c) $$ Hs
  icases Hs with ⟨HA, Ht, Hb⟩
  iapply (useE hm) $$ [HA HO Ht]
  · isplitl [HA HO]
    · unfold Ow
      isplitl [HA]; · iexact HA
      iexists Ws; iexact HO
    iexact Ht
  iintro %_ ⟨HO, Hg⟩
  ihave He := (gives_elim m c) $$ [Hg Hb]
  · isplitl [Hg]; · iexact Hg
    iexact Hb
  unfold Ow
  icases HO with ⟨-, %W', HO⟩
  isplitl [He]; · iexact He
  iexists W'
  iexact HO

/-- The proof's data: what holds before the body and after it, and what is owed. -/
def dats (_ : Fin 1) (c : Dev nD) : Pipeline.Dat τ (Elt F) Unit ℕ UU ℕ cfg0 c where
  A w := w.elim0
  after w _ := w.elim0
  Φ t := match t with
    | ⟨0, _⟩ => iprop(start m c ∗ Pipeline.scopedRest cfg0.spec c)
    | ⟨_ + 1, _⟩ => iprop(final m c ∗ Pipeline.ownSems0 osem c ∗ Pipeline.scopedRest cfg0.spec c)
  q _ := fullShare
  owed t := match t with
    | ⟨0, _⟩ => Ot c oB
    | ⟨_ + 1, _⟩ => 0

set_option maxRecDepth 65536 in
/-- The body meets its obligation. -/
theorem body_obligation (c : Dev nD) : Pipeline.BodyObligation (dats m 0 c) (defs₀ (F := F)) 𝒱₀ () Set.univ := fun t => by
  rw [fin_N0 t]
  rw [show (Finset.univ : Finset (Fin cfg0.W)) = ∅ from rfl, bigSep_empty, bigSep_empty]
  show iprop((start m c ∗ Pipeline.scopedRest cfg0.spec c) ∗ (dats m 0 c).owesAt () t0_0.castSucc ∗ emp)
    ⊢ wp frame (wpE (defs₀ (F := F)) 𝒱₀ (c : Thread nD τ) none) Set.univ (bodyAt0 (F := F) t0_0) (fun _ =>
      iprop((final m c ∗ Pipeline.ownSems0 osem c ∗ Pipeline.scopedRest cfg0.spec c) ∗ (dats m 0 c).owesAt () t0_0.succ ∗ emp))
  rw [body_eq]
  show _ ⊢ wp frame (wpE (defs₀ (F := F)) 𝒱₀ (c : Thread nD τ) none) Set.univ (Prog.op .deviceId fun c' => main' c') _
  rw [wp_deviceId]
  unfold Pipeline.Dat.owesAt Pipeline.owesWithin
  iintro ⟨Hs, ⟨%Ws, %_, HO⟩, -⟩
  iapply (useE (body_tr m c Ws)) $$ [Hs HO]
  · isplitl [Hs]; · iexact Hs
    iexact HO
  iintro %_ ⟨He, %W', HO⟩
  isplitl [He]; · iexact He
  isplitl [HO]
  · iexists W'
    isplitr; · ipureintro; exact fun _ _ => Or.inl trivial
    iexact HO
  iempintro

/-! ### The run -/

/-- What the launch gives a device is what it starts from. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun c => Ot c oB) c ∗ prngReg c (ρ c) ∗ dealt m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  unfold dealt
  icases HG with ⟨HK, Hk⟩
  imodintro
  isplitl
  · unfold start Amb arrs
    isplitl [HK Hlev]
    · isplitl [HK]; · iexact HK
      iexact Hlev
    isplitl [Hk]; · iexact Hk
    isplitl [Hc]; · iexact Hc
    iexact Ha
  iempintro

/-- What a device starts from, with its scratch, is what the body needs. -/
theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ iprop(start m c ∗ Pipeline.scopedRest cfg0.spec c)
  iintro ⟨Hs, -, Hr⟩
  isplitl [Hs]; · iexact Hs
  iexact Hr

/-- The pipeline itself waits on nothing. -/
theorem waits (c : Dev nD) : (levAts L lv : sProp 𝕄) ⊢ Pipeline.cellsWaits cfgs (dats m) () 0 c :=
  Pipeline.cellsWaits_intro cfgs (dats m) () 0 c fun w s t => w.elim0

/-- What is read of a device's memory at the end. -/
def Seen (c : Dev nD) (s : MemSt nD τ sig (Elt F)) : Prop :=
  (∀ sm : SemLoc sig, sm.isScoped .tc = false → s.sem ((c : Thread nD τ), sm) = 0)
    ∧ s.mem ((c : Thread nD τ).loc main_arg0) = xC m c ∧ s.mem ((c : Thread nD τ).loc main_arg1) = wC m c
    ∧ s.mem ((c : Thread nD τ).loc main_v1_0) = bf2 (OUT m c)

/-- What a device ends with is read off the memory. -/
theorem final_read (c : Dev nD) (s' : Phys nD τ sig (Elt F)) :
    iprop(final m c ∗ emp ∗ SI s') ⊢ |={Set.univ}=> iprop(⌜Seen m c s'.mem⌝ ∗ SI s' : sProp 𝕄) := by
  unfold final
  iintro ⟨⟨Hu, H₀, H₁, H₂⟩, -, HSI⟩
  icombine HSI H₀ gives %h₀
  icombine HSI H₁ gives %h₁
  icombine HSI H₂ gives %h₂
  imod (Pipeline.unscopedSems0_read (X := unscopedSems0 c) (c := c) fupd_intro s') $$ [Hu HSI] with ⟨%hu, HSI⟩
  · isplitl [Hu]; · iexact Hu
    iexact HSI
  imodintro
  isplitr
  · ipureintro
    exact ⟨hu, Buf.eq_of_forall_mem_univ h₀, Buf.eq_of_forall_mem_univ h₁, Buf.eq_of_forall_mem_univ h₂⟩
  iexact HSI

/-- The same, through the half of the ghost state that is not the pipeline's. -/
theorem fund_in : BI.own (((Emb.inl : Emb UB (UB × Counters)).trans (embR : Emb (UB × Counters) (MT nD τ sig Unit (Elt F) ℕ UU ℕ))) (initOf allCells allToks))
    ⊢ (|==> bigSep Finset.univ (deal m) : sProp 𝕄) := fund_deal m

set_option maxRecDepth 65536 in
/-- On four devices, from any memory with the semaphores at zero: every fair run ends, each device's result is
    `OUT`, its arguments are as they were, and every semaphore is at zero. -/
theorem run_main (ρ : Dev nD → PrngReg) :
    θ_run defs (onTc (τ := τ) (main (F := F))) (⟨m, fun _ => 0, ρ⟩ : MemSt nD τ sig (Elt F))
      (fun r => (∀ c, Seen m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun c => Ot c oB) (howed₀ := fun _ => rfl) (howedN := fun _ => rfl)
    (L := L) (lv := lv) (hL := L_of_ne) (hwaits := waits m)
    (G := deal m) (G' := dealt m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_in m) $$ HX with HG
      imodintro
      isplitl [HP]; · iexact HP
      iexact HG)
    (hglob := glob m)
    (hA := fun _ w => w.elim0) (hpf := fun _ k => k.elim0)
    (X := start m) (Y := final m) (Z := fun _ => iprop(emp))
    (hX := start_intro m ρ) (hin := phi_in m) (hout := fun c => Entails.refl _)
    (QY := Seen m)
    (hY := final_read m)
    (hQ := fun _ h hs => ⟨fun c => (h c).2.2, sem_eq_zero hs fun c => (h c).2.2.1⟩)

end Cert.KernelIdeal.Gen
-- ==== Proof.Quant.lean ====
/-
  The quantiser over the extended reals.

  The kernel multiplies by 127 over the largest element where the reference divides by the largest element over 127;
  and it carries the rounded quotient to the other devices as an eight-bit integer. Neither makes a difference.
-/
module

public import Idealize.ShloMosaic.PureOps.Ideal

@[expose] public section

noncomputable section

namespace Cert.Quant

open Idealize.ShloMosaic

/-- Round and clip to -127 … 127. -/
def clip8 (z : EReal) : EReal := min ((127 : ℝ) : EReal) (max ((-127 : ℝ) : EReal) (Ideal.liftRound Ideal.roundHalfEven z))

/-- A rounded and clipped value is an integer between -127 and 127. -/
theorem clip8_int (z : EReal) : ∃ n : ℤ, -127 ≤ n ∧ n ≤ 127 ∧ clip8 z = ((n : ℝ) : EReal) := by
  have key : ∀ a : EReal, (∃ k : ℤ, a = ((k : ℝ) : EReal)) ∨ a = ⊤ ∨ a = ⊥ →
      ∃ n : ℤ, -127 ≤ n ∧ n ≤ 127 ∧ min ((127 : ℝ) : EReal) (max ((-127 : ℝ) : EReal) a) = ((n : ℝ) : EReal) := by
    rintro a (⟨k, rfl⟩ | rfl | rfl)
    · refine ⟨min 127 (max (-127) k), by omega, by omega, ?_⟩
      push_cast
      rfl
    · exact ⟨127, by norm_num, by norm_num, by simp⟩
    · refine ⟨-127, by norm_num, by norm_num, ?_⟩
      rw [max_eq_left bot_le, min_eq_right (by exact_mod_cast (by norm_num : (-127 : ℝ) ≤ 127))]
      norm_num
  refine key _ ?_
  induction z with
  | bot => exact .inr (.inr rfl)
  | top => exact .inr (.inl rfl)
  | coe r => exact .inl ⟨_, rfl⟩

/-- The eight-bit integer of a rounded and clipped value is that value. -/
theorem int8_clip8 (z : EReal) : (((Ideal.fptosi 8 (clip8 z)).toInt : ℝ) : EReal) = clip8 z := by
  obtain ⟨n, h1, h2, h⟩ := clip8_int z
  have e : Ideal.toIntClamped (-(2 ^ (8 - 1) : Nat)) ((2 ^ (8 - 1) : Nat) - 1) ((n : ℝ) : EReal) = n := by
    rw [Ideal.toIntClamped_coe, Int.floor_intCast, Int.ceil_intCast, ite_self]
    norm_num
    omega
  rw [h, Ideal.fptosi, e, BitVec.toInt_ofInt_eq_self (by norm_num) (by norm_num; omega) (by norm_num; omega)]

/-- Multiplying by 127 over the largest element and dividing by the largest element over 127 give the same result. -/
theorem quotient_eq (g y : EReal) (h0 : 0 ≤ y) (hy : y ≤ g) :
    clip8 (y * Ideal.div ((127 : ℝ) : EReal) g) * Ideal.div g ((127 : ℝ) : EReal)
      = clip8 (Ideal.div y (Ideal.div g ((127 : ℝ) : EReal))) * Ideal.div g ((127 : ℝ) : EReal) := by
  have h127 : (127 : ℝ) ≠ 0 := by norm_num
  induction g with
  | bot => exact absurd (h0.trans hy) (by simp)
  | top =>
    have e : Ideal.div ⊤ ((127 : ℝ) : EReal) = ⊤ := by
      rw [Ideal.div_coe h127, EReal.top_mul_coe_of_pos (by norm_num)]
    have e' : Ideal.div ((127 : ℝ) : EReal) ⊤ = 0 := by
      rw [Ideal.div, if_neg (by simp), EReal.inv_top, mul_zero]
    have e'' : Ideal.div y ⊤ = 0 := by rw [Ideal.div, if_neg (by simp), EReal.inv_top, mul_zero]
    rw [e, e', e'', mul_zero]
  | coe r =>
    induction y with
    | bot => exact absurd h0 (by simp)
    | top => exact absurd hy (by simp)
    | coe s =>
      have hs : 0 ≤ s := by exact_mod_cast h0
      have hsr : s ≤ r := by exact_mod_cast hy
      by_cases hr : r = 0
      · subst hr
        rw [Ideal.div_coe h127, EReal.coe_zero, zero_mul, mul_zero, mul_zero]
      · have e : Ideal.div ((r : ℝ) : EReal) ((127 : ℝ) : EReal) = ((r * (1 / 127) : ℝ) : EReal) := by
          rw [Ideal.div_coe h127, EReal.coe_mul]
        have hq : r * (1 / 127) ≠ 0 := mul_ne_zero hr (by norm_num)
        rw [e, Ideal.div_coe hr, Ideal.div_coe hq, ← EReal.coe_mul, ← EReal.coe_mul, ← EReal.coe_mul]
        congr 4
        field_simp

end Cert.Quant

end
-- ==== Proof.Sums.lean ====
/-
  The kernel's values over the extended reals.

  The ring adds the four partial products in an order that depends on the device, and rounds between; over the
  extended reals neither matters, so each element of the clipped sum is the same on every device. The largest element
  that a device arrives at is the largest over all of them, and the result is the quantised element wherever it was
  quantised.
-/
module

public import proofs.«01_k».proof.Proof.Contents
public import proofs.«01_k».proof.Proof.Quant
public import Idealize.ShloMosaic.PureOps.Ideal.Laws

@[expose] public section

set_option synthInstance.maxSize 4096

noncomputable section

namespace Cert.KernelIdeal.Gen

open Idealize.ShloMosaic Idealize.ShloMosaic.TcCoe Cert.Quant
open scoped BigOperators

variable (m : (ℓ : Loc nD τ sig) → Buf (Elt Ideal) ℓ)

/-- The pattern of 127. -/
theorem bits_127 : Ideal.ofBits .f32 0x42FE0000#32 = ((127 : ℝ) : EReal) := by
  simp [Ideal.ofBits, Ideal.ieee]; rw [← EReal.coe_mul]; norm_num

/-- The pattern of -127. -/
theorem bits_neg127 : Ideal.ofBits .f32 0xC2FE0000#32 = ((-127 : ℝ) : EReal) := by
  simp [Ideal.ofBits, Ideal.ieee]; rw [← EReal.coe_mul]; norm_num

/-- The pattern of minus infinity. -/
theorem bits_bot : Ideal.ofBits .f32 0xFF800000#32 = ⊥ := by simp [Ideal.ofBits, Ideal.ieee]

/-! ### The clipped sum -/

/-- An element of the product, clipped at zero: the four partial products added. -/
def Yn (r col : ℕ) : EReal := max (∑ c : Dev nD, (Pn m c r col : EReal)) 0

/-- It is not negative. -/
theorem Yn_nonneg (r col : ℕ) : 0 ≤ Yn m r col := le_max_right _ _

/-- Every device's clipped sum, in either half, is that element. -/
theorem clip_eq (d : Fin 2) (c : Dev nD) (r col : ℕ) : clip m d c r col = Yn m r col := by
  have h : (clip m d c r col : EReal) = max (Pn m c r col + (Pn m (ch c (src d)) r col + (Pn m (ch (ch c (src d)) (src d)) r col
      + Pn m (ch (ch (ch c (src d)) (src d)) (src d)) r col))) (Ideal.ofBits .f32 0x00000000#32) := rfl
  rw [h, Ideal.ofBits_zero_f32, Yn]
  refine congrArg (fun z : EReal => max z 0) ?_
  generalize hP : (fun c => (Pn m c r col : EReal)) = P
  have hP' (c) : (Pn m c r col : EReal) = P c := congrFun hP c
  simp only [hP']
  clear hP hP' h
  rw [show (∑ c : Dev nD, P c) = P 0 + P 1 + P 2 + P 3 from Fin.sum_univ_four P]
  revert c d
  rw [Fin.forall_fin_two]
  constructor <;> intro c <;> fin_cases c
  all_goals
    first
      | (show P 0 + (P 3 + (P 2 + P 1)) = _; abel)
      | (show P 1 + (P 0 + (P 3 + P 2)) = _; abel)
      | (show P 2 + (P 1 + (P 0 + P 3)) = _; abel)
      | (show P 3 + (P 2 + (P 1 + P 0)) = _; abel)
      | (show P 0 + (P 1 + (P 2 + P 3)) = _; abel)
      | (show P 1 + (P 2 + (P 3 + P 0)) = _; abel)
      | (show P 2 + (P 3 + (P 0 + P 1)) = _; abel)
      | (show P 3 + (P 0 + (P 1 + P 2)) = _; abel)

/-! ### The largest element -/

/-- A maximum over a whole vector is below `u` where every element is. -/
theorem maxAll_le {s t : Shape} {axes : List (Fin s.rank)} (src : FVec Ideal s .f32) (h : s.Reduces axes t) (ht : ∀ b, t.size b = 1)
    (hφ : FKind.Formats .f32) (hacc) (j : t.Idx) (u : EReal) :
    multiReduction .maximumf axes t src 0xFF800000#32 h hφ hacc j ≤ u ↔ ∀ i, src i ≤ u := by
  rw [multiReduction_maximumf_eq_fold, Finset.filter_true_of_mem fun i _ => funext fun b => Fin.ext (by
    have := (h.drop i b).isLt; have := (j b).isLt; have := ht b; omega)]
  show (Finset.univ : Finset s.Idx).fold max (Ideal.ofBits .f32 0xFF800000#32) src ≤ u ↔ _
  rw [bits_bot, Finset.fold_max_le]
  simp

/-- A maximum over a whole vector, the vector reshaped before and the result after. -/
theorem maxCast_le {s s' t t' : Shape} {axes : List (Fin s'.rank)} (v : FVec Ideal s .f32) (hs : s.ShapeCasts s') (h : s'.Reduces axes t)
    (ht : ∀ b, t.size b = 1) (hφ : FKind.Formats .f32) (hacc) (htt : t.ShapeCasts t') (pos : Fin t'.rank → ℕ) (hp) (u : EReal) :
    extractAt pos (shapeCast t' (multiReduction .maximumf axes t (shapeCast s' v hs) 0xFF800000#32 h hφ hacc) htt) hp ≤ u ↔ ∀ i, v i ≤ u :=
  (maxAll_le (shapeCast s' v hs) h ht hφ hacc _ u).trans (Equiv.forall_congr (Shape.reshapeEquiv hs) fun i => Iff.rfl)

/-- The largest element of a tile is below `u` where every element is. -/
theorem tileMax_le (v : FVec Ideal S256x4096 .f32) (u : EReal) : tileMax v ≤ u ↔ ∀ i, v i ≤ u := by
  unfold tileMax
  exact maxCast_le v _ _ (by decide) _ _ _ _ _ u

/-- Folding two tiles in. -/
theorem fold2_le (c : Dev nD) (k d : Fin 2) (x u : EReal) :
    fold2 m c k d x ≤ u ↔ x ≤ u ∧ (∀ i, Vt m c k 0 d i ≤ u) ∧ ∀ i, Vt m c k 1 d i ≤ u := by
  rw [← tileMax_le, ← tileMax_le, ← and_assoc]
  exact max_le_iff.trans (and_congr_left' max_le_iff)

/-- What device `c` finds the largest is below `u` where zero and the elements of its chunk are. -/
theorem amax_le (c : Dev nD) (u : EReal) : amax m c ≤ u ↔ 0 ≤ u ∧ ∀ k t d : Fin 2, ∀ i, Vt m c k t d i ≤ u := by
  unfold amax
  rw [fold2_le, fold2_le, fold2_le, fold2_le, show (Scalar.ofBits .f32 0x00000000#32 : Ideal .f32) = (0 : EReal) from Ideal.ofBits_zero_f32]
  generalize hP : (fun k t d => ∀ i, Vt m c k t d i ≤ u) = P
  have hP' (k t d) : (∀ i, Vt m c k t d i ≤ u) ↔ P k t d := (congrFun (congrFun (congrFun hP k) t) d).to_iff
  simp only [hP', Fin.forall_fin_two]
  tauto

/-- The largest of the maxima received. -/
theorem gmx_le (c : Dev nD) (u : EReal) : extractAt ![0, 0, 0, 0] (gmx m c) inpos_S1x1x1x1_p0_0_0_0 ≤ u ↔ ∀ i : Fin 3, amax m (ch c (4 - (1 + i.val))) ≤ u := by
  unfold gmx k0_pay77
  refine (maxCast_le _ _ _ (by decide) _ _ _ _ _ u).trans ⟨fun h i => ?_, fun h i => ?_⟩
  · exact h (Fin.cons i (Fin.cons ⟨0, by decide⟩ (Fin.cons ⟨0, by decide⟩ finZeroElim)))
  · exact h (i 0)

/-- The largest element as device `c` arrives at it. -/
def big (c : Dev nD) : EReal := k0_pay78 (amax m c) (gmx m c)

/-- It is below `u` where what every device found is. -/
theorem big_le (c : Dev nD) (u : EReal) : big m c ≤ u ↔ ∀ e : Dev nD, amax m e ≤ u := by
  unfold big k0_pay78
  dsimp only
  rw [Ideal.scalar_maximumf_def, max_le_iff, gmx_le]
  constructor
  · rintro ⟨h, h'⟩ e
    have : ∀ c e : Dev nD, c = e ∨ ∃ i : Fin 3, ch c (4 - (1 + i.val)) = e := by decide +kernel
    obtain rfl | ⟨i, rfl⟩ := this c e
    · exact h
    · exact h' i
  · exact fun h => ⟨h c, fun i => h _⟩

/-- It is below `u` where every element is: it is the same on every device. -/
theorem big_le_iff (c : Dev nD) (u : EReal) : big m c ≤ u ↔ ∀ r < 4096, ∀ col < 8192, Yn m r col ≤ u := by
  rw [big_le]
  constructor
  · intro h r hr col hcol
    have hd : ∀ (d : Fin 2) (j : Fin 4), ∃ e : Dev nD, ch e (rcv d 2) = j := by decide +kernel
    obtain ⟨e, he⟩ := hd ⟨col / 4096, by omega⟩ ⟨r / 1024, by omega⟩
    have := ((amax_le m e u).mp (h e)).2 ⟨r % 1024 / 512, by omega⟩ ⟨r % 512 / 256, by omega⟩ ⟨col / 4096, by omega⟩
      (Fin.cons ⟨r % 256, Nat.mod_lt _ (by decide)⟩ (Fin.cons ⟨col % 4096, Nat.mod_lt _ (by decide)⟩ finZeroElim))
    have e1 : 1024 * (ch e (rcv ⟨col / 4096, by omega⟩ 2)).val + 512 * (r % 1024 / 512) + 256 * (r % 512 / 256) + r % 256 = r := by
      rw [he]; show 1024 * (r / 1024) + _ + _ + _ = r; omega
    have e2 : 4096 * (col / 4096) + col % 4096 = col := Nat.div_add_mod _ _
    change clip m _ e (1024 * (ch e (rcv ⟨col / 4096, by omega⟩ 2)).val + 512 * (r % 1024 / 512) + 256 * (r % 512 / 256) + r % 256) (4096 * (col / 4096) + col % 4096) ≤ u at this
    rw [e1, e2, clip_eq] at this
    exact this
  · intro h e
    refine (amax_le m e u).mpr ⟨(Yn_nonneg m 0 0).trans (h 0 (by decide) 0 (by decide)), fun k t d i => ?_⟩
    have h0 : (i 0).val < 256 := (i 0).isLt
    have h1 : (i 1).val < 4096 := (i 1).isLt
    have hj := (ch e (rcv d 2)).isLt
    have hk := k.isLt
    have ht := t.isLt
    have hd := d.isLt
    show clip m d e _ _ ≤ u
    rw [clip_eq]
    exact h _ (by omega) _ (by omega)

/-! ### The result -/

/-- The factor that quantises. -/
theorem invC_eq (c : Dev nD) : (invC m c : EReal) = Ideal.div ((127 : ℝ) : EReal) (big m c) := by
  unfold invC k0_pay79 big
  dsimp only
  rw [Ideal.scalar_divf_def]
  exact congrArg (Ideal.div · _) bits_127

/-- The scale. -/
theorem sclC_eq (c : Dev nD) : (sclC m c : EReal) = Ideal.div (big m c) ((127 : ℝ) : EReal) := by
  unfold sclC k0_pay80 big
  dsimp only
  rw [Ideal.scalar_divf_def]
  exact congrArg (Ideal.div _) bits_127

/-- The rounded and clipped quotient. -/
theorem q81_eq (inv : Ideal .f32) (y : Ideal .bf16) : (q81 inv y : EReal) = clip8 ((y : EReal) * (inv : EReal)) := by
  unfold clip8
  rw [← bits_127, ← bits_neg127]; rfl

/-- Where the device quantised the element itself. -/
theorem o83_eq (inv scale : Ideal .f32) (y : Ideal .bf16) : (o83 inv scale y : EReal) = clip8 ((y : EReal) * (inv : EReal)) * (scale : EReal) := by
  rw [← q81_eq]; rfl

/-- Where the integer was gathered. -/
theorem o111_eq (inv scale : Ideal .f32) (y : Ideal .bf16) : (o111 scale (qi inv y) : EReal) = clip8 ((y : EReal) * (inv : EReal)) * (scale : EReal) := by
  rw [← int8_clip8, ← q81_eq]; rfl

/-- All devices arrive at the same largest element. -/
theorem big_eq (c e : Dev nD) : big m c = big m e :=
  eq_of_forall_ge_iff fun u => (big_le_iff m c u).trans (big_le_iff m e u).symm

/-- The result at every element, on every device: the element quantised with the one factor and scale. -/
theorem OUT_eq (c : Dev nD) (r col : ℕ) :
    OUT m c r col = clip8 (Yn m r col * Ideal.div ((127 : ℝ) : EReal) (big m 0)) * Ideal.div (big m 0) ((127 : ℝ) : EReal) := by
  have hf (d e) : (fin16 m d e r col : EReal) = Yn m r col := clip_eq m d e r col
  have hd (d) : (OUTd m d c r col : EReal) = clip8 (Yn m r col * Ideal.div ((127 : ℝ) : EReal) (big m 0)) * Ideal.div (big m 0) ((127 : ℝ) : EReal) := by
    unfold OUTd
    split
    · rw [o83_eq, invC_eq, sclC_eq, hf, big_eq m c 0]
    · unfold qn
      rw [o111_eq, invC_eq, sclC_eq, hf, big_eq m c 0, big_eq m (owner d r) 0]
  unfold OUT
  split
  · exact hd 0
  · exact hd 1

end Cert.KernelIdeal.Gen

end
-- ==== Proof.Value.lean ====
/-
  The kernel's result is the reference's.

  A device's partial product is the sum over its own 1024 columns of `x` and rows of `w`; the four together are the whole
  product. The reference's largest element is then the kernel's, and the two quotients agree.
-/
module

public import proofs.«01_k».proof.Proof.Sums
public import proofs.«01_k».proof.Proof.Gen.ReferenceIdeal
public import Idealize.ShloMosaic.Lib.MatmulPlain
public import Idealize.ShloMosaic.Lib.IdealHost
public import Idealize.ShloMosaic.Lib.Layout

@[expose] public section

set_option synthInstance.maxSize 4096

noncomputable section

namespace Cert.Value

open Idealize.ShloMosaic Idealize.ShloMosaic.TcCoe Idealize.ShloMosaic.ValueIdx Cert.Quant Cert.KernelIdeal.Gen
open scoped BigOperators

attribute [local instance] Cert.ReferenceIdeal.Gen.facts

variable (m : (ℓ : Loc Cert.KernelIdeal.nD Cert.KernelIdeal.τ Cert.KernelIdeal.sig) → Buf (Elt Ideal) ℓ) (x : FVec Ideal ⟨2, ![4096, 4096]⟩ .f32)
  (w : FVec Ideal ⟨2, ![4096, 8192]⟩ .f32)

/-- One term of an element of the product. -/
def term (r : Fin 4096) (col : Fin 8192) (k : Fin 4096) : EReal := x (ix2 r k) * w (ix2 k col)

/-- The column of `x`, and row of `w`, that is the `k`-th of device `c`. -/
def kth (c : Fin 4) (k : Fin 1024) : Fin 4096 := ⟨c.val * 1024 + k.val, by omega⟩

/-- A sum over all the columns is the sum over the devices of the sums over their own. -/
theorem sum_cut (f : Fin 4096 → EReal) : ∑ c : Fin 4, ∑ k : Fin 1024, f (kth c k) = ∑ k, f k := by
  rw [← Fintype.sum_prod_type' (f := fun c k => f (kth c k))]
  exact Fintype.sum_equiv (finProdFinEquiv (m := 4) (n := 1024)) _ f fun p => congrArg f (Fin.ext (by
    show p.1.val * 1024 + p.2.val = p.2.val + 1024 * p.1.val; omega))

/-- Each device's arguments are its blocks of `x` and `w`. -/
def Cut : Prop := ∀ c : Dev Cert.KernelIdeal.nD, xC m c = Layout.block ⟨2, ![4096, 1024]⟩ ⟨2, ![4096, 4096]⟩ 1 4 c x
  ∧ wC m c = Layout.block ⟨2, ![1024, 8192]⟩ ⟨2, ![4096, 8192]⟩ 0 4 c w

/-- A partial product of a block: the sum of the products. -/
theorem pay1_eq (a b : FVec Ideal ⟨2, ![1024, 1024]⟩ .f32) (r c : Fin 1024) :
    (k0_pay1 (F := Ideal) a b (ix2 r c) : EReal) = ∑ k : Fin 1024, a (ix2 r k) * b (ix2 k c) := by
  unfold k0_pay1
  rw [shapeCast_same]
  refine (Ideal.matmul_plain_apply none a b _ r c).trans ?_
  rw [show (constant (⟨2, ![1024, 1024]⟩ : Shape) .f32 0x00000000#32 : FVec Ideal _ .f32) (ix2 r c) = (0 : EReal) from Ideal.ofBits_zero_f32, zero_add]

/-- Device `c`'s partial product at an element. -/
theorem Pn_eq (h : Cut m x w) (c : Dev Cert.KernelIdeal.nD) (r : Fin 4096) (col : Fin 8192) :
    (Pn m c r.val col.val : EReal) = ∑ k : Fin 1024, term x w r col (kth c k) := by
  have hi : ixG r.val col.val = ix2 ⟨r.val % 1024, Nat.mod_lt _ (by decide)⟩ ⟨col.val % 1024, Nat.mod_lt _ (by decide)⟩ := by
    funext a; apply Fin.ext
    match a with
    | ⟨0, _⟩ => rfl
    | ⟨1, _⟩ => rfl
  unfold Pn Pblk
  rw [hi, pay1_eq]
  refine Finset.sum_congr rfl fun k _ => ?_
  rw [(h c).1, (h c).2]
  refine congrArg₂ (fun a b : EReal => a * b) (congrArg x ?_) (congrArg w ?_)
  · funext a; apply Fin.ext
    match a with
    | ⟨0, _⟩ => show 1024 * (r.val / 1024 % 4) + 1 * (r.val % 1024) = r.val; omega
    | ⟨1, _⟩ => show c.val * 1024 + (0 + 1 * k.val) = c.val * 1024 + k.val; omega
  · funext a; apply Fin.ext
    match a with
    | ⟨0, _⟩ => show c.val * 1024 + (0 + 1 * k.val) = c.val * 1024 + k.val; omega
    | ⟨1, _⟩ => show 1024 * (col.val / 1024 % 8) + 1 * (col.val % 1024) = col.val; omega

/-- The reference's product, clipped at zero. -/
abbrev relu : FVec Ideal Cert.ReferenceIdeal.S4096x8192 .f32 :=
  maximumf (Host.dotGeneral (F := Ideal) (φ₁ := .f32) (φ₂ := .f32) Cert.ReferenceIdeal.dot_S4096x4096_S4096x8192_S4096x8192_1_0_0_1_n_n none x w)
    (broadcastInDim Cert.ReferenceIdeal.S4096x8192 ![] Cert.ReferenceIdeal.Gen.bcast_S_S4096x8192 (constant Cert.ReferenceIdeal.S_ .f32 0x00000000#32))

/-- It is the kernel's, element by element. -/
theorem relu_eq (h : Cut m x w) (i : (⟨2, ![4096, 8192]⟩ : Shape).Idx) : (relu x w i : EReal) = Yn m (i 0).val (i 1).val := by
  obtain ⟨r, col, rfl⟩ : ∃ (r : Fin 4096) (col : Fin 8192), i = ix2 r col := ⟨i 0, i 1, by
    funext a
    match a with
    | ⟨0, _⟩ => rfl
    | ⟨1, _⟩ => rfl⟩
  have e : (Host.dotGeneral (F := Ideal) (φ₁ := .f32) (φ₂ := .f32) Cert.ReferenceIdeal.dot_S4096x4096_S4096x8192_S4096x8192_1_0_0_1_n_n none x w (ix2 r col) : EReal)
      = ∑ k, term x w r col k :=
    (Ideal.matmul_plain_apply (φ₁ := .f32) (φ₂ := .f32) none x w (fun _ => 0) r col).trans (zero_add _)
  show max (Host.dotGeneral (F := Ideal) (φ₁ := .f32) (φ₂ := .f32) Cert.ReferenceIdeal.dot_S4096x4096_S4096x8192_S4096x8192_1_0_0_1_n_n none x w (ix2 r col) : EReal)
    (Ideal.ofBits .f32 0x00000000#32) = max (∑ c : Dev Cert.KernelIdeal.nD, (Pn m c r.val col.val : EReal)) 0
  rw [e, Ideal.ofBits_zero_f32, ← sum_cut, Finset.sum_congr rfl fun c _ => Pn_eq m x w h c r col]

/-- The reference's largest element. -/
abbrev refMax : FVec Ideal Cert.ReferenceIdeal.S_ .f32 :=
  Host.reduce FloatOps.maximumf (Host.absf (relu x w)) (constant Cert.ReferenceIdeal.S_ .f32 0xFF800000#32)
    Cert.ReferenceIdeal.Gen.reducesTo_S4096x8192_S_d0_1 Cert.ReferenceIdeal.Gen.h_S_

/-- It is the kernel's. -/
theorem refMax_eq (h : Cut m x w) (j : Cert.ReferenceIdeal.S_.Idx) : (refMax x w j : EReal) = big m 0 := by
  refine eq_of_forall_ge_iff fun u => ?_
  rw [big_le_iff]
  unfold refMax
  rw [Host.reduce_eq_fold, Finset.filter_true_of_mem fun i _ => funext fun b => b.elim0]
  refine (Finset.fold_max_le (β := EReal) u).trans ?_
  have habs (i) : (Host.absf (relu x w) i : EReal) = Yn m (i 0).val (i 1).val := by
    show max (relu x w i : EReal) (-(relu x w i : EReal)) = _
    rw [relu_eq m x w h]
    have := EReal.neg_le_neg_iff.mpr (Yn_nonneg m (i 0).val (i 1).val)
    rw [neg_zero] at this
    exact max_eq_left (this.trans (Yn_nonneg m _ _))
  constructor
  · rintro ⟨-, hu⟩ r hr col hcol
    have := hu (ix2 ⟨r, hr⟩ ⟨col, hcol⟩) (Finset.mem_univ _)
    rw [habs] at this
    exact this
  · intro hu
    refine ⟨?_, fun i _ => ?_⟩
    · show Ideal.ofBits .f32 0xFF800000#32 ≤ u
      rw [bits_bot]; exact bot_le
    · rw [habs]
      exact hu _ (i 0).isLt _ (i 1).isLt

/-- The reference's result. -/
abbrev refOut : FVec Ideal Cert.ReferenceIdeal.S4096x8192 .f32 :=
  mulf (minimumf (broadcastInDim Cert.ReferenceIdeal.S4096x8192 ![] Cert.ReferenceIdeal.Gen.bcast_S_S4096x8192 (id (constant Cert.ReferenceIdeal.S_ .f32 0x42FE0000#32)))
    (maximumf (broadcastInDim Cert.ReferenceIdeal.S4096x8192 ![] Cert.ReferenceIdeal.Gen.bcast_S_S4096x8192 (id (constant Cert.ReferenceIdeal.S_ .f32 0xC2FE0000#32)))
      (Host.roundeven (Host.divf (relu x w) (broadcastInDim Cert.ReferenceIdeal.S4096x8192 ![] Cert.ReferenceIdeal.Gen.bcast_S_S4096x8192
        (Host.divf (refMax x w) (constant Cert.ReferenceIdeal.S_ .f32 0x42FE0000#32)))))))
    (broadcastInDim Cert.ReferenceIdeal.S4096x8192 ![] Cert.ReferenceIdeal.Gen.bcast_S_S4096x8192
      (Host.divf (refMax x w) (constant Cert.ReferenceIdeal.S_ .f32 0x42FE0000#32)))

/-- The kernel's result on every device is the reference's. -/
theorem out_eq (h : Cut m x w) (c : Dev Cert.KernelIdeal.nD) : (bf2 (OUT m c) : (⟨2, ![4096, 8192]⟩ : Shape).Idx → EReal) = refOut x w := by
  funext i
  have h0 : (i 0).val < 4096 := (i 0).isLt
  have h1 : (i 1).val < 8192 := (i 1).isLt
  refine (OUT_eq m c (i 0).val (i 1).val).trans ?_
  rw [quotient_eq _ _ (Yn_nonneg m _ _) ((big_le_iff m 0 _).mp le_rfl _ h0 _ h1)]
  show _ = min (Ideal.ofBits .f32 0x42FE0000#32) (max (Ideal.ofBits .f32 0xC2FE0000#32) (Ideal.liftRound Ideal.roundHalfEven
      (Ideal.div (relu x w i) (Ideal.div (refMax x w _) (Ideal.ofBits .f32 0x42FE0000#32)))))
    * Ideal.div (refMax x w _) (Ideal.ofBits .f32 0x42FE0000#32)
  rw [refMax_eq m x w h, relu_eq m x w h, bits_127, bits_neg127]
  rfl

end Cert.Value

end
-- ==== Proof.lean ====
/-
  The claims: the three frames, that idealizing preserves the kernel, and that the kernel's result is the
  reference's.
-/
module

public import proofs.«01_k».proof.Defs
public import proofs.«01_k».proof.Proof.Run
public import proofs.«01_k».proof.Proof.Value
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The idealized kernel runs, its arguments as they were. -/
theorem frame_ideal : Cert.quiescent_KernelIdeal := fun m g _ =>
  (θ_run Cert.KernelIdeal.defs _ _).mono (fun _ h => ⟨fun c => ⟨(h.1 c).2.1, (h.1 c).2.2.1⟩, h.2⟩) (Cert.KernelIdeal.Gen.run_main (F := Ideal) m g)

/-- The kernel runs, its arguments as they were: the text is the same, over bits. -/
theorem frame_kernel : Cert.quiescent_Kernel := fun m g _ =>
  (θ_run Cert.KernelIdeal.defs _ _).mono (fun _ h => ⟨fun c => ⟨(h.1 c).2.1, (h.1 c).2.2.1⟩, h.2⟩) (Cert.KernelIdeal.Gen.run_main (F := Bits) m g)

/-- The reference runs, its arguments as they were: it has no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result on every device is the reference's. -/
theorem algebraic : Cert.algebraic_KernelIdeal_ReferenceIdeal := fun m g m' g' _ hin =>
  ⟨Cert.Value.refOut _ _,
    (θ_run Cert.KernelIdeal.defs _ _).mono
      (fun _ h c => ⟨(h.1 c).2.2.2.trans (Cert.Value.out_eq m _ _ hin c), (h.1 c).2.1, (h.1 c).2.2.1⟩)
      (Cert.KernelIdeal.Gen.run_main (F := Ideal) m g),
    (θ_run Cert.ReferenceIdeal.defs _ _).mono (fun _ h => h 0) (Cert.ReferenceIdeal.Value.run (F := Ideal) m' g')⟩

/-- Everything claimed. -/
theorem claim : Cert.Claim := ⟨Cert.Kernel.Gen.facts, Cert.KernelIdeal.Gen.facts, Cert.ReferenceIdeal.Gen.facts,
  frame_kernel, frame_ideal, frame_ref, trivial, algebraic⟩

end Cert.Proof

end
